-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S4x2x256x512 : Shape := ⟨4, ![4, 2, 256, 512]⟩
abbrev S4x2 : Shape := ⟨2, ![4, 2]⟩
abbrev S2 : Shape := ⟨1, ![2]⟩
abbrev S256x256 : Shape := ⟨2, ![256, 256]⟩
abbrev S256x1024 : Shape := ⟨2, ![256, 1024]⟩
abbrev S256x512 : Shape := ⟨2, ![256, 512]⟩
abbrev S1x1x256x512 : Shape := ⟨4, ![1, 1, 256, 512]⟩
abbrev S_ : Shape := ⟨0, ![]⟩
abbrev S1x1 : Shape := ⟨2, ![1, 1]⟩
abbrev S1 : Shape := ⟨1, ![1]⟩
abbrev S1x2x256x512 : Shape := ⟨4, ![1, 2, 256, 512]⟩
abbrev S2x256x512 : Shape := ⟨3, ![2, 256, 512]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S4x2x256x512, .f32⟩
  | .local _ .vmem, ⟨4, _⟩ => ⟨S4x2x256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 5 35 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v26 : BitVec 32 := Scalar.muli v2 c256_i32
  let v27 : Index := Scalar.indexCast v26
  let c0 : Index := 0#32
  ![v27.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_16 : BitVec 32 := 256#32
  let v33 : BitVec 32 := Scalar.muli v2 c256_i32_16
  let v34 : Index := Scalar.indexCast v33
  let c0_17 : Index := 0#32
  ![v34.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_22 : BitVec 32 := 256#32
  let v43 : BitVec 32 := Scalar.muli v2 c256_i32_22
  let v44 : Index := Scalar.indexCast v43
  let c1024_23 : Index := 1024#32
  ![v44.toNat, 1024]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c256_i32_24 : BitVec 32 := 256#32
  let v46 : BitVec 32 := Scalar.muli v25 c256_i32_24
  let v47 : Index := Scalar.indexCast v46
  let c0_25 : Index := 0#32
  ![v47.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c256_i32_29 : BitVec 32 := 256#32
  let v53 : BitVec 32 := Scalar.muli v25 c256_i32_29
  let v54 : Index := Scalar.indexCast v53
  let c0_30 : Index := 0#32
  ![v54.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_31 : BitVec 32 := 256#32
  let v56 : BitVec 32 := Scalar.muli v13 c256_i32_31
  let v57 : Index := Scalar.indexCast v56
  let c0_32 : Index := 0#32
  ![v57.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_36 : BitVec 32 := 256#32
  let v63 : BitVec 32 := Scalar.muli v13 c256_i32_36
  let v64 : Index := Scalar.indexCast v63
  let c1024_37 : Index := 1024#32
  ![v64.toNat, 1024]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_38 : BitVec 32 := 256#32
  let v66 : BitVec 32 := Scalar.muli v2 c256_i32_38
  let v67 : Index := Scalar.indexCast v66
  let c0_39 : Index := 0#32
  ![v67.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_44 : BitVec 32 := 256#32
  let v73 : BitVec 32 := Scalar.muli v2 c256_i32_44
  let v74 : Index := Scalar.indexCast v73
  let c1024_45 : Index := 1024#32
  ![v74.toNat, 1024]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_50 : BitVec 32 := 256#32
  let v80 : BitVec 32 := Scalar.muli v2 c256_i32_50
  let v81 : Index := Scalar.indexCast v80
  let c512 : Index := 512#32
  ![v81.toNat, 512]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_54 : BitVec 32 := 256#32
  let v87 : BitVec 32 := Scalar.muli v2 c256_i32_54
  let v88 : Index := Scalar.indexCast v87
  let c1536 : Index := 1536#32
  ![v88.toNat, 1536]
def k0_dev1 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_60 : BitVec 32 := 1#32
  let v95 : BitVec 32 := Scalar.muli v25 c1_i32_60
  let v96 : BitVec 32 := Scalar.addi c0_i32_61 v95
  v96.toNat
def k0_dev2 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v97 : BitVec 32 := Scalar.muli v13 c1_i32_63
  let v98 : BitVec 32 := Scalar.addi c0_i32_64 v97
  v98.toNat
def k0_off12 (c0_i32_65 : BitVec 32) : Fin 2 → Nat :=
  let c4_i32 : BitVec 32 := 4#32
  let c0_i32_66 : BitVec 32 := 0#32
  let v99 : BitVec 1 := Scalar.cmpi .eq c4_i32 c0_i32_66
  let c1_i32_67 : BitVec 32 := 1#32
  let v100 : BitVec 32 := Scalar.select v99 c1_i32_67 c4_i32
  let v101 : BitVec 32 := Scalar.remsi c0_i32_65 v100
  let c0_i32_69 : BitVec 32 := 0#32
  let v103 : BitVec 1 := Scalar.cmpi .slt v101 c0_i32_69
  let c0_i32_70 : BitVec 32 := 0#32
  let v104 : BitVec 1 := Scalar.cmpi .slt v100 c0_i32_70
  let v105 : BitVec 1 := Scalar.xori v103 v104
  let c0_i32_68 : BitVec 32 := 0#32
  let v102 : BitVec 1 := Scalar.cmpi .ne v101 c0_i32_68
  let v106 : BitVec 1 := Scalar.andi v105 v102
  let v107 : BitVec 32 := Scalar.addi v101 v100
  let v108 : BitVec 32 := Scalar.select v106 v107 v101
  let c0_i32_81 : BitVec 32 := 0#32
  ![v108.toNat, 0]
def k0_off13 (c1_i32_71 : BitVec 32) : Fin 4 → Nat :=
  let c4_i32_72 : BitVec 32 := 4#32
  let c0_i32_73 : BitVec 32 := 0#32
  let v109 : BitVec 1 := Scalar.cmpi .eq c4_i32_72 c0_i32_73
  let c1_i32_74 : BitVec 32 := 1#32
  let v110 : BitVec 32 := Scalar.select v109 c1_i32_74 c4_i32_72
  let v111 : BitVec 32 := Scalar.remsi c1_i32_71 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c0_i32_79 : BitVec 32 := 0#32
  let c0_i32_84 : BitVec 32 := 0#32
  let c0_i32_85 : BitVec 32 := 0#32
  ![v118.toNat, 0, 0, 0]
def k0_off13_at (r : Fin 4) : BitVec 32 :=
  if r.val < 2 then
    if r.val < 1 then
      1#32
    else
      0#32
  else
    if r.val < 3 then
      29#32
    else
      30#32
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_82 : BitVec 32 := 1#32
  let v119 : BitVec 32 := Scalar.muli v13 c1_i32_82
  let v120 : BitVec 32 := Scalar.addi c0_i32_83 v119
  v120.toNat
def k0_off14 (c0_i32_88 : BitVec 32) : Fin 2 → Nat :=
  let c4_i32_89 : BitVec 32 := 4#32
  let c0_i32_90 : BitVec 32 := 0#32
  let v129 : BitVec 1 := Scalar.cmpi .eq c4_i32_89 c0_i32_90
  let c1_i32_91 : BitVec 32 := 1#32
  let v130 : BitVec 32 := Scalar.select v129 c1_i32_91 c4_i32_89
  let v131 : BitVec 32 := Scalar.remsi c0_i32_88 v130
  let c0_i32_93 : BitVec 32 := 0#32
  let v133 : BitVec 1 := Scalar.cmpi .slt v131 c0_i32_93
  let c0_i32_94 : BitVec 32 := 0#32
  let v134 : BitVec 1 := Scalar.cmpi .slt v130 c0_i32_94
  let v135 : BitVec 1 := Scalar.xori v133 v134
  let c0_i32_92 : BitVec 32 := 0#32
  let v132 : BitVec 1 := Scalar.cmpi .ne v131 c0_i32_92
  let v136 : BitVec 1 := Scalar.andi v135 v132
  let v137 : BitVec 32 := Scalar.addi v131 v130
  let v138 : BitVec 32 := Scalar.select v136 v137 v131
  let c1_i32_105 : BitVec 32 := 1#32
  ![v138.toNat, 1]
def k0_off15 (c1_i32_95 : BitVec 32) : Fin 4 → Nat :=
  let c4_i32_96 : BitVec 32 := 4#32
  let c0_i32_97 : BitVec 32 := 0#32
  let v139 : BitVec 1 := Scalar.cmpi .eq c4_i32_96 c0_i32_97
  let c1_i32_98 : BitVec 32 := 1#32
  let v140 : BitVec 32 := Scalar.select v139 c1_i32_98 c4_i32_96
  let v141 : BitVec 32 := Scalar.remsi c1_i32_95 v140
  let c0_i32_100 : BitVec 32 := 0#32
  let v143 : BitVec 1 := Scalar.cmpi .slt v141 c0_i32_100
  let c0_i32_101 : BitVec 32 := 0#32
  let v144 : BitVec 1 := Scalar.cmpi .slt v140 c0_i32_101
  let v145 : BitVec 1 := Scalar.xori v143 v144
  let c0_i32_99 : BitVec 32 := 0#32
  let v142 : BitVec 1 := Scalar.cmpi .ne v141 c0_i32_99
  let v146 : BitVec 1 := Scalar.andi v145 v142
  let v147 : BitVec 32 := Scalar.addi v141 v140
  let v148 : BitVec 32 := Scalar.select v146 v147 v141
  let c1_i32_103 : BitVec 32 := 1#32
  let c0_i32_108 : BitVec 32 := 0#32
  let c0_i32_109 : BitVec 32 := 0#32
  ![v148.toNat, 1, 0, 0]
def k0_off15_at (r : Fin 4) : BitVec 32 :=
  if r.val < 2 then
    if r.val < 1 then
      1#32
    else
      0#32
  else
    if r.val < 3 then
      29#32
    else
      30#32
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_106 : BitVec 32 := 1#32
  let v149 : BitVec 32 := Scalar.muli v13 c1_i32_106
  let v150 : BitVec 32 := Scalar.addi c0_i32_107 v149
  v150.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_130 : BitVec 32 := 1#32
  let v179 : BitVec 32 := Scalar.muli v25 c1_i32_130
  let v180 : BitVec 32 := Scalar.addi c0_i32_131 v179
  v180.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_154 : BitVec 32 := 1#32
  let v209 : BitVec 32 := Scalar.muli v25 c1_i32_154
  let v210 : BitVec 32 := Scalar.addi c0_i32_155 v209
  v210.toNat
@[reducible] def k0_t1_loop : Scf.Loop 32 :=
  let c0_i32_161 : BitVec 32 := 0#32
  let c30_i32 : BitVec 32 := 30#32
  let v219 : BitVec 32 := Scalar.addi c0_i32_161 c30_i32
  let c1_i32_162 : BitVec 32 := 1#32
  ⟨c0_i32_161, v219, c1_i32_162⟩
def k0_cond1 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c1_i32_315 : BitVec 32 := 1#32
  let v481 : BitVec 1 := Scalar.cmpi .sge arg11 c1_i32_315
  let v482 : BitVec 32 := Scalar.extui v481
  let c0_i32_316 : BitVec 32 := 0#32
  let v483 : BitVec 1 := Scalar.cmpi .ne v482 c0_i32_316
  v483

def k0_off16 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_472 : BitVec 32 := 1#32
  let v712 : BitVec 32 := Scalar.subi arg11 c1_i32_472
  let c4_i32_473 : BitVec 32 := 4#32
  let c0_i32_474 : BitVec 32 := 0#32
  let v713 : BitVec 1 := Scalar.cmpi .eq c4_i32_473 c0_i32_474
  let c1_i32_475 : BitVec 32 := 1#32
  let v714 : BitVec 32 := Scalar.select v713 c1_i32_475 c4_i32_473
  let v715 : BitVec 32 := Scalar.remsi v712 v714
  let c0_i32_477 : BitVec 32 := 0#32
  let v717 : BitVec 1 := Scalar.cmpi .slt v715 c0_i32_477
  let c0_i32_478 : BitVec 32 := 0#32
  let v718 : BitVec 1 := Scalar.cmpi .slt v714 c0_i32_478
  let v719 : BitVec 1 := Scalar.xori v717 v718
  let c0_i32_476 : BitVec 32 := 0#32
  let v716 : BitVec 1 := Scalar.cmpi .ne v715 c0_i32_476
  let v720 : BitVec 1 := Scalar.andi v719 v716
  let v721 : BitVec 32 := Scalar.addi v715 v714
  let v722 : BitVec 32 := Scalar.select v720 v721 v715
  let c0_i32_488 : BitVec 32 := 0#32
  ![v722.toNat, 0]
def k0_off17 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_472 : BitVec 32 := 1#32
  let v712 : BitVec 32 := Scalar.subi arg11 c1_i32_472
  let c4_i32_473 : BitVec 32 := 4#32
  let c0_i32_474 : BitVec 32 := 0#32
  let v713 : BitVec 1 := Scalar.cmpi .eq c4_i32_473 c0_i32_474
  let c1_i32_475 : BitVec 32 := 1#32
  let v714 : BitVec 32 := Scalar.select v713 c1_i32_475 c4_i32_473
  let v715 : BitVec 32 := Scalar.remsi v712 v714
  let c0_i32_477 : BitVec 32 := 0#32
  let v717 : BitVec 1 := Scalar.cmpi .slt v715 c0_i32_477
  let c0_i32_478 : BitVec 32 := 0#32
  let v718 : BitVec 1 := Scalar.cmpi .slt v714 c0_i32_478
  let v719 : BitVec 1 := Scalar.xori v717 v718
  let c0_i32_476 : BitVec 32 := 0#32
  let v716 : BitVec 1 := Scalar.cmpi .ne v715 c0_i32_476
  let v720 : BitVec 1 := Scalar.andi v719 v716
  let v721 : BitVec 32 := Scalar.addi v715 v714
  let v722 : BitVec 32 := Scalar.select v720 v721 v715
  let c0_i32_487 : BitVec 32 := 0#32
  let c0_i32_491 : BitVec 32 := 0#32
  let c0_i32_492 : BitVec 32 := 0#32
  ![v722.toNat, 0, 0, 0]
def k0_off18 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_472 : BitVec 32 := 1#32
  let v712 : BitVec 32 := Scalar.subi arg11 c1_i32_472
  let c1_i32_479 : BitVec 32 := 1#32
  let v723 : BitVec 32 := Scalar.addi v712 c1_i32_479
  let c4_i32_480 : BitVec 32 := 4#32
  let c0_i32_481 : BitVec 32 := 0#32
  let v724 : BitVec 1 := Scalar.cmpi .eq c4_i32_480 c0_i32_481
  let c1_i32_482 : BitVec 32 := 1#32
  let v725 : BitVec 32 := Scalar.select v724 c1_i32_482 c4_i32_480
  let v726 : BitVec 32 := Scalar.remsi v723 v725
  let c0_i32_484 : BitVec 32 := 0#32
  let v728 : BitVec 1 := Scalar.cmpi .slt v726 c0_i32_484
  let c0_i32_485 : BitVec 32 := 0#32
  let v729 : BitVec 1 := Scalar.cmpi .slt v725 c0_i32_485
  let v730 : BitVec 1 := Scalar.xori v728 v729
  let c0_i32_483 : BitVec 32 := 0#32
  let v727 : BitVec 1 := Scalar.cmpi .ne v726 c0_i32_483
  let v731 : BitVec 1 := Scalar.andi v730 v727
  let v732 : BitVec 32 := Scalar.addi v726 v725
  let v733 : BitVec 32 := Scalar.select v731 v732 v726
  let c0_i32_486 : BitVec 32 := 0#32
  let c0_i32_493 : BitVec 32 := 0#32
  let c0_i32_494 : BitVec 32 := 0#32
  ![v733.toNat, 0, 0, 0]
def k0_off19 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_495 : BitVec 32 := 1#32
  let v740 : BitVec 32 := Scalar.subi arg11 c1_i32_495
  let c4_i32_496 : BitVec 32 := 4#32
  let c0_i32_497 : BitVec 32 := 0#32
  let v741 : BitVec 1 := Scalar.cmpi .eq c4_i32_496 c0_i32_497
  let c1_i32_498 : BitVec 32 := 1#32
  let v742 : BitVec 32 := Scalar.select v741 c1_i32_498 c4_i32_496
  let v743 : BitVec 32 := Scalar.remsi v740 v742
  let c0_i32_500 : BitVec 32 := 0#32
  let v745 : BitVec 1 := Scalar.cmpi .slt v743 c0_i32_500
  let c0_i32_501 : BitVec 32 := 0#32
  let v746 : BitVec 1 := Scalar.cmpi .slt v742 c0_i32_501
  let v747 : BitVec 1 := Scalar.xori v745 v746
  let c0_i32_499 : BitVec 32 := 0#32
  let v744 : BitVec 1 := Scalar.cmpi .ne v743 c0_i32_499
  let v748 : BitVec 1 := Scalar.andi v747 v744
  let v749 : BitVec 32 := Scalar.addi v743 v742
  let v750 : BitVec 32 := Scalar.select v748 v749 v743
  let c1_i32_511 : BitVec 32 := 1#32
  ![v750.toNat, 1]
def k0_off20 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_495 : BitVec 32 := 1#32
  let v740 : BitVec 32 := Scalar.subi arg11 c1_i32_495
  let c4_i32_496 : BitVec 32 := 4#32
  let c0_i32_497 : BitVec 32 := 0#32
  let v741 : BitVec 1 := Scalar.cmpi .eq c4_i32_496 c0_i32_497
  let c1_i32_498 : BitVec 32 := 1#32
  let v742 : BitVec 32 := Scalar.select v741 c1_i32_498 c4_i32_496
  let v743 : BitVec 32 := Scalar.remsi v740 v742
  let c0_i32_500 : BitVec 32 := 0#32
  let v745 : BitVec 1 := Scalar.cmpi .slt v743 c0_i32_500
  let c0_i32_501 : BitVec 32 := 0#32
  let v746 : BitVec 1 := Scalar.cmpi .slt v742 c0_i32_501
  let v747 : BitVec 1 := Scalar.xori v745 v746
  let c0_i32_499 : BitVec 32 := 0#32
  let v744 : BitVec 1 := Scalar.cmpi .ne v743 c0_i32_499
  let v748 : BitVec 1 := Scalar.andi v747 v744
  let v749 : BitVec 32 := Scalar.addi v743 v742
  let v750 : BitVec 32 := Scalar.select v748 v749 v743
  let c1_i32_510 : BitVec 32 := 1#32
  let c0_i32_514 : BitVec 32 := 0#32
  let c0_i32_515 : BitVec 32 := 0#32
  ![v750.toNat, 1, 0, 0]
def k0_off21 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_495 : BitVec 32 := 1#32
  let v740 : BitVec 32 := Scalar.subi arg11 c1_i32_495
  let c1_i32_502 : BitVec 32 := 1#32
  let v751 : BitVec 32 := Scalar.addi v740 c1_i32_502
  let c4_i32_503 : BitVec 32 := 4#32
  let c0_i32_504 : BitVec 32 := 0#32
  let v752 : BitVec 1 := Scalar.cmpi .eq c4_i32_503 c0_i32_504
  let c1_i32_505 : BitVec 32 := 1#32
  let v753 : BitVec 32 := Scalar.select v752 c1_i32_505 c4_i32_503
  let v754 : BitVec 32 := Scalar.remsi v751 v753
  let c0_i32_507 : BitVec 32 := 0#32
  let v756 : BitVec 1 := Scalar.cmpi .slt v754 c0_i32_507
  let c0_i32_508 : BitVec 32 := 0#32
  let v757 : BitVec 1 := Scalar.cmpi .slt v753 c0_i32_508
  let v758 : BitVec 1 := Scalar.xori v756 v757
  let c0_i32_506 : BitVec 32 := 0#32
  let v755 : BitVec 1 := Scalar.cmpi .ne v754 c0_i32_506
  let v759 : BitVec 1 := Scalar.andi v758 v755
  let v760 : BitVec 32 := Scalar.addi v754 v753
  let v761 : BitVec 32 := Scalar.select v759 v760 v754
  let c1_i32_509 : BitVec 32 := 1#32
  let c0_i32_516 : BitVec 32 := 0#32
  let c0_i32_517 : BitVec 32 := 0#32
  ![v761.toNat, 1, 0, 0]
def k0_cond2 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c1_i32_317 : BitVec 32 := 1#32
  let v484 : BitVec 1 := Scalar.cmpi .sge arg11 c1_i32_317
  let c27_i32 : BitVec 32 := 27#32
  let v485 : BitVec 1 := Scalar.cmpi .sle arg11 c27_i32
  let v486 : BitVec 1 := Scalar.andi v484 v485
  let v487 : BitVec 32 := Scalar.extui v486
  let c0_i32_318 : BitVec 32 := 0#32
  let v488 : BitVec 1 := Scalar.cmpi .ne v487 c0_i32_318
  v488

def k0_dev7 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_474 : BitVec 32 := 1#32
  let v714 : BitVec 32 := Scalar.muli v25 c1_i32_474
  let v715 : BitVec 32 := Scalar.addi c0_i32_475 v714
  v715.toNat
def k0_dev8 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_478 : BitVec 32 := 1#32
  let v718 : BitVec 32 := Scalar.muli v13 c1_i32_478
  let v719 : BitVec 32 := Scalar.addi c0_i32_479 v718
  v719.toNat
def k0_dev9 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_482 : BitVec 32 := 1#32
  let v722 : BitVec 32 := Scalar.muli v25 c1_i32_482
  let v723 : BitVec 32 := Scalar.addi c0_i32_483 v722
  v723.toNat
def k0_dev10 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_486 : BitVec 32 := 1#32
  let v726 : BitVec 32 := Scalar.muli v13 c1_i32_486
  let v727 : BitVec 32 := Scalar.addi c0_i32_487 v726
  v727.toNat
def k0_off22 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c4_i32_333 : BitVec 32 := 4#32
  let c0_i32_334 : BitVec 32 := 0#32
  let v514 : BitVec 1 := Scalar.cmpi .eq c4_i32_333 c0_i32_334
  let c1_i32_335 : BitVec 32 := 1#32
  let v515 : BitVec 32 := Scalar.select v514 c1_i32_335 c4_i32_333
  let v516 : BitVec 32 := Scalar.remsi arg11 v515
  let c0_i32_337 : BitVec 32 := 0#32
  let v518 : BitVec 1 := Scalar.cmpi .slt v516 c0_i32_337
  let c0_i32_338 : BitVec 32 := 0#32
  let v519 : BitVec 1 := Scalar.cmpi .slt v515 c0_i32_338
  let v520 : BitVec 1 := Scalar.xori v518 v519
  let c0_i32_336 : BitVec 32 := 0#32
  let v517 : BitVec 1 := Scalar.cmpi .ne v516 c0_i32_336
  let v521 : BitVec 1 := Scalar.andi v520 v517
  let v522 : BitVec 32 := Scalar.addi v516 v515
  let v523 : BitVec 32 := Scalar.select v521 v522 v516
  let c0_i32_348 : BitVec 32 := 0#32
  ![v523.toNat, 0]
def k0_off23 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_339 : BitVec 32 := 1#32
  let v524 : BitVec 32 := Scalar.addi arg11 c1_i32_339
  let c4_i32_340 : BitVec 32 := 4#32
  let c0_i32_341 : BitVec 32 := 0#32
  let v525 : BitVec 1 := Scalar.cmpi .eq c4_i32_340 c0_i32_341
  let c1_i32_342 : BitVec 32 := 1#32
  let v526 : BitVec 32 := Scalar.select v525 c1_i32_342 c4_i32_340
  let v527 : BitVec 32 := Scalar.remsi v524 v526
  let c0_i32_344 : BitVec 32 := 0#32
  let v529 : BitVec 1 := Scalar.cmpi .slt v527 c0_i32_344
  let c0_i32_345 : BitVec 32 := 0#32
  let v530 : BitVec 1 := Scalar.cmpi .slt v526 c0_i32_345
  let v531 : BitVec 1 := Scalar.xori v529 v530
  let c0_i32_343 : BitVec 32 := 0#32
  let v528 : BitVec 1 := Scalar.cmpi .ne v527 c0_i32_343
  let v532 : BitVec 1 := Scalar.andi v531 v528
  let v533 : BitVec 32 := Scalar.addi v527 v526
  let v534 : BitVec 32 := Scalar.select v532 v533 v527
  let c0_i32_347 : BitVec 32 := 0#32
  let c0_i32_352 : BitVec 32 := 0#32
  let c0_i32_353 : BitVec 32 := 0#32
  ![v534.toNat, 0, 0, 0]
def k0_off24 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c4_i32_333 : BitVec 32 := 4#32
  let c0_i32_334 : BitVec 32 := 0#32
  let v514 : BitVec 1 := Scalar.cmpi .eq c4_i32_333 c0_i32_334
  let c1_i32_335 : BitVec 32 := 1#32
  let v515 : BitVec 32 := Scalar.select v514 c1_i32_335 c4_i32_333
  let v516 : BitVec 32 := Scalar.remsi arg11 v515
  let c0_i32_337 : BitVec 32 := 0#32
  let v518 : BitVec 1 := Scalar.cmpi .slt v516 c0_i32_337
  let c0_i32_338 : BitVec 32 := 0#32
  let v519 : BitVec 1 := Scalar.cmpi .slt v515 c0_i32_338
  let v520 : BitVec 1 := Scalar.xori v518 v519
  let c0_i32_336 : BitVec 32 := 0#32
  let v517 : BitVec 1 := Scalar.cmpi .ne v516 c0_i32_336
  let v521 : BitVec 1 := Scalar.andi v520 v517
  let v522 : BitVec 32 := Scalar.addi v516 v515
  let v523 : BitVec 32 := Scalar.select v521 v522 v516
  let c0_i32_346 : BitVec 32 := 0#32
  let c0_i32_354 : BitVec 32 := 0#32
  let c0_i32_355 : BitVec 32 := 0#32
  ![v523.toNat, 0, 0, 0]
def k0_cond3 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c14_i32 : BitVec 32 := 14#32
  let v543 : BitVec 1 := Scalar.cmpi .sle arg11 c14_i32
  let v544 : BitVec 32 := Scalar.extui v543
  let c0_i32_356 : BitVec 32 := 0#32
  let v545 : BitVec 1 := Scalar.cmpi .ne v544 c0_i32_356
  v545

def k0_off25 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v712 : Index := Scalar.indexCast v480
  let c0_472 : Index := 0#32
  let c0_473 : Index := 0#32
  let c0_474 : Index := 0#32
  ![v712.toNat, 0, 0, 0]
def k0_off26 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_319 : BitVec 32 := 1#32
  let v489 : BitVec 32 := Scalar.subi v2 c1_i32_319
  let c0_i32_161 : BitVec 32 := 0#32
  let c1_i32_162 : BitVec 32 := 1#32
  let arg11 : BitVec 32 := Scf.iv c0_i32_161 c1_i32_162 k0_t1
  let v490 : BitVec 32 := Scalar.subi v489 arg11
  let c64_i32 : BitVec 32 := 64#32
  let v491 : BitVec 32 := Scalar.addi v490 c64_i32
  let c16_i32_320 : BitVec 32 := 16#32
  let c0_i32_321 : BitVec 32 := 0#32
  let v492 : BitVec 1 := Scalar.cmpi .eq c16_i32_320 c0_i32_321
  let c1_i32_322 : BitVec 32 := 1#32
  let v493 : BitVec 32 := Scalar.select v492 c1_i32_322 c16_i32_320
  let v494 : BitVec 32 := Scalar.remsi v491 v493
  let c0_i32_324 : BitVec 32 := 0#32
  let v496 : BitVec 1 := Scalar.cmpi .slt v494 c0_i32_324
  let c0_i32_325 : BitVec 32 := 0#32
  let v497 : BitVec 1 := Scalar.cmpi .slt v493 c0_i32_325
  let v498 : BitVec 1 := Scalar.xori v496 v497
  let c0_i32_323 : BitVec 32 := 0#32
  let v495 : BitVec 1 := Scalar.cmpi .ne v494 c0_i32_323
  let v499 : BitVec 1 := Scalar.andi v498 v495
  let v500 : BitVec 32 := Scalar.addi v494 v493
  let v501 : BitVec 32 := Scalar.select v499 v500 v494
  let c256_i32_475 : BitVec 32 := 256#32
  let v715 : BitVec 32 := Scalar.muli v501 c256_i32_475
  let v716 : Index := Scalar.indexCast v715
  let c0_476 : Index := 0#32
  ![v716.toNat, 0]
def k0_cond4 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c29_i32_357 : BitVec 32 := 29#32
  let v546 : BitVec 1 := Scalar.cmpi .slt arg11 c29_i32_357
  let v547 : BitVec 32 := Scalar.extui v546
  let c0_i32_358 : BitVec 32 := 0#32
  let v548 : BitVec 1 := Scalar.cmpi .ne v547 c0_i32_358
  v548

def k0_off27 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c0_i32_491 : BitVec 32 := 0#32
  ![v726.toNat, 0]
def k0_off28 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c1_i32_481 : BitVec 32 := 1#32
  let v727 : BitVec 32 := Scalar.addi v716 c1_i32_481
  let c4_i32_482 : BitVec 32 := 4#32
  let c0_i32_483 : BitVec 32 := 0#32
  let v728 : BitVec 1 := Scalar.cmpi .eq c4_i32_482 c0_i32_483
  let c1_i32_484 : BitVec 32 := 1#32
  let v729 : BitVec 32 := Scalar.select v728 c1_i32_484 c4_i32_482
  let v730 : BitVec 32 := Scalar.remsi v727 v729
  let c0_i32_486 : BitVec 32 := 0#32
  let v732 : BitVec 1 := Scalar.cmpi .slt v730 c0_i32_486
  let c0_i32_487 : BitVec 32 := 0#32
  let v733 : BitVec 1 := Scalar.cmpi .slt v729 c0_i32_487
  let v734 : BitVec 1 := Scalar.xori v732 v733
  let c0_i32_485 : BitVec 32 := 0#32
  let v731 : BitVec 1 := Scalar.cmpi .ne v730 c0_i32_485
  let v735 : BitVec 1 := Scalar.andi v734 v731
  let v736 : BitVec 32 := Scalar.addi v730 v729
  let v737 : BitVec 32 := Scalar.select v735 v736 v730
  let c0_i32_489 : BitVec 32 := 0#32
  let c0_i32_494 : BitVec 32 := 0#32
  let c0_i32_495 : BitVec 32 := 0#32
  ![v737.toNat, 0, 0, 0]
def k0_off29 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c0_i32_488 : BitVec 32 := 0#32
  let c0_i32_496 : BitVec 32 := 0#32
  let c0_i32_497 : BitVec 32 := 0#32
  ![v726.toNat, 0, 0, 0]
def k0_dev11 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_492 : BitVec 32 := 1#32
  let v738 : BitVec 32 := Scalar.muli v13 c1_i32_492
  let v739 : BitVec 32 := Scalar.addi c0_i32_493 v738
  v739.toNat
def k0_cond6 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c14_i32_382 : BitVec 32 := 14#32
  let v578 : BitVec 1 := Scalar.cmpi .sle arg11 c14_i32_382
  let v579 : BitVec 32 := Scalar.extui v578
  let c0_i32_383 : BitVec 32 := 0#32
  let v580 : BitVec 1 := Scalar.cmpi .ne v579 c0_i32_383
  v580

def k0_off30 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v712 : Index := Scalar.indexCast v480
  let c0_472 : Index := 0#32
  let c0_473 : Index := 0#32
  let c0_474 : Index := 0#32
  ![v712.toNat, 0, 0, 0]
def k0_off31 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_326 : BitVec 32 := 1#32
  let v502 : BitVec 32 := Scalar.addi v2 c1_i32_326
  let c0_i32_161 : BitVec 32 := 0#32
  let c1_i32_162 : BitVec 32 := 1#32
  let arg11 : BitVec 32 := Scf.iv c0_i32_161 c1_i32_162 k0_t1
  let v503 : BitVec 32 := Scalar.addi v502 arg11
  let c16_i32_327 : BitVec 32 := 16#32
  let c0_i32_328 : BitVec 32 := 0#32
  let v504 : BitVec 1 := Scalar.cmpi .eq c16_i32_327 c0_i32_328
  let c1_i32_329 : BitVec 32 := 1#32
  let v505 : BitVec 32 := Scalar.select v504 c1_i32_329 c16_i32_327
  let v506 : BitVec 32 := Scalar.remsi v503 v505
  let c0_i32_331 : BitVec 32 := 0#32
  let v508 : BitVec 1 := Scalar.cmpi .slt v506 c0_i32_331
  let c0_i32_332 : BitVec 32 := 0#32
  let v509 : BitVec 1 := Scalar.cmpi .slt v505 c0_i32_332
  let v510 : BitVec 1 := Scalar.xori v508 v509
  let c0_i32_330 : BitVec 32 := 0#32
  let v507 : BitVec 1 := Scalar.cmpi .ne v506 c0_i32_330
  let v511 : BitVec 1 := Scalar.andi v510 v507
  let v512 : BitVec 32 := Scalar.addi v506 v505
  let v513 : BitVec 32 := Scalar.select v511 v512 v506
  let c256_i32_475 : BitVec 32 := 256#32
  let v715 : BitVec 32 := Scalar.muli v513 c256_i32_475
  let v716 : Index := Scalar.indexCast v715
  let c1024_476 : Index := 1024#32
  ![v716.toNat, 1024]
def k0_cond7 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c29_i32_384 : BitVec 32 := 29#32
  let v581 : BitVec 1 := Scalar.cmpi .slt arg11 c29_i32_384
  let v582 : BitVec 32 := Scalar.extui v581
  let c0_i32_385 : BitVec 32 := 0#32
  let v583 : BitVec 1 := Scalar.cmpi .ne v582 c0_i32_385
  v583

def k0_off32 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c0_i32_491 : BitVec 32 := 0#32
  ![v726.toNat, 0]
def k0_off33 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c1_i32_481 : BitVec 32 := 1#32
  let v727 : BitVec 32 := Scalar.addi v716 c1_i32_481
  let c4_i32_482 : BitVec 32 := 4#32
  let c0_i32_483 : BitVec 32 := 0#32
  let v728 : BitVec 1 := Scalar.cmpi .eq c4_i32_482 c0_i32_483
  let c1_i32_484 : BitVec 32 := 1#32
  let v729 : BitVec 32 := Scalar.select v728 c1_i32_484 c4_i32_482
  let v730 : BitVec 32 := Scalar.remsi v727 v729
  let c0_i32_486 : BitVec 32 := 0#32
  let v732 : BitVec 1 := Scalar.cmpi .slt v730 c0_i32_486
  let c0_i32_487 : BitVec 32 := 0#32
  let v733 : BitVec 1 := Scalar.cmpi .slt v729 c0_i32_487
  let v734 : BitVec 1 := Scalar.xori v732 v733
  let c0_i32_485 : BitVec 32 := 0#32
  let v731 : BitVec 1 := Scalar.cmpi .ne v730 c0_i32_485
  let v735 : BitVec 1 := Scalar.andi v734 v731
  let v736 : BitVec 32 := Scalar.addi v730 v729
  let v737 : BitVec 32 := Scalar.select v735 v736 v730
  let c0_i32_489 : BitVec 32 := 0#32
  let c0_i32_494 : BitVec 32 := 0#32
  let c0_i32_495 : BitVec 32 := 0#32
  ![v737.toNat, 0, 0, 0]
def k0_off34 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c0_i32_488 : BitVec 32 := 0#32
  let c0_i32_496 : BitVec 32 := 0#32
  let c0_i32_497 : BitVec 32 := 0#32
  ![v726.toNat, 0, 0, 0]
def k0_dev12 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_492 : BitVec 32 := 1#32
  let v738 : BitVec 32 := Scalar.muli v25 c1_i32_492
  let v739 : BitVec 32 := Scalar.addi c0_i32_493 v738
  v739.toNat
def k0_off35 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c4_i32_386 : BitVec 32 := 4#32
  let c0_i32_387 : BitVec 32 := 0#32
  let v584 : BitVec 1 := Scalar.cmpi .eq c4_i32_386 c0_i32_387
  let c1_i32_388 : BitVec 32 := 1#32
  let v585 : BitVec 32 := Scalar.select v584 c1_i32_388 c4_i32_386
  let v586 : BitVec 32 := Scalar.remsi arg11 v585
  let c0_i32_390 : BitVec 32 := 0#32
  let v588 : BitVec 1 := Scalar.cmpi .slt v586 c0_i32_390
  let c0_i32_391 : BitVec 32 := 0#32
  let v589 : BitVec 1 := Scalar.cmpi .slt v585 c0_i32_391
  let v590 : BitVec 1 := Scalar.xori v588 v589
  let c0_i32_389 : BitVec 32 := 0#32
  let v587 : BitVec 1 := Scalar.cmpi .ne v586 c0_i32_389
  let v591 : BitVec 1 := Scalar.andi v590 v587
  let v592 : BitVec 32 := Scalar.addi v586 v585
  let v593 : BitVec 32 := Scalar.select v591 v592 v586
  let c1_i32_401 : BitVec 32 := 1#32
  ![v593.toNat, 1]
def k0_off36 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_392 : BitVec 32 := 1#32
  let v594 : BitVec 32 := Scalar.addi arg11 c1_i32_392
  let c4_i32_393 : BitVec 32 := 4#32
  let c0_i32_394 : BitVec 32 := 0#32
  let v595 : BitVec 1 := Scalar.cmpi .eq c4_i32_393 c0_i32_394
  let c1_i32_395 : BitVec 32 := 1#32
  let v596 : BitVec 32 := Scalar.select v595 c1_i32_395 c4_i32_393
  let v597 : BitVec 32 := Scalar.remsi v594 v596
  let c0_i32_397 : BitVec 32 := 0#32
  let v599 : BitVec 1 := Scalar.cmpi .slt v597 c0_i32_397
  let c0_i32_398 : BitVec 32 := 0#32
  let v600 : BitVec 1 := Scalar.cmpi .slt v596 c0_i32_398
  let v601 : BitVec 1 := Scalar.xori v599 v600
  let c0_i32_396 : BitVec 32 := 0#32
  let v598 : BitVec 1 := Scalar.cmpi .ne v597 c0_i32_396
  let v602 : BitVec 1 := Scalar.andi v601 v598
  let v603 : BitVec 32 := Scalar.addi v597 v596
  let v604 : BitVec 32 := Scalar.select v602 v603 v597
  let c1_i32_400 : BitVec 32 := 1#32
  let c0_i32_405 : BitVec 32 := 0#32
  let c0_i32_406 : BitVec 32 := 0#32
  ![v604.toNat, 1, 0, 0]
def k0_off37 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c4_i32_386 : BitVec 32 := 4#32
  let c0_i32_387 : BitVec 32 := 0#32
  let v584 : BitVec 1 := Scalar.cmpi .eq c4_i32_386 c0_i32_387
  let c1_i32_388 : BitVec 32 := 1#32
  let v585 : BitVec 32 := Scalar.select v584 c1_i32_388 c4_i32_386
  let v586 : BitVec 32 := Scalar.remsi arg11 v585
  let c0_i32_390 : BitVec 32 := 0#32
  let v588 : BitVec 1 := Scalar.cmpi .slt v586 c0_i32_390
  let c0_i32_391 : BitVec 32 := 0#32
  let v589 : BitVec 1 := Scalar.cmpi .slt v585 c0_i32_391
  let v590 : BitVec 1 := Scalar.xori v588 v589
  let c0_i32_389 : BitVec 32 := 0#32
  let v587 : BitVec 1 := Scalar.cmpi .ne v586 c0_i32_389
  let v591 : BitVec 1 := Scalar.andi v590 v587
  let v592 : BitVec 32 := Scalar.addi v586 v585
  let v593 : BitVec 32 := Scalar.select v591 v592 v586
  let c1_i32_399 : BitVec 32 := 1#32
  let c0_i32_407 : BitVec 32 := 0#32
  let c0_i32_408 : BitVec 32 := 0#32
  ![v593.toNat, 1, 0, 0]
def k0_cond9 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c14_i32_409 : BitVec 32 := 14#32
  let v613 : BitVec 1 := Scalar.cmpi .sle arg11 c14_i32_409
  let v614 : BitVec 32 := Scalar.extui v613
  let c0_i32_410 : BitVec 32 := 0#32
  let v615 : BitVec 1 := Scalar.cmpi .ne v614 c0_i32_410
  v615

def k0_off38 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v712 : Index := Scalar.indexCast v480
  let c1_472 : Index := 1#32
  let c0_473 : Index := 0#32
  let c0_474 : Index := 0#32
  ![v712.toNat, 1, 0, 0]
def k0_off39 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_319 : BitVec 32 := 1#32
  let v489 : BitVec 32 := Scalar.subi v2 c1_i32_319
  let c0_i32_161 : BitVec 32 := 0#32
  let c1_i32_162 : BitVec 32 := 1#32
  let arg11 : BitVec 32 := Scf.iv c0_i32_161 c1_i32_162 k0_t1
  let v490 : BitVec 32 := Scalar.subi v489 arg11
  let c64_i32 : BitVec 32 := 64#32
  let v491 : BitVec 32 := Scalar.addi v490 c64_i32
  let c16_i32_320 : BitVec 32 := 16#32
  let c0_i32_321 : BitVec 32 := 0#32
  let v492 : BitVec 1 := Scalar.cmpi .eq c16_i32_320 c0_i32_321
  let c1_i32_322 : BitVec 32 := 1#32
  let v493 : BitVec 32 := Scalar.select v492 c1_i32_322 c16_i32_320
  let v494 : BitVec 32 := Scalar.remsi v491 v493
  let c0_i32_324 : BitVec 32 := 0#32
  let v496 : BitVec 1 := Scalar.cmpi .slt v494 c0_i32_324
  let c0_i32_325 : BitVec 32 := 0#32
  let v497 : BitVec 1 := Scalar.cmpi .slt v493 c0_i32_325
  let v498 : BitVec 1 := Scalar.xori v496 v497
  let c0_i32_323 : BitVec 32 := 0#32
  let v495 : BitVec 1 := Scalar.cmpi .ne v494 c0_i32_323
  let v499 : BitVec 1 := Scalar.andi v498 v495
  let v500 : BitVec 32 := Scalar.addi v494 v493
  let v501 : BitVec 32 := Scalar.select v499 v500 v494
  let c256_i32_475 : BitVec 32 := 256#32
  let v715 : BitVec 32 := Scalar.muli v501 c256_i32_475
  let v716 : Index := Scalar.indexCast v715
  let c512_476 : Index := 512#32
  ![v716.toNat, 512]
def k0_cond10 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c29_i32_411 : BitVec 32 := 29#32
  let v616 : BitVec 1 := Scalar.cmpi .slt arg11 c29_i32_411
  let v617 : BitVec 32 := Scalar.extui v616
  let c0_i32_412 : BitVec 32 := 0#32
  let v618 : BitVec 1 := Scalar.cmpi .ne v617 c0_i32_412
  v618

def k0_off40 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c1_i32_491 : BitVec 32 := 1#32
  ![v726.toNat, 1]
def k0_off41 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c1_i32_481 : BitVec 32 := 1#32
  let v727 : BitVec 32 := Scalar.addi v716 c1_i32_481
  let c4_i32_482 : BitVec 32 := 4#32
  let c0_i32_483 : BitVec 32 := 0#32
  let v728 : BitVec 1 := Scalar.cmpi .eq c4_i32_482 c0_i32_483
  let c1_i32_484 : BitVec 32 := 1#32
  let v729 : BitVec 32 := Scalar.select v728 c1_i32_484 c4_i32_482
  let v730 : BitVec 32 := Scalar.remsi v727 v729
  let c0_i32_486 : BitVec 32 := 0#32
  let v732 : BitVec 1 := Scalar.cmpi .slt v730 c0_i32_486
  let c0_i32_487 : BitVec 32 := 0#32
  let v733 : BitVec 1 := Scalar.cmpi .slt v729 c0_i32_487
  let v734 : BitVec 1 := Scalar.xori v732 v733
  let c0_i32_485 : BitVec 32 := 0#32
  let v731 : BitVec 1 := Scalar.cmpi .ne v730 c0_i32_485
  let v735 : BitVec 1 := Scalar.andi v734 v731
  let v736 : BitVec 32 := Scalar.addi v730 v729
  let v737 : BitVec 32 := Scalar.select v735 v736 v730
  let c1_i32_489 : BitVec 32 := 1#32
  let c0_i32_494 : BitVec 32 := 0#32
  let c0_i32_495 : BitVec 32 := 0#32
  ![v737.toNat, 1, 0, 0]
def k0_off42 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c1_i32_488 : BitVec 32 := 1#32
  let c0_i32_496 : BitVec 32 := 0#32
  let c0_i32_497 : BitVec 32 := 0#32
  ![v726.toNat, 1, 0, 0]
def k0_dev13 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_492 : BitVec 32 := 1#32
  let v738 : BitVec 32 := Scalar.muli v13 c1_i32_492
  let v739 : BitVec 32 := Scalar.addi c0_i32_493 v738
  v739.toNat
def k0_cond12 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c14_i32_436 : BitVec 32 := 14#32
  let v648 : BitVec 1 := Scalar.cmpi .sle arg11 c14_i32_436
  let v649 : BitVec 32 := Scalar.extui v648
  let c0_i32_437 : BitVec 32 := 0#32
  let v650 : BitVec 1 := Scalar.cmpi .ne v649 c0_i32_437
  v650

def k0_off43 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v712 : Index := Scalar.indexCast v480
  let c1_472 : Index := 1#32
  let c0_473 : Index := 0#32
  let c0_474 : Index := 0#32
  ![v712.toNat, 1, 0, 0]
def k0_off44 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_326 : BitVec 32 := 1#32
  let v502 : BitVec 32 := Scalar.addi v2 c1_i32_326
  let c0_i32_161 : BitVec 32 := 0#32
  let c1_i32_162 : BitVec 32 := 1#32
  let arg11 : BitVec 32 := Scf.iv c0_i32_161 c1_i32_162 k0_t1
  let v503 : BitVec 32 := Scalar.addi v502 arg11
  let c16_i32_327 : BitVec 32 := 16#32
  let c0_i32_328 : BitVec 32 := 0#32
  let v504 : BitVec 1 := Scalar.cmpi .eq c16_i32_327 c0_i32_328
  let c1_i32_329 : BitVec 32 := 1#32
  let v505 : BitVec 32 := Scalar.select v504 c1_i32_329 c16_i32_327
  let v506 : BitVec 32 := Scalar.remsi v503 v505
  let c0_i32_331 : BitVec 32 := 0#32
  let v508 : BitVec 1 := Scalar.cmpi .slt v506 c0_i32_331
  let c0_i32_332 : BitVec 32 := 0#32
  let v509 : BitVec 1 := Scalar.cmpi .slt v505 c0_i32_332
  let v510 : BitVec 1 := Scalar.xori v508 v509
  let c0_i32_330 : BitVec 32 := 0#32
  let v507 : BitVec 1 := Scalar.cmpi .ne v506 c0_i32_330
  let v511 : BitVec 1 := Scalar.andi v510 v507
  let v512 : BitVec 32 := Scalar.addi v506 v505
  let v513 : BitVec 32 := Scalar.select v511 v512 v506
  let c256_i32_475 : BitVec 32 := 256#32
  let v715 : BitVec 32 := Scalar.muli v513 c256_i32_475
  let v716 : Index := Scalar.indexCast v715
  let c1536_476 : Index := 1536#32
  ![v716.toNat, 1536]
def k0_cond13 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c29_i32_438 : BitVec 32 := 29#32
  let v651 : BitVec 1 := Scalar.cmpi .slt arg11 c29_i32_438
  let v652 : BitVec 32 := Scalar.extui v651
  let c0_i32_439 : BitVec 32 := 0#32
  let v653 : BitVec 1 := Scalar.cmpi .ne v652 c0_i32_439
  v653

def k0_off45 (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c1_i32_491 : BitVec 32 := 1#32
  ![v726.toNat, 1]
def k0_off46 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c1_i32_481 : BitVec 32 := 1#32
  let v727 : BitVec 32 := Scalar.addi v716 c1_i32_481
  let c4_i32_482 : BitVec 32 := 4#32
  let c0_i32_483 : BitVec 32 := 0#32
  let v728 : BitVec 1 := Scalar.cmpi .eq c4_i32_482 c0_i32_483
  let c1_i32_484 : BitVec 32 := 1#32
  let v729 : BitVec 32 := Scalar.select v728 c1_i32_484 c4_i32_482
  let v730 : BitVec 32 := Scalar.remsi v727 v729
  let c0_i32_486 : BitVec 32 := 0#32
  let v732 : BitVec 1 := Scalar.cmpi .slt v730 c0_i32_486
  let c0_i32_487 : BitVec 32 := 0#32
  let v733 : BitVec 1 := Scalar.cmpi .slt v729 c0_i32_487
  let v734 : BitVec 1 := Scalar.xori v732 v733
  let c0_i32_485 : BitVec 32 := 0#32
  let v731 : BitVec 1 := Scalar.cmpi .ne v730 c0_i32_485
  let v735 : BitVec 1 := Scalar.andi v734 v731
  let v736 : BitVec 32 := Scalar.addi v730 v729
  let v737 : BitVec 32 := Scalar.select v735 v736 v730
  let c1_i32_489 : BitVec 32 := 1#32
  let c0_i32_494 : BitVec 32 := 0#32
  let c0_i32_495 : BitVec 32 := 0#32
  ![v737.toNat, 1, 0, 0]
def k0_off47 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_474 : BitVec 32 := 1#32
  let v716 : BitVec 32 := Scalar.addi arg11 c1_i32_474
  let c4_i32_475 : BitVec 32 := 4#32
  let c0_i32_476 : BitVec 32 := 0#32
  let v717 : BitVec 1 := Scalar.cmpi .eq c4_i32_475 c0_i32_476
  let c1_i32_477 : BitVec 32 := 1#32
  let v718 : BitVec 32 := Scalar.select v717 c1_i32_477 c4_i32_475
  let v719 : BitVec 32 := Scalar.remsi v716 v718
  let c0_i32_479 : BitVec 32 := 0#32
  let v721 : BitVec 1 := Scalar.cmpi .slt v719 c0_i32_479
  let c0_i32_480 : BitVec 32 := 0#32
  let v722 : BitVec 1 := Scalar.cmpi .slt v718 c0_i32_480
  let v723 : BitVec 1 := Scalar.xori v721 v722
  let c0_i32_478 : BitVec 32 := 0#32
  let v720 : BitVec 1 := Scalar.cmpi .ne v719 c0_i32_478
  let v724 : BitVec 1 := Scalar.andi v723 v720
  let v725 : BitVec 32 := Scalar.addi v719 v718
  let v726 : BitVec 32 := Scalar.select v724 v725 v719
  let c1_i32_488 : BitVec 32 := 1#32
  let c0_i32_496 : BitVec 32 := 0#32
  let c0_i32_497 : BitVec 32 := 0#32
  ![v726.toNat, 1, 0, 0]
def k0_dev14 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_6 : BitVec 32 := 16#32
  let v14 : BitVec 32 := Scalar.addi v2 c16_i32_6
  let c1_i32_7 : BitVec 32 := 1#32
  let v15 : BitVec 32 := Scalar.subi v14 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_492 : BitVec 32 := 1#32
  let v738 : BitVec 32 := Scalar.muli v25 c1_i32_492
  let v739 : BitVec 32 := Scalar.addi c0_i32_493 v738
  v739.toNat
def k0_cond15 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c14_i32_460 : BitVec 32 := 14#32
  let v686 : BitVec 1 := Scalar.cmpi .sge arg11 c14_i32_460
  let v687 : BitVec 32 := Scalar.extui v686
  let c0_i32_461 : BitVec 32 := 0#32
  let v688 : BitVec 1 := Scalar.cmpi .ne v687 c0_i32_461
  v688

def k0_off48 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v712 : Index := Scalar.indexCast v480
  let c0_472 : Index := 0#32
  let c0_473 : Index := 0#32
  let c0_474 : Index := 0#32
  ![v712.toNat, 0, 0, 0]
def k0_off49 (d0 : Dev nD) (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c14_i32_458 : BitVec 32 := 14#32
  let v682 : BitVec 1 := Scalar.cmpi .sle arg11 c14_i32_458
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_319 : BitVec 32 := 1#32
  let v489 : BitVec 32 := Scalar.subi v2 c1_i32_319
  let v490 : BitVec 32 := Scalar.subi v489 arg11
  let c64_i32 : BitVec 32 := 64#32
  let v491 : BitVec 32 := Scalar.addi v490 c64_i32
  let c16_i32_320 : BitVec 32 := 16#32
  let c0_i32_321 : BitVec 32 := 0#32
  let v492 : BitVec 1 := Scalar.cmpi .eq c16_i32_320 c0_i32_321
  let c1_i32_322 : BitVec 32 := 1#32
  let v493 : BitVec 32 := Scalar.select v492 c1_i32_322 c16_i32_320
  let v494 : BitVec 32 := Scalar.remsi v491 v493
  let c0_i32_324 : BitVec 32 := 0#32
  let v496 : BitVec 1 := Scalar.cmpi .slt v494 c0_i32_324
  let c0_i32_325 : BitVec 32 := 0#32
  let v497 : BitVec 1 := Scalar.cmpi .slt v493 c0_i32_325
  let v498 : BitVec 1 := Scalar.xori v496 v497
  let c0_i32_323 : BitVec 32 := 0#32
  let v495 : BitVec 1 := Scalar.cmpi .ne v494 c0_i32_323
  let v499 : BitVec 1 := Scalar.andi v498 v495
  let v500 : BitVec 32 := Scalar.addi v494 v493
  let v501 : BitVec 32 := Scalar.select v499 v500 v494
  let v654 : BitVec 32 := Scalar.subi v2 arg11
  let c16_i32_440 : BitVec 32 := 16#32
  let v655 : BitVec 32 := Scalar.addi v654 c16_i32_440
  let c1_i32_441 : BitVec 32 := 1#32
  let v656 : BitVec 32 := Scalar.subi v655 c1_i32_441
  let c64_i32_442 : BitVec 32 := 64#32
  let v657 : BitVec 32 := Scalar.addi v656 c64_i32_442
  let c16_i32_443 : BitVec 32 := 16#32
  let c0_i32_444 : BitVec 32 := 0#32
  let v658 : BitVec 1 := Scalar.cmpi .eq c16_i32_443 c0_i32_444
  let c1_i32_445 : BitVec 32 := 1#32
  let v659 : BitVec 32 := Scalar.select v658 c1_i32_445 c16_i32_443
  let v660 : BitVec 32 := Scalar.remsi v657 v659
  let c0_i32_447 : BitVec 32 := 0#32
  let v662 : BitVec 1 := Scalar.cmpi .slt v660 c0_i32_447
  let c0_i32_448 : BitVec 32 := 0#32
  let v663 : BitVec 1 := Scalar.cmpi .slt v659 c0_i32_448
  let v664 : BitVec 1 := Scalar.xori v662 v663
  let c0_i32_446 : BitVec 32 := 0#32
  let v661 : BitVec 1 := Scalar.cmpi .ne v660 c0_i32_446
  let v665 : BitVec 1 := Scalar.andi v664 v661
  let v666 : BitVec 32 := Scalar.addi v660 v659
  let v667 : BitVec 32 := Scalar.select v665 v666 v660
  let v683 : BitVec 32 := Scalar.select v682 v501 v667
  let c256_i32_475 : BitVec 32 := 256#32
  let v715 : BitVec 32 := Scalar.muli v683 c256_i32_475
  let v716 : Index := Scalar.indexCast v715
  let c0_476 : Index := 0#32
  ![v716.toNat, 0]
def k0_off50 (d0 : Dev nD) (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c14_i32_459 : BitVec 32 := 14#32
  let v684 : BitVec 1 := Scalar.cmpi .sle arg11 c14_i32_459
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_326 : BitVec 32 := 1#32
  let v502 : BitVec 32 := Scalar.addi v2 c1_i32_326
  let v503 : BitVec 32 := Scalar.addi v502 arg11
  let c16_i32_327 : BitVec 32 := 16#32
  let c0_i32_328 : BitVec 32 := 0#32
  let v504 : BitVec 1 := Scalar.cmpi .eq c16_i32_327 c0_i32_328
  let c1_i32_329 : BitVec 32 := 1#32
  let v505 : BitVec 32 := Scalar.select v504 c1_i32_329 c16_i32_327
  let v506 : BitVec 32 := Scalar.remsi v503 v505
  let c0_i32_331 : BitVec 32 := 0#32
  let v508 : BitVec 1 := Scalar.cmpi .slt v506 c0_i32_331
  let c0_i32_332 : BitVec 32 := 0#32
  let v509 : BitVec 1 := Scalar.cmpi .slt v505 c0_i32_332
  let v510 : BitVec 1 := Scalar.xori v508 v509
  let c0_i32_330 : BitVec 32 := 0#32
  let v507 : BitVec 1 := Scalar.cmpi .ne v506 c0_i32_330
  let v511 : BitVec 1 := Scalar.andi v510 v507
  let v512 : BitVec 32 := Scalar.addi v506 v505
  let v513 : BitVec 32 := Scalar.select v511 v512 v506
  let v668 : BitVec 32 := Scalar.addi v2 arg11
  let c16_i32_449 : BitVec 32 := 16#32
  let v669 : BitVec 32 := Scalar.subi v668 c16_i32_449
  let c1_i32_450 : BitVec 32 := 1#32
  let v670 : BitVec 32 := Scalar.addi v669 c1_i32_450
  let c64_i32_451 : BitVec 32 := 64#32
  let v671 : BitVec 32 := Scalar.addi v670 c64_i32_451
  let c16_i32_452 : BitVec 32 := 16#32
  let c0_i32_453 : BitVec 32 := 0#32
  let v672 : BitVec 1 := Scalar.cmpi .eq c16_i32_452 c0_i32_453
  let c1_i32_454 : BitVec 32 := 1#32
  let v673 : BitVec 32 := Scalar.select v672 c1_i32_454 c16_i32_452
  let v674 : BitVec 32 := Scalar.remsi v671 v673
  let c0_i32_456 : BitVec 32 := 0#32
  let v676 : BitVec 1 := Scalar.cmpi .slt v674 c0_i32_456
  let c0_i32_457 : BitVec 32 := 0#32
  let v677 : BitVec 1 := Scalar.cmpi .slt v673 c0_i32_457
  let v678 : BitVec 1 := Scalar.xori v676 v677
  let c0_i32_455 : BitVec 32 := 0#32
  let v675 : BitVec 1 := Scalar.cmpi .ne v674 c0_i32_455
  let v679 : BitVec 1 := Scalar.andi v678 v675
  let v680 : BitVec 32 := Scalar.addi v674 v673
  let v681 : BitVec 32 := Scalar.select v679 v680 v674
  let v685 : BitVec 32 := Scalar.select v684 v513 v681
  let c256_i32_480 : BitVec 32 := 256#32
  let v721 : BitVec 32 := Scalar.muli v685 c256_i32_480
  let v722 : Index := Scalar.indexCast v721
  let c1024_481 : Index := 1024#32
  ![v722.toNat, 1024]
def k0_off51 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v724 : Index := Scalar.indexCast v480
  let c1_482 : Index := 1#32
  let c0_483 : Index := 0#32
  let c0_484 : Index := 0#32
  ![v724.toNat, 1, 0, 0]
def k0_off52 (d0 : Dev nD) (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c14_i32_458 : BitVec 32 := 14#32
  let v682 : BitVec 1 := Scalar.cmpi .sle arg11 c14_i32_458
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_319 : BitVec 32 := 1#32
  let v489 : BitVec 32 := Scalar.subi v2 c1_i32_319
  let v490 : BitVec 32 := Scalar.subi v489 arg11
  let c64_i32 : BitVec 32 := 64#32
  let v491 : BitVec 32 := Scalar.addi v490 c64_i32
  let c16_i32_320 : BitVec 32 := 16#32
  let c0_i32_321 : BitVec 32 := 0#32
  let v492 : BitVec 1 := Scalar.cmpi .eq c16_i32_320 c0_i32_321
  let c1_i32_322 : BitVec 32 := 1#32
  let v493 : BitVec 32 := Scalar.select v492 c1_i32_322 c16_i32_320
  let v494 : BitVec 32 := Scalar.remsi v491 v493
  let c0_i32_324 : BitVec 32 := 0#32
  let v496 : BitVec 1 := Scalar.cmpi .slt v494 c0_i32_324
  let c0_i32_325 : BitVec 32 := 0#32
  let v497 : BitVec 1 := Scalar.cmpi .slt v493 c0_i32_325
  let v498 : BitVec 1 := Scalar.xori v496 v497
  let c0_i32_323 : BitVec 32 := 0#32
  let v495 : BitVec 1 := Scalar.cmpi .ne v494 c0_i32_323
  let v499 : BitVec 1 := Scalar.andi v498 v495
  let v500 : BitVec 32 := Scalar.addi v494 v493
  let v501 : BitVec 32 := Scalar.select v499 v500 v494
  let v654 : BitVec 32 := Scalar.subi v2 arg11
  let c16_i32_440 : BitVec 32 := 16#32
  let v655 : BitVec 32 := Scalar.addi v654 c16_i32_440
  let c1_i32_441 : BitVec 32 := 1#32
  let v656 : BitVec 32 := Scalar.subi v655 c1_i32_441
  let c64_i32_442 : BitVec 32 := 64#32
  let v657 : BitVec 32 := Scalar.addi v656 c64_i32_442
  let c16_i32_443 : BitVec 32 := 16#32
  let c0_i32_444 : BitVec 32 := 0#32
  let v658 : BitVec 1 := Scalar.cmpi .eq c16_i32_443 c0_i32_444
  let c1_i32_445 : BitVec 32 := 1#32
  let v659 : BitVec 32 := Scalar.select v658 c1_i32_445 c16_i32_443
  let v660 : BitVec 32 := Scalar.remsi v657 v659
  let c0_i32_447 : BitVec 32 := 0#32
  let v662 : BitVec 1 := Scalar.cmpi .slt v660 c0_i32_447
  let c0_i32_448 : BitVec 32 := 0#32
  let v663 : BitVec 1 := Scalar.cmpi .slt v659 c0_i32_448
  let v664 : BitVec 1 := Scalar.xori v662 v663
  let c0_i32_446 : BitVec 32 := 0#32
  let v661 : BitVec 1 := Scalar.cmpi .ne v660 c0_i32_446
  let v665 : BitVec 1 := Scalar.andi v664 v661
  let v666 : BitVec 32 := Scalar.addi v660 v659
  let v667 : BitVec 32 := Scalar.select v665 v666 v660
  let v683 : BitVec 32 := Scalar.select v682 v501 v667
  let c256_i32_485 : BitVec 32 := 256#32
  let v727 : BitVec 32 := Scalar.muli v683 c256_i32_485
  let v728 : Index := Scalar.indexCast v727
  let c512_486 : Index := 512#32
  ![v728.toNat, 512]
def k0_off53 (d0 : Dev nD) (k0_t1 : Fin k0_t1_loop.trips) : Fin 2 → Nat :=
  let c0_i32_161 : BitVec 32 := 0#32
  let c1_i32_162 : BitVec 32 := 1#32
  let arg11 : BitVec 32 := Scf.iv c0_i32_161 c1_i32_162 k0_t1
  let c14_i32_459 : BitVec 32 := 14#32
  let v684 : BitVec 1 := Scalar.cmpi .sle arg11 c14_i32_459
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_326 : BitVec 32 := 1#32
  let v502 : BitVec 32 := Scalar.addi v2 c1_i32_326
  let v503 : BitVec 32 := Scalar.addi v502 arg11
  let c16_i32_327 : BitVec 32 := 16#32
  let c0_i32_328 : BitVec 32 := 0#32
  let v504 : BitVec 1 := Scalar.cmpi .eq c16_i32_327 c0_i32_328
  let c1_i32_329 : BitVec 32 := 1#32
  let v505 : BitVec 32 := Scalar.select v504 c1_i32_329 c16_i32_327
  let v506 : BitVec 32 := Scalar.remsi v503 v505
  let c0_i32_331 : BitVec 32 := 0#32
  let v508 : BitVec 1 := Scalar.cmpi .slt v506 c0_i32_331
  let c0_i32_332 : BitVec 32 := 0#32
  let v509 : BitVec 1 := Scalar.cmpi .slt v505 c0_i32_332
  let v510 : BitVec 1 := Scalar.xori v508 v509
  let c0_i32_330 : BitVec 32 := 0#32
  let v507 : BitVec 1 := Scalar.cmpi .ne v506 c0_i32_330
  let v511 : BitVec 1 := Scalar.andi v510 v507
  let v512 : BitVec 32 := Scalar.addi v506 v505
  let v513 : BitVec 32 := Scalar.select v511 v512 v506
  let v668 : BitVec 32 := Scalar.addi v2 arg11
  let c16_i32_449 : BitVec 32 := 16#32
  let v669 : BitVec 32 := Scalar.subi v668 c16_i32_449
  let c1_i32_450 : BitVec 32 := 1#32
  let v670 : BitVec 32 := Scalar.addi v669 c1_i32_450
  let c64_i32_451 : BitVec 32 := 64#32
  let v671 : BitVec 32 := Scalar.addi v670 c64_i32_451
  let c16_i32_452 : BitVec 32 := 16#32
  let c0_i32_453 : BitVec 32 := 0#32
  let v672 : BitVec 1 := Scalar.cmpi .eq c16_i32_452 c0_i32_453
  let c1_i32_454 : BitVec 32 := 1#32
  let v673 : BitVec 32 := Scalar.select v672 c1_i32_454 c16_i32_452
  let v674 : BitVec 32 := Scalar.remsi v671 v673
  let c0_i32_456 : BitVec 32 := 0#32
  let v676 : BitVec 1 := Scalar.cmpi .slt v674 c0_i32_456
  let c0_i32_457 : BitVec 32 := 0#32
  let v677 : BitVec 1 := Scalar.cmpi .slt v673 c0_i32_457
  let v678 : BitVec 1 := Scalar.xori v676 v677
  let c0_i32_455 : BitVec 32 := 0#32
  let v675 : BitVec 1 := Scalar.cmpi .ne v674 c0_i32_455
  let v679 : BitVec 1 := Scalar.andi v678 v675
  let v680 : BitVec 32 := Scalar.addi v674 v673
  let v681 : BitVec 32 := Scalar.select v679 v680 v674
  let v685 : BitVec 32 := Scalar.select v684 v513 v681
  let c256_i32_490 : BitVec 32 := 256#32
  let v733 : BitVec 32 := Scalar.muli v685 c256_i32_490
  let v734 : Index := Scalar.indexCast v733
  let c1536_491 : Index := 1536#32
  ![v734.toNat, 1536]
def k0_off54 (k0_t1 : Fin k0_t1_loop.trips) : Fin 4 → Nat :=
  let c0_i32_161 : BitVec 32 := 0#32
  let c1_i32_162 : BitVec 32 := 1#32
  let arg11 : BitVec 32 := Scf.iv c0_i32_161 c1_i32_162 k0_t1
  let c1_i32_308 : BitVec 32 := 1#32
  let v470 : BitVec 32 := Scalar.addi arg11 c1_i32_308
  let c4_i32_309 : BitVec 32 := 4#32
  let c0_i32_310 : BitVec 32 := 0#32
  let v471 : BitVec 1 := Scalar.cmpi .eq c4_i32_309 c0_i32_310
  let c1_i32_311 : BitVec 32 := 1#32
  let v472 : BitVec 32 := Scalar.select v471 c1_i32_311 c4_i32_309
  let v473 : BitVec 32 := Scalar.remsi v470 v472
  let c0_i32_313 : BitVec 32 := 0#32
  let v475 : BitVec 1 := Scalar.cmpi .slt v473 c0_i32_313
  let c0_i32_314 : BitVec 32 := 0#32
  let v476 : BitVec 1 := Scalar.cmpi .slt v472 c0_i32_314
  let v477 : BitVec 1 := Scalar.xori v475 v476
  let c0_i32_312 : BitVec 32 := 0#32
  let v474 : BitVec 1 := Scalar.cmpi .ne v473 c0_i32_312
  let v478 : BitVec 1 := Scalar.andi v477 v474
  let v479 : BitVec 32 := Scalar.addi v473 v472
  let v480 : BitVec 32 := Scalar.select v478 v479 v473
  let v689 : Index := Scalar.indexCast v480
  let c0_462 : Index := 0#32
  let c0_463 : Index := 0#32
  let c0_464 : Index := 0#32
  ![v689.toNat, 0, 0, 0]
def k0_cond16 (k0_t1 : Fin k0_t1_loop.trips) : BitVec 1 :=
  let c0_i32_161 : BitVec 32 := 0#32
  let c1_i32_162 : BitVec 32 := 1#32
  let arg11 : BitVec 32 := Scf.iv c0_i32_161 c1_i32_162 k0_t1
  let c13_i32 : BitVec 32 := 13#32
  let v709 : BitVec 1 := Scalar.cmpi .sle arg11 c13_i32
  let v710 : BitVec 32 := Scalar.extui v709
  let c0_i32_471 : BitVec 32 := 0#32
  let v711 : BitVec 1 := Scalar.cmpi .ne v710 c0_i32_471
  v711

def k0_off55 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_472 : BitVec 32 := 2#32
  let v712 : BitVec 32 := Scalar.subi v2 c2_i32_472
  let c0_i32_161 : BitVec 32 := 0#32
  let c1_i32_162 : BitVec 32 := 1#32
  let arg11 : BitVec 32 := Scf.iv c0_i32_161 c1_i32_162 k0_t1
  let v713 : BitVec 32 := Scalar.subi v712 arg11
  let c64_i32_473 : BitVec 32 := 64#32
  let v714 : BitVec 32 := Scalar.addi v713 c64_i32_473
  let c16_i32_474 : BitVec 32 := 16#32
  let c0_i32_475 : BitVec 32 := 0#32
  let v715 : BitVec 1 := Scalar.cmpi .eq c16_i32_474 c0_i32_475
  let c1_i32_476 : BitVec 32 := 1#32
  let v716 : BitVec 32 := Scalar.select v715 c1_i32_476 c16_i32_474
  let v717 : BitVec 32 := Scalar.remsi v714 v716
  let c0_i32_478 : BitVec 32 := 0#32
  let v719 : BitVec 1 := Scalar.cmpi .slt v717 c0_i32_478
  let c0_i32_479 : BitVec 32 := 0#32
  let v720 : BitVec 1 := Scalar.cmpi .slt v716 c0_i32_479
  let v721 : BitVec 1 := Scalar.xori v719 v720
  let c0_i32_477 : BitVec 32 := 0#32
  let v718 : BitVec 1 := Scalar.cmpi .ne v717 c0_i32_477
  let v722 : BitVec 1 := Scalar.andi v721 v718
  let v723 : BitVec 32 := Scalar.addi v717 v716
  let v724 : BitVec 32 := Scalar.select v722 v723 v717
  let c256_i32_480 : BitVec 32 := 256#32
  let v725 : BitVec 32 := Scalar.muli v724 c256_i32_480
  let v726 : Index := Scalar.indexCast v725
  let c0_481 : Index := 0#32
  ![v726.toNat, 0]
def k0_off56 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_472 : BitVec 32 := 2#32
  let v712 : BitVec 32 := Scalar.subi v2 c2_i32_472
  let c0_i32_161 : BitVec 32 := 0#32
  let c1_i32_162 : BitVec 32 := 1#32
  let arg11 : BitVec 32 := Scf.iv c0_i32_161 c1_i32_162 k0_t1
  let v713 : BitVec 32 := Scalar.subi v712 arg11
  let c64_i32_473 : BitVec 32 := 64#32
  let v714 : BitVec 32 := Scalar.addi v713 c64_i32_473
  let c16_i32_474 : BitVec 32 := 16#32
  let c0_i32_475 : BitVec 32 := 0#32
  let v715 : BitVec 1 := Scalar.cmpi .eq c16_i32_474 c0_i32_475
  let c1_i32_476 : BitVec 32 := 1#32
  let v716 : BitVec 32 := Scalar.select v715 c1_i32_476 c16_i32_474
  let v717 : BitVec 32 := Scalar.remsi v714 v716
  let c0_i32_478 : BitVec 32 := 0#32
  let v719 : BitVec 1 := Scalar.cmpi .slt v717 c0_i32_478
  let c0_i32_479 : BitVec 32 := 0#32
  let v720 : BitVec 1 := Scalar.cmpi .slt v716 c0_i32_479
  let v721 : BitVec 1 := Scalar.xori v719 v720
  let c0_i32_477 : BitVec 32 := 0#32
  let v718 : BitVec 1 := Scalar.cmpi .ne v717 c0_i32_477
  let v722 : BitVec 1 := Scalar.andi v721 v718
  let v723 : BitVec 32 := Scalar.addi v717 v716
  let v724 : BitVec 32 := Scalar.select v722 v723 v717
  let c256_i32_485 : BitVec 32 := 256#32
  let v732 : BitVec 32 := Scalar.muli v724 c256_i32_485
  let v733 : Index := Scalar.indexCast v732
  let c0_486 : Index := 0#32
  ![v733.toNat, 0]
def k0_off57 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_487 : BitVec 32 := 2#32
  let v735 : BitVec 32 := Scalar.addi v2 c2_i32_487
  let c0_i32_161 : BitVec 32 := 0#32
  let c1_i32_162 : BitVec 32 := 1#32
  let arg11 : BitVec 32 := Scf.iv c0_i32_161 c1_i32_162 k0_t1
  let v736 : BitVec 32 := Scalar.addi v735 arg11
  let c16_i32_488 : BitVec 32 := 16#32
  let c0_i32_489 : BitVec 32 := 0#32
  let v737 : BitVec 1 := Scalar.cmpi .eq c16_i32_488 c0_i32_489
  let c1_i32_490 : BitVec 32 := 1#32
  let v738 : BitVec 32 := Scalar.select v737 c1_i32_490 c16_i32_488
  let v739 : BitVec 32 := Scalar.remsi v736 v738
  let c0_i32_492 : BitVec 32 := 0#32
  let v741 : BitVec 1 := Scalar.cmpi .slt v739 c0_i32_492
  let c0_i32_493 : BitVec 32 := 0#32
  let v742 : BitVec 1 := Scalar.cmpi .slt v738 c0_i32_493
  let v743 : BitVec 1 := Scalar.xori v741 v742
  let c0_i32_491 : BitVec 32 := 0#32
  let v740 : BitVec 1 := Scalar.cmpi .ne v739 c0_i32_491
  let v744 : BitVec 1 := Scalar.andi v743 v740
  let v745 : BitVec 32 := Scalar.addi v739 v738
  let v746 : BitVec 32 := Scalar.select v744 v745 v739
  let c256_i32_494 : BitVec 32 := 256#32
  let v747 : BitVec 32 := Scalar.muli v746 c256_i32_494
  let v748 : Index := Scalar.indexCast v747
  let c0_495 : Index := 0#32
  ![v748.toNat, 0]
def k0_off58 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_487 : BitVec 32 := 2#32
  let v735 : BitVec 32 := Scalar.addi v2 c2_i32_487
  let c0_i32_161 : BitVec 32 := 0#32
  let c1_i32_162 : BitVec 32 := 1#32
  let arg11 : BitVec 32 := Scf.iv c0_i32_161 c1_i32_162 k0_t1
  let v736 : BitVec 32 := Scalar.addi v735 arg11
  let c16_i32_488 : BitVec 32 := 16#32
  let c0_i32_489 : BitVec 32 := 0#32
  let v737 : BitVec 1 := Scalar.cmpi .eq c16_i32_488 c0_i32_489
  let c1_i32_490 : BitVec 32 := 1#32
  let v738 : BitVec 32 := Scalar.select v737 c1_i32_490 c16_i32_488
  let v739 : BitVec 32 := Scalar.remsi v736 v738
  let c0_i32_492 : BitVec 32 := 0#32
  let v741 : BitVec 1 := Scalar.cmpi .slt v739 c0_i32_492
  let c0_i32_493 : BitVec 32 := 0#32
  let v742 : BitVec 1 := Scalar.cmpi .slt v738 c0_i32_493
  let v743 : BitVec 1 := Scalar.xori v741 v742
  let c0_i32_491 : BitVec 32 := 0#32
  let v740 : BitVec 1 := Scalar.cmpi .ne v739 c0_i32_491
  let v744 : BitVec 1 := Scalar.andi v743 v740
  let v745 : BitVec 32 := Scalar.addi v739 v738
  let v746 : BitVec 32 := Scalar.select v744 v745 v739
  let c256_i32_499 : BitVec 32 := 256#32
  let v754 : BitVec 32 := Scalar.muli v746 c256_i32_499
  let v755 : Index := Scalar.indexCast v754
  let c1024_500 : Index := 1024#32
  ![v755.toNat, 1024]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Base.lean ====
/-
The slots of the two communication buffers: each buffer is four slots of two 256x512 half blocks, a
half slot `(k, s)` being the elements with leading indices `k`, `s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Release
public import Idealize.ShloMosaic.Lib.VecWindow
public import Idealize.ShloMosaic.Lib.Pointwise.Index
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The channels

Channel `2 r + s` is half `s` of ring `r`; ring 0 sends to the right, ring 1 to the left. -/

/-- The ring of a channel, and its half. -/
def ringOf (ch : Fin 4) : Fin 2 := ⟨ch.val / 2, by omega⟩
def halfOf (ch : Fin 4) : Fin 2 := ⟨ch.val % 2, by omega⟩

/-- The right and the left neighbour. -/
def succD (c : Dev nD) : Dev nD := ⟨(c.val + 1) % 16, Nat.mod_lt _ (by decide)⟩
def predD (c : Dev nD) : Dev nD := ⟨(c.val + 15) % 16, Nat.mod_lt _ (by decide)⟩

theorem succ_pred (c : Dev nD) : succD (predD c) = c := Fin.ext (by show ((c.val + 15) % 16 + 1) % 16 = c.val; have : c.val < 16 := c.isLt; omega)
theorem pred_succ (c : Dev nD) : predD (succD c) = c := Fin.ext (by show ((c.val + 1) % 16 + 15) % 16 = c.val; have : c.val < 16 := c.isLt; omega)

/-- The neighbour a ring sends to, and the one it receives from. -/
def nxtR (r : Fin 2) (c : Dev nD) : Dev nD := if r = 0 then succD c else predD c
def prvR (r : Fin 2) (c : Dev nD) : Dev nD := if r = 0 then predD c else succD c

theorem nxt_prv (r : Fin 2) (c : Dev nD) : nxtR r (prvR r c) = c := by
  unfold nxtR prvR; split <;> simp only [succ_pred, pred_succ]
theorem prv_nxt (r : Fin 2) (c : Dev nD) : prvR r (nxtR r c) = c := by
  unfold nxtR prvR; split <;> simp only [succ_pred, pred_succ]

/-- A ring's step as a permutation of the devices. -/
def ringEquiv (r : Fin 2) : Dev nD ≃ Dev nD := ⟨nxtR r, prvR r, prv_nxt r, nxt_prv r⟩

/-- The row chunk of what device `c` sends as its transfer `g` of a ring. -/
def chunkR (r : Fin 2) (c : Dev nD) (g : ℕ) : Fin 16 :=
  ⟨(if r = 0 then c.val + 15 * g else c.val + g) % 16, Nat.mod_lt _ (by decide)⟩

theorem chunk_prv (r : Fin 2) (c : Dev nD) (g : ℕ) : chunkR r (prvR r c) g = chunkR r c (g + 1) := by
  have := c.isLt
  unfold chunkR prvR predD succD
  refine Fin.ext ?_
  fin_cases r
  · show ((c.val + 15) % 16 + 15 * g) % 16 = (c.val + 15 * (g + 1)) % 16; omega
  · show ((c.val + 1) % 16 + g) % 16 = (c.val + (g + 1)) % 16; omega

/-! ## The buffers -/

abbrev xM : Memref sig .tc .vmem S4096x256 .f32 := Memref.whole cc0_stg0_0
abbrev wM : Memref sig .tc .vmem S256x2048 .f32 := Memref.whole cc0_stg1_0
abbrev oM : Memref sig .tc .vmem S4096x2048 .f32 := Memref.whole cc0_stg2_0
abbrev comm0 : Memref sig .tc .vmem S4x2x256x512 .f32 := Memref.whole cc0_scratch0
abbrev comm1 : Memref sig .tc .vmem S4x2x256x512 .f32 := Memref.whole cc0_scratch1

/-- The communication buffer of a ring. -/
def comm : Fin 2 → Memref sig .tc .vmem S4x2x256x512 .f32 := fun | 0 => comm0 | 1 => comm1

theorem comm_isWhole (r : Fin 2) : (comm r).IsWhole := by
  fin_cases r
  · exact Memref.isWhole_whole _
  · exact Memref.isWhole_whole _

section Geometry

abbrev slotOff (k : Fin 4) (s : Fin 2) : Fin 4 → ℕ := ![k.val, s.val, 0, 0]

theorem slotOff_inb (k : Fin 4) (s : Fin 2) : ∀ a, slotOff k s a + S1x1x256x512.size a ≤ S4x2x256x512.size a := by
  revert k s; decide

/-- The elements of half slot `(k, s)`. -/
def slotIdx (k : Fin 4) (s : Fin 2) : Finset S4x2x256x512.Idx := (Rect.unit (s := S4x2x256x512) (slotOff k s) S1x1x256x512.size (slotOff_inb k s)).set

theorem mem_slotIdx {k : Fin 4} {s : Fin 2} {i : S4x2x256x512.Idx} : i ∈ slotIdx k s ↔ i 0 = k ∧ i 1 = s := by
  unfold slotIdx
  rw [Rect.mem_set_unit]
  constructor
  · intro h
    have h0 := h 0; have h1 := h 1
    simp at h0 h1
    exact ⟨Fin.ext (by omega), Fin.ext (by omega)⟩
  · rintro ⟨rfl, rfl⟩ a
    have h2 : (i 2).val < 256 := (i 2).isLt
    have h3 : (i 3).val < 512 := (i 3).isLt
    fin_cases a <;> simp <;> omega

/-- The half block as a whole buffer's contents: the same at every half slot. -/
def spread {Val : Type} (x : S256x512.Idx → Val) : S4x2x256x512.Idx → Val := fun i => x (ix2 (i 2) (i 3))

/-- Two half blocks as a whole buffer's contents: the first at the halves 0, the second at the halves 1. -/
def glue {Val : Type} (x y : S256x512.Idx → Val) : S4x2x256x512.Idx → Val := fun i => if (i 1).val = 0 then x (ix2 (i 2) (i 3)) else y (ix2 (i 2) (i 3))

end Geometry

end Cert.KernelIdeal.Ring

end
-- ==== Proof.KernelIdeal.Contents.lean ====
/-
What the buffers hold: the partial products of a device, the sums travelling round the rings, the
running maximum, and the output array while the two phases fill it.
-/
module

public import proofs.«01_k».proof.Proof.KernelIdeal.Base

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

def s₀ : MemSt nD τ sig (Elt F) := ⟨m, fun _ => 0, ρ⟩

/-- The staged operands. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-! ## The partial products -/

theorem rowsX_inb (q : Fin 16) : ∀ a, (![256 * q.val, 0] : Fin 2 → ℕ) a + S256x256.size a ≤ S4096x256.size a := by revert q; decide
theorem colsW_inb (r : Fin 2) : ∀ a, (![0, 1024 * r.val] : Fin 2 → ℕ) a + S256x1024.size a ≤ S256x2048.size a := by revert r; decide
theorem blk_inb (q : Fin 16) (ch : Fin 4) : ∀ a, (![256 * q.val, 512 * ch.val] : Fin 2 → ℕ) a + S256x512.size a ≤ S4096x2048.size a := by revert q ch; decide
theorem half_inb (q : Fin 16) (r : Fin 2) : ∀ a, (![256 * q.val, 1024 * r.val] : Fin 2 → ℕ) a + S256x1024.size a ≤ S4096x2048.size a := by revert q r; decide
theorem row_inb (q : Fin 16) : ∀ a, (![256 * q.val, 0] : Fin 2 → ℕ) a + S256x2048.size a ≤ S4096x2048.size a := by revert q; decide

/-- Row chunk `q` of the device's `x` block, and half `r` of the columns of its `w` block. -/
def xRows (c : Dev nD) (q : Fin 16) : Vec F S256x256 .f32 :=
  xM.view.readAt (Elt F) (Rect.unit (s := S4096x256) ![256 * q.val, 0] S256x256.size (rowsX_inb q)).toLoadRect (xstg m ρ c)
def wCols (c : Dev nD) (r : Fin 2) : Vec F S256x1024 .f32 :=
  wM.view.readAt (Elt F) (Rect.unit (s := S256x2048) ![0, 1024 * r.val] S256x1024.size (colsW_inb r)).toLoadRect (wstg m ρ c)

/-- The device's partial product of row chunk `q` and column half `r`; the 512 columns of it that are channel `ch`'s. -/
def part (c : Dev nD) (r : Fin 2) (q : Fin 16) : Vec F S256x1024 .f32 := k0_pay11 (xRows m ρ c q) (wCols m ρ c r)
def part512 (c : Dev nD) (ch : Fin 4) (q : Fin 16) : Vec F S256x512 .f32 :=
  fun j => part m ρ c (ringOf ch) q (ix2 (j 0) (⟨512 * (halfOf ch).val + (j 1).val, by have := (halfOf ch).isLt; have : (j 1).val < 512 := (j 1).isLt; omega⟩ : Fin 1024))

/-! ## The sums -/

/-- The chunk of channel `ch` that device `c` sends as transfer `g`; the neighbours of the channel. -/
abbrev chunk (ch : Fin 4) (c : Dev nD) (g : ℕ) : Fin 16 := chunkR (ringOf ch) c g
abbrev nxt (ch : Fin 4) (c : Dev nD) : Dev nD := nxtR (ringOf ch) c
abbrev prv (ch : Fin 4) (c : Dev nD) : Dev nD := prvR (ringOf ch) c

/-- The device that adds to chunk `q` as its `k`th. -/
def stepDev (ch : Fin 4) (q : Fin 16) (k : ℕ) : Dev nD :=
  ⟨(if ringOf ch = 0 then q.val + k else q.val + 15 * k) % 16, Nat.mod_lt _ (by decide)⟩

theorem stepDev_chunk (ch : Fin 4) (c : Dev nD) (g : ℕ) : stepDev ch (chunk ch c g) g = c := by
  have : c.val < 16 := c.isLt
  unfold stepDev chunk chunkR
  refine Fin.ext ?_
  by_cases h : ringOf ch = 0
  · simp only [h, if_true]; show ((c.val + 15 * g) % 16 + g) % 16 = c.val; omega
  · simp only [h, if_false]; show ((c.val + g) % 16 + 15 * g) % 16 = c.val; omega

/-- The sum of chunk `q` after `k` additions. -/
def acc (ch : Fin 4) (q : Fin 16) : ℕ → Vec F S1x1x256x512 .f32
  | 0 => k0_pay15 (part512 m ρ (stepDev ch q 0) ch q)
  | k + 1 => k0_pay2 (acc ch q k) (part512 m ρ (stepDev ch q (k + 1)) ch q)

/-- What device `c` sends on channel `ch` as its transfer `g`. -/
def sv (ch : Fin 4) (c : Dev nD) (g : ℕ) : Vec F S1x1x256x512 .f32 := acc m ρ ch (chunk ch c g) (min g 15)

theorem sv_zero (ch : Fin 4) (c : Dev nD) : sv m ρ ch c 0 = k0_pay15 (part512 m ρ c ch (chunk ch c 0)) := by
  have h := stepDev_chunk ch c 0
  unfold sv
  show k0_pay15 (part512 m ρ (stepDev ch (chunk ch c 0) 0) ch (chunk ch c 0)) = _
  rw [h]

/-- What it received is what its neighbour sent; the first fifteen get its own partial product added. -/
theorem sv_recv_add (ch : Fin 4) (c : Dev nD) (h : ℕ) (hh : h ≤ 14) :
    k0_pay2 (sv m ρ ch (prv ch c) h) (part512 m ρ c ch (chunk ch c (h + 1))) = sv m ρ ch c (h + 1) := by
  have e : chunk ch (prv ch c) h = chunk ch c (h + 1) := chunk_prv (ringOf ch) c h
  have h1 := stepDev_chunk ch c (h + 1)
  unfold sv
  rw [e, Nat.min_eq_left (by omega), Nat.min_eq_left (by omega)]
  show _ = k0_pay2 (acc m ρ ch (chunk ch c (h + 1)) h) (part512 m ρ (stepDev ch (chunk ch c (h + 1)) (h + 1)) ch (chunk ch c (h + 1)))
  rw [h1]

theorem sv_recv (ch : Fin 4) (c : Dev nD) (h : ℕ) (hh : 15 ≤ h) :
    sv m ρ ch (prv ch c) h = sv m ρ ch c (h + 1) := by
  have e : chunk ch (prv ch c) h = chunk ch c (h + 1) := chunk_prv (ringOf ch) c h
  unfold sv
  rw [e, Nat.min_eq_right hh, Nat.min_eq_right (by omega)]

/-- The finished chunk as the output's block. -/
def fin512 (ch : Fin 4) (q : Fin 16) : Vec F S256x512 .f32 := k0_pay6 (acc m ρ ch q 15)

/-! ## The running maximum -/

/-- The two halves of a slot side by side. -/
def glue2 (y z : Vec F S1x1x256x512 .f32) : Vec F S1x2x256x512 .f32 :=
  fun i => if (i 1).val = 0 then y (ix4 0 0 (i 2) (i 3)) else z (ix4 0 0 (i 2) (i 3))

def am (c : Dev nD) : ℕ → F .f32
  | 0 => Scalar.ofBits .f32 0x00000000#32
  | h + 1 => if 14 ≤ h then k0_pay10 (am c h) (glue2 (sv m ρ 0 c (h + 1)) (sv m ρ 1 c (h + 1))) (glue2 (sv m ρ 2 c (h + 1)) (sv m ρ 3 c (h + 1)))
      else am c h

/-! ## The output array's blocks -/

abbrev OBuf : Type := (cc0_stg2_0 : Ref sig .tc).ty.Contents (Elt F)

abbrev blkR (q : Fin 16) (ch : Fin 4) : Rect S4096x2048 := Rect.unit (s := S4096x2048) ![256 * q.val, 512 * ch.val] S256x512.size (blk_inb q ch)
abbrev halfR (q : Fin 16) (r : Fin 2) : Rect S4096x2048 := Rect.unit (s := S4096x2048) ![256 * q.val, 1024 * r.val] S256x1024.size (half_inb q r)
abbrev rowR (q : Fin 16) : Rect S4096x2048 := Rect.unit (s := S4096x2048) ![256 * q.val, 0] S256x2048.size (row_inb q)

/-- Block `(q, ch)` of the array holds `x`. -/
def Blk (f : (cc0_stg2_0 : Ref sig .tc).ty.Contents (Elt F)) (q : Fin 16) (ch : Fin 4) (x : Vec F S256x512 .f32) : Prop :=
  oM.view.readAt (Elt F) (blkR q ch).toLoadRect f = x

omit [FloatOps F] in
theorem blk_store_self (f : (cc0_stg2_0 : Ref sig .tc).ty.Contents (Elt F)) (q : Fin 16) (ch : Fin 4) (x : Vec F S256x512 .f32) :
    Blk ((oM.access (blkR q ch)).write (Elt F) f x Finset.univ) q ch x := by
  unfold Blk
  show (oM.view.slice (blkR q ch)).read (Elt F) ((oM.view.slice (blkR q ch)).write (Elt F) f x Finset.univ) = x
  exact View.read_write_univ _ _

theorem blkR_disjoint {q q' : Fin 16} {ch ch' : Fin 4} (h : q ≠ q' ∨ ch ≠ ch') : Disjoint (blkR q ch).set (blkR q' ch').set := by
  rw [Finset.disjoint_left]
  intro i hi hi'
  rw [Rect.mem_set_unit] at hi hi'
  have a0 := hi 0; have a1 := hi 1; have b0 := hi' 0; have b1 := hi' 1
  simp at a0 a1 b0 b1
  rcases h with h | h
  · exact h (Fin.ext (by omega))
  · exact h (Fin.ext (by omega))

theorem halfR_disjoint {q q' : Fin 16} {ch' : Fin 4} {r : Fin 2} (h : q ≠ q' ∨ ringOf ch' ≠ r) : Disjoint (blkR q' ch').set (halfR q r).set := by
  rw [Finset.disjoint_left]
  intro i hi hi'
  rw [Rect.mem_set_unit] at hi hi'
  have a0 := hi 0; have a1 := hi 1; have b0 := hi' 0; have b1 := hi' 1
  simp at a0 a1 b0 b1
  rcases h with h | h
  · exact h (Fin.ext (by omega))
  · exact h (Fin.ext (by unfold ringOf; show ch'.val / 2 = r.val; omega))

omit [FloatOps F] in
theorem blk_store_other {f : (cc0_stg2_0 : Ref sig .tc).ty.Contents (Elt F)} {q q' : Fin 16} {ch ch' : Fin 4} (x y : Vec F S256x512 .f32)
    (h : q' ≠ q ∨ ch' ≠ ch) (hf : Blk f q' ch' y) : Blk ((oM.access (blkR q ch)).write (Elt F) f x Finset.univ) q' ch' y := by
  unfold Blk at hf ⊢
  rw [← hf]
  show (oM.view.slice (blkR q' ch')).read (Elt F) ((oM.view.slice (blkR q ch)).write (Elt F) f x Finset.univ) = _
  refine View.read_slice_write_slice_of_disjoint _ _ _ _ _ ?_
  show Disjoint (oM.view.slice (blkR q' ch')).set (oM.view.slice (blkR q ch)).set
  rw [View.set_slice_whole, View.set_slice_whole]
  exact blkR_disjoint h

omit [FloatOps F] in
theorem half_store_other {f : (cc0_stg2_0 : Ref sig .tc).ty.Contents (Elt F)} {q q' : Fin 16} {ch' : Fin 4} {r : Fin 2} (x : Vec F S256x1024 .f32) (y : Vec F S256x512 .f32)
    (h : q ≠ q' ∨ ringOf ch' ≠ r) (hf : Blk f q' ch' y) : Blk ((oM.access (halfR q r)).write (Elt F) f x Finset.univ) q' ch' y := by
  unfold Blk at hf ⊢
  rw [← hf]
  show (oM.view.slice (blkR q' ch')).read (Elt F) ((oM.view.slice (halfR q r)).write (Elt F) f x Finset.univ) = _
  refine View.read_slice_write_slice_of_disjoint _ _ _ _ _ ?_
  show Disjoint (oM.view.slice (blkR q' ch')).set (oM.view.slice (halfR q r)).set
  rw [View.set_slice_whole, View.set_slice_whole]
  exact halfR_disjoint h

/-- A stored half row holds its channels' blocks. -/
theorem half_store_self (f : (cc0_stg2_0 : Ref sig .tc).ty.Contents (Elt F)) (c : Dev nD) (q : Fin 16) (ch : Fin 4) :
    Blk ((oM.access (halfR q (ringOf ch))).write (Elt F) f (part m ρ c (ringOf ch) q) Finset.univ) q ch (part512 m ρ c ch q) := by
  unfold Blk
  funext j
  have hj0 : (j 0).val < 256 := (j 0).isLt
  have hj1 : (j 1).val < 512 := (j 1).isLt
  show oM.view.read (Elt F) ((oM.view.slice (halfR q (ringOf ch))).write (Elt F) f (part m ρ c (ringOf ch) q) Finset.univ) ((blkR q ch).emb j) = _
  have he : (blkR q ch).emb j = (halfR q (ringOf ch)).emb
      (ix2 (j 0) (⟨512 * (halfOf ch).val + (j 1).val, by have := (halfOf ch).isLt; omega⟩ : Fin 1024)) := by
    funext a
    refine Fin.ext ?_
    fin_cases a
    · rfl
    · show 512 * ch.val + 1 * (j 1).val = 1024 * (ringOf ch).val + 1 * (512 * (halfOf ch).val + (j 1).val)
      unfold ringOf halfOf
      show 512 * ch.val + 1 * (j 1).val = 1024 * (ch.val / 2) + 1 * (512 * (ch.val % 2) + (j 1).val)
      omega
  rw [he, View.read_slice_write_emb _ _ _ (Finset.mem_univ _)]
  rfl

/-- The output array before hop `h`: the partial products about to be added, and the finished chunks so far. -/
structure OutInv (c : Dev nD) (h : ℕ) (f : (cc0_stg2_0 : Ref sig .tc).ty.Contents (Elt F)) : Prop where
  part : h ≤ 14 → ∀ ch, Blk f (chunk ch c (h + 1)) ch (part512 m ρ c ch (chunk ch c (h + 1)))
  done : ∀ g, 14 ≤ g → g < h → ∀ ch, Blk f (chunk ch c (g + 1)) ch (fin512 m ρ ch (chunk ch c (g + 1)))

theorem chunk_ne (ch : Fin 4) (c : Dev nD) {g g' : ℕ} (h : g < g') (h' : g' < g + 16) : chunk ch c g ≠ chunk ch c g' := by
  have : c.val < 16 := c.isLt
  intro he
  have he := congrArg Fin.val he
  unfold chunk chunkR at he
  by_cases hr : ringOf ch = 0
  · simp only [hr, if_true] at he
    replace he : (c.val + 15 * g) % 16 = (c.val + 15 * g') % 16 := he
    omega
  · simp only [hr, if_false] at he
    replace he : (c.val + g) % 16 = (c.val + g') % 16 := he
    omega

/-- The finished product, the same on every device. -/
def Yfin : (cc0_stg2_0 : Ref sig .tc).ty.Contents (Elt F) :=
  fun i => fin512 m ρ (⟨(i 1).val / 512, by have : (i 1).val < 2048 := (i 1).isLt; omega⟩ : Fin 4) (⟨(i 0).val / 256, by have : (i 0).val < 4096 := (i 0).isLt; omega⟩ : Fin 16)
    (ix2 (⟨(i 0).val % 256, Nat.mod_lt _ (by decide)⟩ : Fin 256) (⟨(i 1).val % 512, Nat.mod_lt _ (by decide)⟩ : Fin 512))

theorem chunk_surj (ch : Fin 4) (c : Dev nD) (q : Fin 16) : ∃ g, 14 ≤ g ∧ g < 30 ∧ chunk ch c (g + 1) = q := by
  have hc : c.val < 16 := c.isLt
  have hq := q.isLt
  by_cases hr : ringOf ch = 0
  · refine ⟨14 + (c.val + 16 + 1 - q.val) % 16, by omega, by omega, Fin.ext ?_⟩
    unfold chunk chunkR
    simp only [hr, if_true]
    show (c.val + 15 * (14 + (c.val + 16 + 1 - q.val) % 16 + 1)) % 16 = q.val
    omega
  · refine ⟨14 + (q.val + 16 + 1 - c.val) % 16, by omega, by omega, Fin.ext ?_⟩
    unfold chunk chunkR
    simp only [hr, if_false]
    show (c.val + (14 + (q.val + 16 + 1 - c.val) % 16 + 1)) % 16 = q.val
    omega

theorem outInv_fin (c : Dev nD) (f : (cc0_stg2_0 : Ref sig .tc).ty.Contents (Elt F)) (h : OutInv m ρ c 30 f) : f = Yfin m ρ := by
  funext i
  have hi0 : (i 0).val < 4096 := (i 0).isLt
  have hi1 : (i 1).val < 2048 := (i 1).isLt
  obtain ⟨g, hg, hg', hq⟩ := chunk_surj (⟨(i 1).val / 512, by omega⟩ : Fin 4) c (⟨(i 0).val / 256, by omega⟩ : Fin 16)
  have hb := h.done g hg hg' (⟨(i 1).val / 512, by omega⟩ : Fin 4)
  rw [hq] at hb
  unfold Blk at hb
  have hb := congrFun hb (ix2 (⟨(i 0).val % 256, Nat.mod_lt _ (by decide)⟩ : Fin 256) (⟨(i 1).val % 512, Nat.mod_lt _ (by decide)⟩ : Fin 512))
  unfold Yfin
  refine Eq.trans ?_ hb
  show f i = f ((blkR _ _).emb _)
  congr 1
  funext a
  refine Fin.ext ?_
  fin_cases a
  · show (i 0).val = 256 * ((i 0).val / 256) + 1 * ((i 0).val % 256); omega
  · show (i 1).val = 512 * ((i 1).val / 512) + 1 * ((i 1).val % 512); omega

end Cert.KernelIdeal.Ring

end
-- ==== Proof.KernelIdeal.Sched.lean ====
/-
The protocol: the cells of a device, who pays into them and what comes with a payment, the order in
which the cells are waited on, and what a device owes.
-/
module

public import proofs.«01_k».proof.Proof.KernelIdeal.Contents

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost state -/

/-- A key of a slot's release: the device that reads the slot, the channel, and which credit. -/
abbrev RKey : Type := Dev nD × Fin 4 × ℕ

abbrev UB : Type := URounds (GSem nD τ sig) ℕ × USlots RKey
abbrev UU : Type := UR sig nD τ × UB

local notation "𝕄" => MT nD τ sig ℕ (Elt F) ℕ UU ℕ

abbrev EP : Emb (UR sig nD τ) (MT nD τ sig ℕ (Elt F) ℕ UU ℕ) := embL
abbrev EB : Emb UB (MT nD τ sig ℕ (Elt F) ℕ UU ℕ) := embR
abbrev ER : Emb (URounds (GSem nD τ sig) ℕ) (MT nD τ sig ℕ (Elt F) ℕ UU ℕ) :=
  (Emb.inl : Emb (URounds (GSem nD τ sig) ℕ) UB).trans EB
abbrev ES : Emb (USlots RKey) (MT nD τ sig ℕ (Elt F) ℕ UU ℕ) :=
  (Emb.inr : Emb (USlots RKey) UB).trans EB

variable (m : (ℓ : Loc nD τ sig) → Buf (Elt F) ℓ) (ρ : Dev nD → PrngReg)

/-! ## The slots -/

/-- The slot of transfer number `g`. -/
def sl (g : ℕ) : Fin 4 := ⟨g % 4, Nat.mod_lt _ (by decide)⟩

/-- Half slot `k` of channel `ch`, as a block of its buffer; the same as a plain matrix. -/
abbrev sliceR (ch k : Fin 4) : Rect S4x2x256x512 := Rect.unit (s := S4x2x256x512) (slotOff k (halfOf ch)) S1x1x256x512.size (slotOff_inb k (halfOf ch))
abbrev sliceM (ch k : Fin 4) : Memref sig .tc .vmem S1x1x256x512 .f32 := (comm (ringOf ch)).slice (sliceR ch k) (fun _ => rfl)
abbrev slotM (ch k : Fin 4) : Memref sig .tc .vmem S256x512 .f32 := (sliceM ch k).squeeze S256x512 squeezes_S1x1x256x512_S256x512

/-- Device `c` holds share `q` of half slot `k` of channel `ch`, which holds `y`. -/
def slotPts (c : Dev nD) (ch k : Fin 4) (q : PosShare TreeShare) (y : Vec F S1x1x256x512 .f32) : sProp 𝕄 :=
  (sliceM ch k).view.loc (c : Thread nD τ) ↦[(sliceM ch k).view.set]{q} (sliceM ch k).view.rep y
/-- All of it, at any contents. -/
def anySlot (c : Dev nD) (ch k : Fin 4) : sProp 𝕄 :=
  slot ((sliceM ch k).view.loc (c : Thread nD τ)) (sliceM ch k).view.set

instance slotPts_storable (c : Dev nD) (ch k : Fin 4) (q) (y : Vec F S1x1x256x512 .f32) : BI.Storable (upEmb : UEmb _ 𝕄) (slotPts c ch k q y) := by unfold slotPts; infer_instance
instance anySlot_storable (c : Dev nD) (ch k : Fin 4) : BI.Storable (upEmb : UEmb _ 𝕄) (anySlot (F := F) c ch k) := by unfold anySlot; infer_instance

theorem slotPts_any (c : Dev nD) (ch k : Fin 4) (y : Vec F S1x1x256x512 .f32) : slotPts c ch k fullShare y ⊢ anySlot (F := F) c ch k := by
  unfold slotPts anySlot slot; iintro H; iexists _; iexact H

theorem slotPts_split (c : Dev nD) (ch k : Fin 4) (y : Vec F S1x1x256x512 .f32) :
    (slotPts c ch k fullShare y : sProp 𝕄) ⊣⊢ iprop(slotPts c ch k fullShare.left y ∗ slotPts c ch k fullShare.right y) := by
  unfold slotPts; exact pointsTo_share (PosShare.mem_left_op_right _)

/-! ## The cells -/

def sendA : Fin 2 → DmaSems sig S4x2 := fun | 0 => cc0_scratch2 | 1 => cc0_scratch4
def recvA : Fin 2 → DmaSems sig S4x2 := fun | 0 => cc0_scratch3 | 1 => cc0_scratch5
def credA : Fin 2 → Sems sig S2 := fun | 0 => cc0_scratch6 | 1 => cc0_scratch7

theorem semAt_inb (k : Fin 4) (s : Fin 2) : ∀ a, (![k.val, s.val] : Fin 2 → ℕ) a + S1x1.size a ≤ S4x2.size a := by revert k s; decide
theorem credAt_inb (s : Fin 2) : ∀ a, (![s.val] : Fin 1 → ℕ) a + S1.size a ≤ S2.size a := by revert s; decide

def sendS (ch k : Fin 4) : DmaSem sig := (((sendA (ringOf ch)).slice (Rect.unit (s := S4x2) ![k.val, (halfOf ch).val] S1x1.size (semAt_inb k (halfOf ch)))).squeeze S_ squeezes_S1x1_S_).sem
def recvS (ch k : Fin 4) : DmaSem sig := (((recvA (ringOf ch)).slice (Rect.unit (s := S4x2) ![k.val, (halfOf ch).val] S1x1.size (semAt_inb k (halfOf ch)))).squeeze S_ squeezes_S1x1_S_).sem
def credS (ch : Fin 4) : Sem sig := (((credA (ringOf ch)).slice (Rect.unit (s := S2) ![(halfOf ch).val] S1.size (credAt_inb (halfOf ch)))).squeeze S_ squeezes_S1_S_).sem
def barS : Sem sig := (SemArray.scalar (sig.barrier 0 rfl) : Sems sig S_).sem

/-- A device's cells: completion of a send, of a receive, the credits, the barrier. -/
abbrev CellK : Type := (Fin 4 × Fin 4) ⊕ (Fin 4 × Fin 4) ⊕ Fin 4 ⊕ Unit

def kloc : CellK → SemLoc sig
  | .inl (ch, k) => .dma (sendS ch k)
  | .inr (.inl (ch, k)) => .dma (recvS ch k)
  | .inr (.inr (.inl ch)) => .reg (credS ch)
  | .inr (.inr (.inr _)) => .reg barS

theorem kloc_injective : Function.Injective kloc := by decide +kernel

def roleOf (l : SemLoc sig) : Option CellK := if h : ∃ k, kloc k = l then some h.choose else none
theorem roleOf_kloc (k : CellK) : roleOf (kloc k) = some k := by
  have h : ∃ k', kloc k' = kloc k := ⟨k, rfl⟩
  unfold roleOf; rw [dif_pos h]; exact congrArg some (kloc_injective h.choose_spec)
theorem kloc_of_roleOf {l : SemLoc sig} {k : CellK} (h : roleOf l = some k) : l = kloc k := by
  unfold roleOf at h
  split at h
  · rename_i h'; rw [← h'.choose_spec]; exact congrArg kloc (Option.some.inj h)
  · exact absurd h (by simp)

abbrev kcell (ck : Dev nD × CellK) : GSem nD τ sig := ((ck.1 : Thread nD τ), kloc ck.2)
abbrev sendCell (c : Dev nD) (ch k : Fin 4) : GSem nD τ sig := ((c : Thread nD τ), .dma (sendS ch k))
abbrev recvCell (c : Dev nD) (ch k : Fin 4) : GSem nD τ sig := ((c : Thread nD τ), .dma (recvS ch k))
abbrev credCell (c : Dev nD) (ch : Fin 4) : GSem nD τ sig := ((c : Thread nD τ), .reg (credS ch))
abbrev barCell (c : Dev nD) : GSem nD τ sig := ((c : Thread nD τ), .reg barS)

theorem roleOf_send (ch k : Fin 4) : roleOf (.dma (sendS ch k)) = some (.inl (ch, k)) := roleOf_kloc (.inl (ch, k))
theorem roleOf_recv (ch k : Fin 4) : roleOf (.dma (recvS ch k)) = some (.inr (.inl (ch, k))) := roleOf_kloc (.inr (.inl (ch, k)))
theorem roleOf_cred (ch : Fin 4) : roleOf (.reg (credS ch)) = some (.inr (.inr (.inl ch))) := roleOf_kloc (.inr (.inr (.inl ch)))
theorem roleOf_bar : roleOf (.reg barS) = some (.inr (.inr (.inr ()))) := roleOf_kloc (.inr (.inr (.inr ())))

/-- What one transfer credits. -/
abbrev N : ℕ := (slotM 0 0).view.dmaCredit
theorem N_pos : 0 < N := View.dmaCredit_pos _ (by decide)

/-- Every half slot credits the same. -/
theorem credit_eq (r : Fin 2) {off : Fin 4 → ℕ} (h : ∀ a, off a + S1x1x256x512.size a ≤ S4x2x256x512.size a) :
    (((comm r).slice (Rect.unit (s := S4x2x256x512) off S1x1x256x512.size h) (fun _ => rfl)).squeeze S256x512 squeezes_S1x1x256x512_S256x512).view.dmaCredit = N := by
  fin_cases r <;> rfl

/-! ## The schedule -/

/-- A completed send hands the lent half of its source back. -/
def sendPay (c : Dev nD) (ch : Fin 4) (g : ℕ) : sProp 𝕄 := slotPts c ch (sl g) fullShare.right (sv m ρ ch c g)
/-- A completed receive hands the landing slot over, holding what the neighbour sent. -/
def recvPay (c : Dev nD) (ch : Fin 4) (g : ℕ) : sProp 𝕄 := slotPts c ch (sl (g + 1)) fullShare (sv m ρ ch (prv ch c) g)
/-- Credit `i` to device `c`: the receiver has released every slot up to the `i`th, and has waited for what was there. -/
def credPay (c : Dev nD) (ch : Fin 4) (i : ℕ) : sProp 𝕄 :=
  bigSep (Finset.range (i + 1)) fun i' => iprop(released ES (nxt ch c, ch, i') 1 ∗ reached ER (recvCell (nxt ch c) ch (sl (i' + 3))) ((i' + 3) / 4))
/-- Half of the barrier: the three free slots of the two channels of ring `r` of the neighbour it sends to. -/
def barPay (c : Dev nD) (r : ℕ) : sProp 𝕄 :=
  if r = 0 then iprop(bigSep (Finset.range 3) (fun g => anySlot (F := F) (nxt 0 c) 0 (sl (g + 1))) ∗ bigSep (Finset.range 3) (fun g => anySlot (F := F) (nxt 1 c) 1 (sl (g + 1))))
  else iprop(bigSep (Finset.range 3) (fun g => anySlot (F := F) (nxt 2 c) 2 (sl (g + 1))) ∗ bigSep (Finset.range 3) (fun g => anySlot (F := F) (nxt 3 c) 3 (sl (g + 1))))

instance credPay_persistent (c : Dev nD) (ch : Fin 4) (i : ℕ) : BI.Persistent (credPay (F := F) c ch i) := by unfold credPay; infer_instance

def rdDuties (k : Option CellK) (r : ℕ) : Finset ℕ := match k with
  | some (.inl (_, k)) => if 4 * r + k.val < 30 then {0} else ∅
  | some (.inr (.inl (_, k))) => if 4 * r + k.val < 30 then {0} else ∅
  | some (.inr (.inr (.inl _))) => if r = 0 then Finset.range 27 else ∅
  | some (.inr (.inr (.inr _))) => if r = 0 then {0, 1} else ∅
  | none => ∅

def rdAmount (k : Option CellK) : ℕ := match k with
  | some (.inl _) => N
  | some (.inr (.inl _)) => N
  | _ => 1

def rdPayload (c : Dev nD) (k : Option CellK) (r d : ℕ) : sProp 𝕄 := match k with
  | some (.inl (ch, k)) => sendPay m ρ c ch (4 * r + k.val)
  | some (.inr (.inl (ch, k))) => recvPay m ρ c ch (4 * r + k.val)
  | some (.inr (.inr (.inl ch))) => credPay c ch d
  | some (.inr (.inr (.inr _))) => barPay c d
  | none => iprop(emp)

def ringRd : Rounds.Schedule (GSem nD τ sig) ℕ 𝕄 where
  duties g r := if g.1.2 = .tc then rdDuties (roleOf g.2) r else ∅
  unitless _ := False
  amount g _ _ := rdAmount (roleOf g.2)
  payload g r d := rdPayload m ρ g.1.1 (roleOf g.2) r d
  amount_pos g _ _ _ := by
    unfold rdAmount; split
    · exact N_pos
    · exact N_pos
    · exact Nat.one_pos

instance ringRd_payload_storable (g : GSem nD τ sig) (r d : ℕ) : BI.Storable (upEmb : UEmb _ 𝕄) ((ringRd (F := F) m ρ).payload g r d) := by
  show BI.Storable upEmb (rdPayload m ρ g.1.1 (roleOf g.2) r d)
  unfold rdPayload
  split
  · unfold sendPay; infer_instance
  · unfold recvPay; infer_instance
  · unfold credPay; infer_instance
  · unfold barPay; split <;> infer_instance
  · infer_instance

section Sched
variable (c : Dev nD) (ch k : Fin 4)

theorem sl_val (g : ℕ) : 4 * (g / 4) + (sl g).val = g := by show 4 * (g / 4) + g % 4 = g; omega

theorem duties_send {g : ℕ} (hg : g < 30) : (ringRd (F := F) m ρ).duties (sendCell c ch (sl g)) (g / 4) = {0} := by
  dsimp only [ringRd]; rw [if_pos rfl, roleOf_send]; dsimp only [rdDuties]; rw [sl_val, if_pos hg]
theorem duties_recv {g : ℕ} (hg : g < 30) : (ringRd (F := F) m ρ).duties (recvCell c ch (sl g)) (g / 4) = {0} := by
  dsimp only [ringRd]; rw [if_pos rfl, roleOf_recv]; dsimp only [rdDuties]; rw [sl_val, if_pos hg]
theorem duties_cred : (ringRd (F := F) m ρ).duties (credCell c ch) 0 = Finset.range 27 := by
  dsimp only [ringRd]; rw [if_pos rfl, roleOf_cred]; rfl
theorem duties_bar : (ringRd (F := F) m ρ).duties (barCell c) 0 = {0, 1} := by
  dsimp only [ringRd]; rw [if_pos rfl, roleOf_bar]; rfl

theorem amount_send (r d : ℕ) : (ringRd (F := F) m ρ).amount (sendCell c ch k) r d = N := by dsimp only [ringRd]; rw [roleOf_send]; rfl
theorem amount_recv (r d : ℕ) : (ringRd (F := F) m ρ).amount (recvCell c ch k) r d = N := by dsimp only [ringRd]; rw [roleOf_recv]; rfl
theorem amount_cred (r d : ℕ) : (ringRd (F := F) m ρ).amount (credCell c ch) r d = 1 := by dsimp only [ringRd]; rw [roleOf_cred]; rfl
theorem amount_bar (r d : ℕ) : (ringRd (F := F) m ρ).amount (barCell c) r d = 1 := by dsimp only [ringRd]; rw [roleOf_bar]; rfl

theorem expect_send {g : ℕ} (hg : g < 30) : (ringRd (F := F) m ρ).expect (sendCell c ch (sl g)) (g / 4) = N := by
  unfold Schedule.expect Schedule.amountOf; rw [duties_send m ρ c ch hg, Finset.sum_singleton, amount_send]
theorem expect_recv {g : ℕ} (hg : g < 30) : (ringRd (F := F) m ρ).expect (recvCell c ch (sl g)) (g / 4) = N := by
  unfold Schedule.expect Schedule.amountOf; rw [duties_recv m ρ c ch hg, Finset.sum_singleton, amount_recv]
theorem expect_cred : (ringRd (F := F) m ρ).expect (credCell c ch) 0 = 27 := by
  unfold Schedule.expect Schedule.amountOf; rw [duties_cred, Finset.sum_congr rfl (fun d _ => amount_cred m ρ c ch 0 d)]; rfl
theorem expect_bar : (ringRd (F := F) m ρ).expect (barCell c) 0 = 2 := by
  unfold Schedule.expect Schedule.amountOf; rw [duties_bar, Finset.sum_congr rfl (fun d _ => amount_bar m ρ c 0 d)]; rfl

theorem payload_send (g d : ℕ) : (ringRd (F := F) m ρ).payload (sendCell c ch (sl g)) (g / 4) d = sendPay m ρ c ch g := by
  dsimp only [ringRd]; rw [roleOf_send]; dsimp only [rdPayload]; rw [sl_val]
theorem payload_recv (g d : ℕ) : (ringRd (F := F) m ρ).payload (recvCell c ch (sl g)) (g / 4) d = recvPay m ρ c ch g := by
  dsimp only [ringRd]; rw [roleOf_recv]; dsimp only [rdPayload]; rw [sl_val]
theorem payload_cred (r d : ℕ) : (ringRd (F := F) m ρ).payload (credCell c ch) r d = credPay c ch d := by
  dsimp only [ringRd]; rw [roleOf_cred]; rfl
theorem payload_bar (r d : ℕ) : (ringRd (F := F) m ρ).payload (barCell c) r d = barPay c d := by
  dsimp only [ringRd]; rw [roleOf_bar]; rfl

/-- No duties once every transfer, credit or barrier signal has been taken. -/
theorem duties_send_end {r : ℕ} (h : 30 ≤ 4 * r + k.val) : ∀ r', r ≤ r' → (ringRd (F := F) m ρ).duties (sendCell c ch k) r' = ∅ := fun r' hr => by
  dsimp only [ringRd]; rw [if_pos rfl, roleOf_send]; dsimp only [rdDuties]; rw [if_neg (by omega)]
theorem duties_recv_end {r : ℕ} (h : 30 ≤ 4 * r + k.val) : ∀ r', r ≤ r' → (ringRd (F := F) m ρ).duties (recvCell c ch k) r' = ∅ := fun r' hr => by
  dsimp only [ringRd]; rw [if_pos rfl, roleOf_recv]; dsimp only [rdDuties]; rw [if_neg (by omega)]
theorem duties_cred_end : ∀ r', 1 ≤ r' → (ringRd (F := F) m ρ).duties (credCell c ch) r' = ∅ := fun r' hr => by
  dsimp only [ringRd]; rw [if_pos rfl, roleOf_cred]; dsimp only [rdDuties]; rw [if_neg (by omega)]
theorem duties_bar_end : ∀ r', 1 ≤ r' → (ringRd (F := F) m ρ).duties (barCell c) r' = ∅ := fun r' hr => by
  dsimp only [ringRd]; rw [if_pos rfl, roleOf_bar]; dsimp only [rdDuties]; rw [if_neg (by omega)]

end Sched

/-! ## Levels -/

def L (g : GSem nD τ sig) : Finset ℕ := if g.1.2 = .tc then Finset.range 30 else ∅
def lvOf (k : Option CellK) (ι : ℕ) : ℕ := match k with
  | some (.inl (_, k)) => 4 * (4 * ι + k.val) + 3
  | some (.inr (.inl (_, k))) => 4 * (4 * ι + k.val) + 4
  | some (.inr (.inr (.inl _))) => 4 * ι + 6
  | some (.inr (.inr (.inr _))) => 1
  | none => 0
def lv (g : GSem nD τ sig) (ι : ℕ) : ℕ := lvOf (roleOf g.2) ι

theorem L_tc (c : Dev nD) (sm : SemLoc sig) : L ((c : Thread nD τ), sm) = Finset.range 30 := if_pos rfl
theorem L_of_ne (g : GSem nD τ sig) (h : g.1.2 ≠ .tc) : L g = ∅ := if_neg h
theorem lv_send (c : Dev nD) (ch : Fin 4) (g : ℕ) : lv (sendCell c ch (sl g)) (g / 4) = 4 * g + 3 := by
  unfold lv; rw [roleOf_send]; dsimp only [lvOf]; rw [sl_val]
theorem lv_recv (c : Dev nD) (ch : Fin 4) (g : ℕ) : lv (recvCell c ch (sl g)) (g / 4) = 4 * g + 4 := by
  unfold lv; rw [roleOf_recv]; dsimp only [lvOf]; rw [sl_val]
theorem lv_cred (c : Dev nD) (ch : Fin 4) (i : ℕ) : lv (credCell c ch) i = 4 * i + 6 := by unfold lv; rw [roleOf_cred]; rfl
theorem lv_bar (c : Dev nD) (i : ℕ) : lv (barCell c) i = 1 := by unfold lv; rw [roleOf_bar]; rfl

/-! ## What a device owes -/

def owCh (c : Dev nD) (ch : Fin 4) (a b : ℕ) : CellTallies nD τ sig ℕ :=
  (∑ g ∈ Finset.Ico a 30, tallyAt (recvCell (nxt ch c) ch (sl g)) (g / 4) N) + ∑ i ∈ Finset.Ico b 27, tallyAt (credCell (prv ch c) ch) i 1
/-- Device `c` with `a ch` transfers issued and `b ch` credits given on channel `ch`. -/
def OW (c : Dev nD) (a b : Fin 4 → ℕ) : CellTallies nD τ sig ℕ := ∑ ch, owCh c ch (a ch) (b ch)

/-- The two barrier signals, the first to the left. -/
abbrev owB1 (c : Dev nD) : CellTallies nD τ sig ℕ := tallyAt (barCell (succD c)) 0 1
abbrev owB0 (c : Dev nD) : CellTallies nD τ sig ℕ := tallyAt (barCell (predD c)) 0 1
def O₀ (c : Dev nD) : CellTallies nD τ sig ℕ := OW c (fun _ => 0) (fun _ => 0) + owB1 c + owB0 c

theorem sum_Ico_bot {A : Type} [AddCommMonoid A] (f : ℕ → A) {a b : ℕ} (h : a < b) : ∑ g ∈ Finset.Ico a b, f g = f a + ∑ g ∈ Finset.Ico (a + 1) b, f g := by
  have e : Finset.Ico a b = insert a (Finset.Ico (a + 1) b) := by
    ext x; simp only [Finset.mem_Ico, Finset.mem_insert]; omega
  rw [e, Finset.sum_insert (by simp)]

theorem OW_send (c : Dev nD) (ch : Fin 4) (a b : Fin 4 → ℕ) {g : ℕ} (ha : a ch = g) (hg : g < 30) :
    OW c a b = OW c (Function.update a ch (g + 1)) b + tallyAt (recvCell (nxt ch c) ch (sl g)) (g / 4) N := by
  unfold OW
  have e : owCh c ch (a ch) (b ch) = owCh c ch (g + 1) (b ch) + tallyAt (recvCell (nxt ch c) ch (sl g)) (g / 4) N := by
    unfold owCh
    rw [ha, sum_Ico_bot _ hg, add_assoc, add_assoc, add_comm]
    rw [add_assoc]
  rw [← Finset.add_sum_erase _ _ (Finset.mem_univ ch), ← Finset.add_sum_erase _ (fun ch' => owCh c ch' (Function.update a ch (g + 1) ch') (b ch')) (Finset.mem_univ ch)]
  rw [Function.update_self, e]
  rw [Finset.sum_congr rfl (fun ch' h => by rw [Function.update_of_ne (Finset.ne_of_mem_erase h)] : ∀ ch' ∈ Finset.univ.erase ch, owCh c ch' (Function.update a ch (g + 1) ch') (b ch') = owCh c ch' (a ch') (b ch'))]
  rw [add_right_comm]

theorem OW_cred (c : Dev nD) (ch : Fin 4) (a b : Fin 4 → ℕ) {i : ℕ} (hb : b ch = i) (hi : i < 27) :
    OW c a b = OW c a (Function.update b ch (i + 1)) + tallyAt (credCell (prv ch c) ch) i 1 := by
  unfold OW
  have e : owCh c ch (a ch) (b ch) = owCh c ch (a ch) (i + 1) + tallyAt (credCell (prv ch c) ch) i 1 := by
    unfold owCh
    rw [hb, sum_Ico_bot _ hi, add_assoc]
    congr 1
    rw [add_comm]
  rw [← Finset.add_sum_erase _ _ (Finset.mem_univ ch), ← Finset.add_sum_erase _ (fun ch' => owCh c ch' (a ch') (Function.update b ch (i + 1) ch')) (Finset.mem_univ ch)]
  rw [Function.update_self, e]
  rw [Finset.sum_congr rfl (fun ch' h => by rw [Function.update_of_ne (Finset.ne_of_mem_erase h)] : ∀ ch' ∈ Finset.univ.erase ch, owCh c ch' (a ch') (Function.update b ch (i + 1) ch') = owCh c ch' (a ch') (b ch'))]
  rw [add_right_comm]

theorem OW_end (c : Dev nD) (a b : Fin 4 → ℕ) (ha : ∀ ch, 30 ≤ a ch) (hb : ∀ ch, 27 ≤ b ch) : OW c a b = 0 := by
  unfold OW owCh
  refine Finset.sum_eq_zero fun ch _ => ?_
  rw [Finset.Ico_eq_empty_of_le (ha ch), Finset.Ico_eq_empty_of_le (hb ch), Finset.sum_empty, Finset.sum_empty, add_zero]

theorem sum_tally_pos {ι : Type} (s : Finset ι) (f : ι → CellTallies nD τ sig ℕ) {g : GSem nD τ sig} {u : ℕ} (h : 0 < (∑ i ∈ s, f i) g u) : ∃ i ∈ s, 0 < f i g u := by
  classical
  induction s using Finset.induction_on with
  | empty => exact absurd h (by simp)
  | insert x s hx ih =>
    rw [Finset.sum_insert hx, Pi.add_apply, Finsupp.add_apply] at h
    rcases Nat.eq_zero_or_pos (f x g u) with h0 | h0
    · rw [h0, Nat.zero_add] at h
      obtain ⟨i, hi, h'⟩ := ih h
      exact ⟨i, Finset.mem_insert_of_mem hi, h'⟩
    · exact ⟨x, Finset.mem_insert_self _ _, h0⟩

theorem tallyAt_pos {g g' : GSem nD τ sig} {u u' n : ℕ} (h : 0 < (tallyAt g u n : CellTallies nD τ sig ℕ) g' u') : g' = g ∧ u' = u := by
  rw [tallyAt_apply] at h
  by_contra hn
  rw [if_neg hn] at h
  exact Nat.lt_irrefl 0 h

theorem OW_pos {c : Dev nD} {a b : Fin 4 → ℕ} {g : GSem nD τ sig} {u : ℕ} (h : 0 < OW c a b g u) :
    ∃ ch, (∃ t, a ch ≤ t ∧ t < 30 ∧ g = recvCell (nxt ch c) ch (sl t) ∧ u = t / 4) ∨ (∃ i, b ch ≤ i ∧ i < 27 ∧ g = credCell (prv ch c) ch ∧ u = i) := by
  unfold OW at h
  obtain ⟨ch, -, h⟩ := sum_tally_pos _ _ h
  refine ⟨ch, ?_⟩
  unfold owCh at h
  rw [Pi.add_apply, Finsupp.add_apply] at h
  rcases Nat.eq_zero_or_pos ((∑ t ∈ Finset.Ico (a ch) 30, tallyAt (recvCell (nxt ch c) ch (sl t)) (t / 4) N : CellTallies nD τ sig ℕ) g u) with h0 | h0
  · right
    rw [h0, Nat.zero_add] at h
    obtain ⟨i, hi, h⟩ := sum_tally_pos _ _ h
    have := tallyAt_pos h
    exact ⟨i, (Finset.mem_Ico.mp hi).1, (Finset.mem_Ico.mp hi).2, this.1, this.2⟩
  · left
    obtain ⟨t, ht, h⟩ := sum_tally_pos _ _ h0
    have := tallyAt_pos h
    exact ⟨t, (Finset.mem_Ico.mp ht).1, (Finset.mem_Ico.mp ht).2, this.1, this.2⟩

/-- A device may wait on a cell below everything it still owes. -/
theorem mayWait_of (c : Dev nD) (sm : SemLoc sig) (ι bnd : ℕ) (a b : Fin 4 → ℕ) (hι : ι < 30) (hl : lv ((c : Thread nD τ), sm) ι ≤ bnd)
    (ha : ∀ ch, a ch < 30 → bnd < 4 * a ch + 4) (hb : ∀ ch, b ch < 27 → bnd < 4 * b ch + 6) :
    (levAts L lv : sProp 𝕄) ⊢ MayWait (c : Thread nD τ) sm ι (OW c a b) :=
  MayOwe.of_cut (L := L) (lev := lv) bnd
    (fun p hp => by rw [Finset.mem_singleton.mp hp, L_tc]; exact Finset.mem_range.mpr hι)
    (fun g u hg => by
      obtain ⟨ch, ⟨t, -, ht, rfl, rfl⟩ | ⟨i, -, hi, rfl, rfl⟩⟩ := OW_pos hg
      · rw [L_tc]; exact Finset.mem_range.mpr (by omega)
      · rw [L_tc]; exact Finset.mem_range.mpr (by omega))
    (fun p hp => by rw [Finset.mem_singleton.mp hp]; exact hl)
    (fun g u hg => by
      obtain ⟨ch, ⟨t, h1, ht, rfl, rfl⟩ | ⟨i, h1, hi, rfl, rfl⟩⟩ := OW_pos hg
      · rw [lv_recv]; have := ha ch (by omega); omega
      · rw [lv_cred]; have := hb ch (by omega); omega)

theorem O₀_pos {c : Dev nD} {g : GSem nD τ sig} {u : ℕ} (h : 0 < O₀ c g u) : u < 30 ∧ g.1.2 = .tc ∧ 0 < lv g u := by
  unfold O₀ at h
  rw [Pi.add_apply, Finsupp.add_apply, Pi.add_apply, Finsupp.add_apply] at h
  rcases Nat.eq_zero_or_pos (OW c (fun _ => 0) (fun _ => 0) g u) with h0 | h0
  · rw [h0, Nat.zero_add] at h
    rcases Nat.eq_zero_or_pos (owB1 c g u) with h1 | h1
    · rw [h1, Nat.zero_add] at h
      obtain ⟨rfl, rfl⟩ := tallyAt_pos h
      refine ⟨by decide, rfl, ?_⟩; rw [lv_bar]; decide
    · obtain ⟨rfl, rfl⟩ := tallyAt_pos h1
      refine ⟨by decide, rfl, ?_⟩; rw [lv_bar]; decide
  · obtain ⟨ch, ⟨t, -, ht, rfl, rfl⟩ | ⟨i, -, hi, rfl, rfl⟩⟩ := OW_pos h0
    · refine ⟨by omega, rfl, ?_⟩; rw [lv_recv]; omega
    · refine ⟨by omega, rfl, ?_⟩; rw [lv_cred]; omega

/-- The staging waits are below everything. -/
theorem mayWait_stage (c : Dev nD) (q : DmaSem sig) (hq : roleOf (.dma q) = none) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0
      (fun p hp => by rw [Finset.mem_singleton.mp hp, L_tc]; exact Finset.mem_range.mpr (show 0 < 30 by decide))
      (fun g u hg => by
        obtain ⟨h1, h2, -⟩ := O₀_pos hg
        unfold L; rw [if_pos h2]; exact Finset.mem_range.mpr h1)
      (fun p hp => by rw [Finset.mem_singleton.mp hp]; show lvOf (roleOf (.dma q)) 0 ≤ 0; rw [hq]; exact Nat.le_refl _)
      (fun g u hg => (O₀_pos hg).2.2)
  · rw [MayWait_zero]; iintro -; iempintro

end Cert.KernelIdeal.Ring

end
-- ==== Proof.KernelIdeal.Stage.lean ====
/-
The steps of the protocol on one channel, each stated for the operation the program performs: a wait
for a completed send, a credit given, a wait for a received block, a wait for a credit, a send; and
the loads and stores of a slot and of the output array.
-/
module

public import proofs.«01_k».proof.Proof.KernelIdeal.Sched
public import Idealize.ShloMosaic.Lib.ViewIndex

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## Conjunctions over an interval -/

section Big
variable {M : Type} [URA M]

theorem big_Ico_bot (Φ : ℕ → sProp M) {a b : ℕ} (h : a < b) : bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl

theorem big_Ico_top (Φ : ℕ → sProp M) {a b : ℕ} (h : a ≤ b) : bigSep (Finset.Ico a (b + 1)) Φ = iprop(Φ b ∗ bigSep (Finset.Ico a b) Φ) := by
  have e : Finset.Ico a (b + 1) = insert b (Finset.Ico a b) := by
    ext x; simp only [Finset.mem_Ico, Finset.mem_insert]; omega
  rw [e, bigSep_insert (by simp)]; rfl

theorem big_Ico_nil (Φ : ℕ → sProp M) {a b : ℕ} (h : b ≤ a) : bigSep (Finset.Ico a b) Φ = iprop(emp) := by
  rw [Finset.Ico_eq_empty_of_le h, bigSep_empty]; rfl

theorem big_range_succ (Φ : ℕ → sProp M) (n : ℕ) : bigSep (Finset.range (n + 1)) Φ = iprop(Φ n ∗ bigSep (Finset.range n) Φ) := by
  rw [Finset.range_add_one, bigSep_insert (by simp)]; rfl

/-- A counter per slot, `n` counted in all: the `k`th slot's count. -/
theorem big_pos_at (P : Fin 4 → ℕ → sProp M) {n g : ℕ} (h1 : n ≤ g) (h2 : g < n + 4) :
    bigSep Finset.univ (fun k : Fin 4 => P k ((n + 3 - k.val) / 4))
      = iprop(P (sl g) (g / 4) ∗ bigSep (Finset.univ.erase (sl g)) (fun k : Fin 4 => P k ((n + 3 - k.val) / 4))) := by
  rw [bigSep_erase (Finset.mem_univ (sl g))]
  have e : (n + 3 - (sl g).val) / 4 = g / 4 := by show (n + 3 - g % 4) / 4 = g / 4; omega
  rw [e]; rfl
theorem big_pos (P : Fin 4 → ℕ → sProp M) (g : ℕ) :
    bigSep Finset.univ (fun k : Fin 4 => P k ((g + 3 - k.val) / 4))
      = iprop(P (sl g) (g / 4) ∗ bigSep (Finset.univ.erase (sl g)) (fun k : Fin 4 => P k ((g + 3 - k.val) / 4))) := big_pos_at P le_rfl (by omega)

theorem big_pos_succ (P : Fin 4 → ℕ → sProp M) (g : ℕ) :
    bigSep Finset.univ (fun k : Fin 4 => P k ((g + 1 + 3 - k.val) / 4))
      = iprop(P (sl g) (g / 4 + 1) ∗ bigSep (Finset.univ.erase (sl g)) (fun k : Fin 4 => P k ((g + 3 - k.val) / 4))) := by
  rw [bigSep_erase (Finset.mem_univ (sl g))]
  have e : (g + 1 + 3 - (sl g).val) / 4 = g / 4 + 1 := by show (g + 1 + 3 - g % 4) / 4 = g / 4 + 1; omega
  rw [e]
  have e2 : bigSep (Finset.univ.erase (sl g)) (fun k : Fin 4 => P k ((g + 1 + 3 - k.val) / 4)) = bigSep (Finset.univ.erase (sl g)) (fun k : Fin 4 => P k ((g + 3 - k.val) / 4)) := by
    refine bigSep_congr fun k hk => ?_
    have hne : k.val ≠ g % 4 := fun h => Finset.ne_of_mem_erase hk (Fin.ext h)
    have := k.isLt
    have e3 : (g + 1 + 3 - k.val) / 4 = (g + 3 - k.val) / 4 := by omega
    rw [e3]
  rw [e2]; rfl

end Big

/-! ## What everyone knows -/

theorem big_elim {I M : Type} [DecidableEq I] [URA M] {s : Finset I} (Φ : I → sProp M) {i : I} (h : i ∈ s) : bigSep s Φ ⊢ Φ i := bigSep_elim h

variable (K : Dev nD × CellK → ℕ) (κs : RKey → ℕ)

/-- The slots whose release a credit announces. -/
def rkeys : Finset RKey := Finset.univ ×ˢ (Finset.univ ×ˢ Finset.range 27)

abbrev keySlot (k : RKey) : sProp 𝕄 := anySlot (F := F) k.1 k.2.1 (sl k.2.2)

/-- The levels, as one fact. -/
def levs : sProp 𝕄 := levAts L lv
instance levs_persistent : BI.Persistent (levs (F := F)) := by unfold levs; infer_instance

def PERS : sProp 𝕄 :=
  iprop(bigSep Finset.univ (fun ck : Dev nD × CellK => cellInv ER (ringRd m ρ) (K ck) (kcell ck))
    ∗ bigSep Finset.univ (fun ck : Dev nD × CellK => reached ER (kcell ck) 0)
    ∗ bigSep rkeys (fun k => slotInv ES (κs k) k (keySlot (F := F) k))
    ∗ levs (F := F))

instance PERS_persistent : BI.Persistent (PERS (F := F) m ρ K κs) := by unfold PERS; infer_instance

theorem pers_inv (ck : Dev nD × CellK) : PERS m ρ K κs ⊢ cellInv ER (ringRd m ρ) (K ck) (kcell ck) := by
  unfold PERS; iintro ⟨H, -, -, -⟩
  iapply (big_elim (fun ck : Dev nD × CellK => cellInv ER (ringRd m ρ) (K ck) (kcell ck)) (Finset.mem_univ ck)); iexact H
theorem pers_reached (ck : Dev nD × CellK) : PERS m ρ K κs ⊢ reached ER (kcell ck) 0 := by
  unfold PERS; iintro ⟨-, H, -, -⟩
  iapply (big_elim (fun ck : Dev nD × CellK => reached ER (kcell ck) 0) (Finset.mem_univ ck)); iexact H
theorem pers_slot (c : Dev nD) (ch : Fin 4) {i : ℕ} (hi : i < 27) : PERS m ρ K κs ⊢ slotInv ES (κs (c, ch, i)) (c, ch, i) (anySlot (F := F) c ch (sl i)) := by
  unfold PERS; iintro ⟨-, -, H, -⟩
  iapply (big_elim (fun k => slotInv ES (κs k) k (keySlot (F := F) k)) (i := (c, ch, i))
    (Finset.mem_product.mpr ⟨Finset.mem_univ _, Finset.mem_product.mpr ⟨Finset.mem_univ _, Finset.mem_range.mpr hi⟩⟩)); iexact H
theorem pers_lev : PERS m ρ K κs ⊢ levs (F := F) := by
  unfold PERS; iintro ⟨-, -, -, H⟩; iexact H

/-! ## The pieces of a channel's state -/

section Pieces
variable (c : Dev nD) (ch : Fin 4)

/-- The tokens of the transfers from `n` on. -/
def toks (n : ℕ) : sProp 𝕄 :=
  bigSep (Finset.Ico n 30) fun g => iprop(dutyTok ER (sendCell c ch (sl g)) (g / 4) 0 ∗ dutyTok ER (recvCell (nxt ch c) ch (sl g)) (g / 4) 0)
/-- The transfers `a` to `b` in flight: the right to wait for them, and the half of the source kept. -/
def fl (a b : ℕ) : sProp 𝕄 :=
  bigSep (Finset.Ico a b) fun g => iprop(cred (tallyAt (sendCell c ch (sl g)) (g / 4) N) ∗ slotPts c ch (sl g) fullShare.left (sv m ρ ch c g))
/-- The right to wait for the receives from `n` on. -/
def rcr (n : ℕ) : sProp 𝕄 := bigSep (Finset.Ico n 30) fun g => cred (tallyAt (recvCell c ch (sl g)) (g / 4) N)
/-- Where the waits on one slot's semaphore stand. -/
def atS (k : Fin 4) (r : ℕ) : sProp 𝕄 := iprop(atPos ER (sendCell c ch k) r ∅ 0 ∗ reached ER (sendCell c ch k) r)
def atR (k : Fin 4) (r : ℕ) : sProp 𝕄 := iprop(atPos ER (recvCell c ch k) r ∅ 0 ∗ reached ER (recvCell c ch k) r)
/-- Where the waits for the sends, and for the receives, stand. -/
def posS (n : ℕ) : sProp 𝕄 :=
  bigSep Finset.univ fun k : Fin 4 => atS (F := F) c ch k ((n + 3 - k.val) / 4)
def posR (n : ℕ) : sProp 𝕄 :=
  bigSep Finset.univ fun k : Fin 4 => atR (F := F) c ch k ((n + 3 - k.val) / 4)
/-- Where the waits for credits stand, with what the credits so far said. -/
def posC (n : ℕ) : sProp 𝕄 :=
  if n < 27 then iprop(∃ T : Finset ℕ, atPos ER (credCell c ch) 0 T n ∗ bigSep T (fun d => credPay (F := F) c ch d))
  else atPos ER (credCell c ch) 1 ∅ 0
/-- The waits for credits from `n` on. -/
def cw (n : ℕ) : sProp 𝕄 :=
  iprop(bigSep (Finset.Ico n 27) (fun i => iprop(cred (tallyAt (credCell c ch) i 1) ∗ writeTok ES (nxt ch c, ch, i) 1)) ∗ posC (F := F) c ch n)
/-- The credits to give from `n` on. -/
def rel (n : ℕ) : sProp 𝕄 :=
  bigSep (Finset.Ico n 27) fun i => iprop(dutyTok ER (credCell (prv ch c) ch) 0 i ∗ readerAt ES (c, ch, i) 0)
/-- What the credits before `n` told. -/
def told (n : ℕ) : sProp 𝕄 :=
  bigSep (Finset.range n) fun i => iprop(released ES (c, ch, i) 1 ∗ reached ER (recvCell c ch (sl (i + 3))) ((i + 3) / 4))
/-- The neighbour's free slots, from transfer `n` on, handed over at the barrier. -/
def dst (n : ℕ) : sProp 𝕄 := bigSep (Finset.Ico n 3) fun g => anySlot (F := F) (nxt ch c) ch (sl (g + 1))
/-- The slots kept at the end. -/
def kept (n : ℕ) : sProp 𝕄 := bigSep (Finset.Ico 27 n) fun g => anySlot (F := F) c ch (sl g)

instance told_persistent (n : ℕ) : BI.Persistent (told (F := F) c ch n) := by unfold told; infer_instance

/-- What is owed, after whatever waits. -/
def owesE (O : CellTallies nD τ sig ℕ) : sProp 𝕄 := iprop(∃ W : Waits sig ℕ, owes (c : Thread nD τ) O W)

end Pieces

theorem credPay_eq_told (c : Dev nD) (ch : Fin 4) (i : ℕ) : (credPay c ch i : sProp 𝕄) = told (nxt ch c) ch (i + 1) := rfl

/-! ## The steps -/

section Steps
variable (c : Dev nD) (ch : Fin 4)
variable {α : Type} {Q : α → sProp (MT nD τ sig ℕ (Elt F) ℕ UU ℕ)} {k : PUnit → Prog (TpuEff nD τ sig (Elt F) Λ₀ .tc) α}

/-- A wait on a cell whose round is one transfer of `N`. -/
theorem wait_core {r κ : ℕ} {O : CellTallies nD τ sig ℕ} {W : Waits sig ℕ} {sm : DmaSem sig}
    {s' : Shape} {e' : EltTy} {src : Memref sig .tc .vmem s' e'} {D : Memref sig .tc .vmem S256x512 .f32} (hD : D.view.dmaCredit = N) {hs : src.view.WordExact} {hd : D.view.WordExact}
    (hdut : (ringRd m ρ).duties ((c : Thread nD τ), .dma sm) r = {0}) (hex : (ringRd m ρ).expect ((c : Thread nD τ), .dma sm) r = N)
    {P : sProp 𝕄} (hpay : (ringRd m ρ).payload ((c : Thread nD τ), .dma sm) r 0 = P) :
    iprop(cellInv ER (ringRd m ρ) κ ((c : Thread nD τ), .dma sm) ∗ cred (tallyAt ((c : Thread nD τ), .dma sm) r N) ∗ owes (c : Thread nD τ) O W
        ∗ MayWait (c : Thread nD τ) (.dma sm) r O ∗ atPos ER ((c : Thread nD τ), .dma sm) r ∅ 0)
      ⊢ iprop(((owes (c : Thread nD τ) O (insert (.dma sm, r) W) ∗ atPos ER ((c : Thread nD τ), .dma sm) (r + 1) ∅ 0
              ∗ reached ER ((c : Thread nD τ), .dma sm) (r + 1) ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src D hs hd) k) Q) := by
  have h := Rounds.wp_wait_rest_token 𝒱₀ ER (ringRd m ρ) (c : Thread nD τ) none (κ := κ) (k := k) (Q := Q)
      (wpE_waitDma2_eq (defs := defs₀ (F := F)) (src := src) (dst := D) (sem := sm) (hsrc := hs) (hdst := hd) 𝒱₀ (c : Thread nD τ) none Set.univ) (Set.mem_univ _) r (O := O) (W := W) (R := r) (m := 0) (T := ∅)
      (by rw [Nat.zero_add, hD, hex])
  rw [Finset.sdiff_empty, hdut, bigSep_singleton, hpay, hD] at h
  exact h

/-- A wait for a completed send: the source slot whole again. -/
theorem step_waitSend {g b : ℕ} (hgb : g < b) (hb : b ≤ 30) {O : CellTallies nD τ sig ℕ}
    (hmw : levs (F := F) ⊢ MayWait (c : Thread nD τ) (.dma (sendS ch (sl g))) (g / 4) O)
    {sm : DmaSem sig} (hsm : sm = sendS ch (sl g))
    {s' : Shape} {e' : EltTy} {src : Memref sig .tc .vmem s' e'} {D : Memref sig .tc .vmem S256x512 .f32} (hD : D.view.dmaCredit = N) {hs : src.view.WordExact} {hd : D.view.WordExact} :
    iprop(PERS m ρ K κs ∗ fl m ρ c ch g b ∗ posS (F := F) c ch g ∗ owesE (F := F) c O)
      ⊢ iprop(((fl m ρ c ch (g + 1) b ∗ posS (F := F) c ch (g + 1) ∗ owesE (F := F) c O ∗ slotPts c ch (sl g) fullShare (sv m ρ ch c g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src D hs hd) k) Q) := by
  subst hsm
  unfold fl posS owesE
  rw [big_Ico_bot _ hgb, big_pos (atS (F := F) c ch), big_pos_succ (atS (F := F) c ch)]
  unfold atS
  iintro ⟨#HP, Hfl, Hpos, Ho⟩ Hk
  icases Hfl with ⟨⟨Hc, Hl⟩, Hfl⟩
  icases Hpos with ⟨⟨Hat, -⟩, Hpos⟩
  icases Ho with ⟨%W, Ho⟩
  have hl : PERS m ρ K κs ⊢ levs (F := F) := pers_lev (F := F) m ρ K κs
  have hl2 : PERS m ρ K κs ⊢ MayWait (c : Thread nD τ) (.dma (sendS ch (sl g))) (g / 4) O := BIBase.Entails.trans hl hmw
  ihave HM := hl2 $$ [HP]
  · iexact HP
  iapply (wait_core m ρ c (κ := K (c, .inl (ch, sl g))) (r := g / 4) (O := O) (W := W) (sm := sendS ch (sl g)) hD (duties_send m ρ c ch (show g < 30 by omega)) (expect_send m ρ c ch (show g < 30 by omega))
      (payload_send m ρ c ch g 0)) $$ [Hc Ho Hat HM]
  · isplitr; · iapply (pers_inv m ρ K κs (c, .inl (ch, sl g))); iexact HP
    isplitl [Hc]
    · iexact Hc
    isplitl [Ho]; · iexact Ho
    isplitl [HM]; · iexact HM
    iexact Hat
  iintro ⟨Ho, Hat, #Hr, Hpay⟩
  iapply Hk
  isplitl [Hfl]; · iexact Hfl
  isplitl [Hat Hpos]
  · isplitl [Hat]
    · isplitl [Hat]; · iexact Hat
      iexact Hr
    iexact Hpos
  isplitl [Ho]; · iexists _; iexact Ho
  iapply (slotPts_split c ch (sl g) (sv m ρ ch c g)).2
  isplitl [Hl]; · iexact Hl
  iapply (Entails.of_eq (show sendPay m ρ c ch g = slotPts c ch (sl g) fullShare.right (sv m ρ ch c g) from rfl)); iexact Hpay

/-- A wait for a received block. -/
theorem step_waitRecv {g : ℕ} (hg : g < 30) {O : CellTallies nD τ sig ℕ}
    (hmw : levs (F := F) ⊢ MayWait (c : Thread nD τ) (.dma (recvS ch (sl g))) (g / 4) O)
    {sm : DmaSem sig} (hsm : sm = recvS ch (sl g))
    {s' : Shape} {e' : EltTy} {src : Memref sig .tc .vmem s' e'} {D : Memref sig .tc .vmem S256x512 .f32} (hD : D.view.dmaCredit = N) {hs : src.view.WordExact} {hd : D.view.WordExact} :
    iprop(PERS m ρ K κs ∗ rcr (F := F) c ch g ∗ posR (F := F) c ch g ∗ owesE (F := F) c O)
      ⊢ iprop(((rcr (F := F) c ch (g + 1) ∗ posR (F := F) c ch (g + 1) ∗ owesE (F := F) c O ∗ slotPts c ch (sl (g + 1)) fullShare (sv m ρ ch (prv ch c) g))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src D hs hd) k) Q) := by
  subst hsm
  unfold rcr posR owesE
  rw [big_Ico_bot _ hg, big_pos (atR (F := F) c ch), big_pos_succ (atR (F := F) c ch)]
  unfold atR
  iintro ⟨#HP, Hcr, Hpos, Ho⟩ Hk
  icases Hcr with ⟨Hc, Hcr⟩
  icases Hpos with ⟨⟨Hat, -⟩, Hpos⟩
  icases Ho with ⟨%W, Ho⟩
  have hl : PERS m ρ K κs ⊢ levs (F := F) := pers_lev (F := F) m ρ K κs
  have hl2 : PERS m ρ K κs ⊢ MayWait (c : Thread nD τ) (.dma (recvS ch (sl g))) (g / 4) O := BIBase.Entails.trans hl hmw
  ihave HM := hl2 $$ [HP]
  · iexact HP
  iapply (wait_core m ρ c (κ := K (c, .inr (.inl (ch, sl g)))) (r := g / 4) (O := O) (W := W) (sm := recvS ch (sl g)) hD (duties_recv m ρ c ch hg) (expect_recv m ρ c ch hg)
      (payload_recv m ρ c ch g 0)) $$ [Hc Ho Hat HM]
  · isplitr; · iapply (pers_inv m ρ K κs (c, .inr (.inl (ch, sl g)))); iexact HP
    isplitl [Hc]; · iexact Hc
    isplitl [Ho]; · iexact Ho
    isplitl [HM]; · iexact HM
    iexact Hat
  iintro ⟨Ho, Hat, #Hr, Hpay⟩
  iapply Hk
  isplitl [Hcr]; · iexact Hcr
  isplitl [Hat Hpos]
  · isplitl [Hat]
    · isplitl [Hat]; · iexact Hat
      iexact Hr
    iexact Hpos
  isplitl [Ho]; · iexists _; iexact Ho
  iapply (Entails.of_eq (show recvPay m ρ c ch g = slotPts c ch (sl (g + 1)) fullShare (sv m ρ ch (prv ch c) g) from rfl)); iexact Hpay

theorem anySlot_excl (c : Dev nD) (ch k : Fin 4) : iprop(anySlot (F := F) c ch k ∗ anySlot (F := F) c ch k) ⊢ (False : sProp 𝕄) := by
  unfold anySlot
  refine slot_slot_false ?_
  refine ⟨(sliceM ch k).view.emb (ix4 0 0 0 0), ?_⟩
  exact (sliceM ch k).view.emb_mem_set _

/-- What a wait for a send knows about its next use of the cell. -/
theorem posS_reached {n g : ℕ} (h1 : n ≤ g) (h2 : g < n + 4) : posS (F := F) c ch n ⊢ reached ER (sendCell c ch (sl g)) (g / 4) := by
  unfold posS
  rw [big_pos_at (atS (F := F) c ch) h1 h2]
  unfold atS
  iintro ⟨⟨-, H⟩, -⟩; iexact H
theorem posR_reached {n g : ℕ} (h1 : n ≤ g) (h2 : g < n + 4) : posR (F := F) c ch n ⊢ reached ER (recvCell c ch (sl g)) (g / 4) := by
  unfold posR
  rw [big_pos_at (atR (F := F) c ch) h1 h2]
  unfold atR
  iintro ⟨⟨-, H⟩, -⟩; iexact H

/-- A credit given: the slot goes to the neighbour that sends here. -/
theorem step_credit {i : ℕ} (hi : i < 27) {a b : Fin 4 → ℕ} (hb : b ch = i) {n : Dev nD} (hn : n = prv ch c) {sm : Sem sig} (hsm : sm = credS ch) :
    iprop(PERS m ρ K κs ∗ rel (F := F) c ch i ∗ told (F := F) c ch i ∗ posR (F := F) c ch (i + 1) ∗ anySlot (F := F) c ch (sl i) ∗ owesE (F := F) c (OW c a b))
      ⊢ iprop(((rel (F := F) c ch (i + 1) ∗ told (F := F) c ch (i + 1) ∗ posR (F := F) c ch (i + 1) ∗ owesE (F := F) c (OW c a (Function.update b ch (i + 1))))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm 1) k) Q) := by
  subst hn; subst hsm
  unfold rel owesE
  rw [big_Ico_bot _ hi]
  iintro ⟨#HP, Hrel, #Ht, Hpos, Hs, Ho⟩ Hk
  icases Hrel with ⟨⟨Htok, Hrd⟩, Hrel⟩
  icases Ho with ⟨%W, Ho⟩
  imod (slot_release ES (ι := κs (c, ch, i)) (Es := Set.univ) (k := (c, ch, i)) (Set.mem_univ _) (anySlot_excl c ch (sl i)) 0) $$ [Hrd Hs] with ⟨-, #Hrl⟩
  · isplitr; · iapply (pers_slot m ρ K κs c ch hi); iexact HP
    isplitl [Hrd]; · iexact Hrd
    iexact Hs
  ihave Hreach := (persistent_entails_right (posR_reached c ch (n := i + 1) (g := i + 3) (by omega) (by omega))) $$ Hpos
  icases Hreach with ⟨#Hre, Hpos⟩
  ihave #Ht' := (Entails.of_eq (show iprop((released ES (c, ch, i) 1 ∗ reached ER (recvCell c ch (sl (i + 3))) ((i + 3) / 4)) ∗ told (F := F) c ch i) = told (F := F) c ch (i + 1) from
      (big_range_succ (fun i => iprop(released ES (c, ch, i) 1 ∗ reached ER (recvCell c ch (sl (i + 3))) ((i + 3) / 4))) i).symm)) $$ []
  · isplitr
    · isplitr; · iexact Hrl
      iexact Hre
    iexact Ht
  iapply (Rounds.wp_signal 𝒱₀ ER (ringRd m ρ) (c : Thread nD τ) none (dst := (prv ch c : Thread nD τ)) (κ := K (prv ch c, .inr (.inr (.inl ch))))
      (r := 0) (d := i) (by rw [duties_cred]; exact Finset.mem_range.mpr hi) (amount_cred m ρ (prv ch c) ch 0 i) i (OW c a (Function.update b ch (i + 1)))
      (OW_cred c ch a b hb hi)) $$ [Ho Htok]
  · isplitr; · iapply (pers_inv m ρ K κs (prv ch c, .inr (.inr (.inl ch)))); iexact HP
    isplitl [Ho]; · iexact Ho
    isplitl [Htok]; · iexact Htok
    isplitr
    · rw [payload_cred, credPay_eq_told, show nxt ch (prv ch c) = c from nxt_prv _ _]; iexact Ht'
    iapply (pers_reached m ρ K κs (prv ch c, .inr (.inr (.inl ch)))); iexact HP
  iintro Ho
  iapply Hk
  isplitl [Hrel]; · iexact Hrel
  isplitr; · iexact Ht'
  isplitl [Hpos]; · iexact Hpos
  iexists W; iexact Ho

/-- What a transfer leaves at its landing. -/
theorem lands (A B : Memref sig .tc .vmem S1x1x256x512 .f32) (fd : B.view.ty.Contents (Elt F)) (y : Vec F S1x1x256x512 .f32) :
    B.view.read (Elt F) ((B.squeeze S256x512 squeezes_S1x1x256x512_S256x512).view.write (Elt F) fd
      ((A.squeeze S256x512 squeezes_S1x1x256x512_S256x512).view.read (Elt F) (A.view.rep y)) Finset.univ) = y := by
  funext x
  obtain ⟨x', rfl⟩ := (Shape.reshapeEquiv squeezes_S1x1x256x512_S256x512.numel_eq).surjective x
  refine (B.view.read_write_reshape squeezes_S1x1x256x512_S256x512.numel_eq fd _ x').trans ?_
  exact congrFun (View.read_rep A.view y) _

theorem set_squeeze (A : Memref sig .tc .vmem S1x1x256x512 .f32) : (A.squeeze S256x512 squeezes_S1x1x256x512_S256x512).view.set = A.view.set := View.set_reshape _ _

/-- A transfer between two half slots, whichever they are. -/
theorem send_core {n : Dev nD} (A B : Memref sig .tc .vmem S1x1x256x512 .f32) {sS sR : DmaSem sig} {κ₁ κ₂ r : ℕ} {y : Vec F S1x1x256x512 .f32}
    (hN : (B.squeeze S256x512 squeezes_S1x1x256x512_S256x512).view.dmaCredit = N)
    (hd₁ : 0 ∈ (ringRd m ρ).duties ((c : Thread nD τ), .dma sS) r) (hd₂ : 0 ∈ (ringRd m ρ).duties ((n : Thread nD τ), .dma sR) r)
    (hk₁ : (ringRd m ρ).amount ((c : Thread nD τ), .dma sS) r 0 = N) (hk₂ : (ringRd m ρ).amount ((n : Thread nD τ), .dma sR) r 0 = N)
    {O₀ : CellTallies nD τ sig ℕ} (O : CellTallies nD τ sig ℕ) (hO : O₀ = O + tallyAt ((n : Thread nD τ), .dma sR) r N) {W : Waits sig ℕ}
    (hp₁ : (ringRd m ρ).payload ((c : Thread nD τ), .dma sS) r 0 = (A.view.loc (c : Thread nD τ) ↦[A.view.set]{fullShare.right} A.view.rep y : sProp 𝕄))
    (hp₂ : (ringRd m ρ).payload ((n : Thread nD τ), .dma sR) r 0 = (B.view.loc (n : Thread nD τ) ↦[B.view.set]{fullShare} B.view.rep y : sProp 𝕄))
    {hsc : (B.squeeze S256x512 squeezes_S1x1x256x512_S256x512 : Memref sig (Dev.tc n : Thread nD τ).2.kind .vmem S256x512 .f32).view.ref.isScScratch = false}
    {hsrc : (A.squeeze S256x512 squeezes_S1x1x256x512_S256x512).view.WordExact}
    {hdst : (B.squeeze S256x512 squeezes_S1x1x256x512_S256x512 : Memref sig (Dev.tc n : Thread nD τ).2.kind .vmem S256x512 .f32).view.WordExact}
    {hsem : DmaTarget.Typed .vmem (.dma sR) (.remote (Dev.tc n : Thread nD τ) (B.squeeze S256x512 squeezes_S1x1x256x512_S256x512) (.dma sS) hsc)}
    (fd : B.view.ty.Contents (Elt F)) :
    iprop(cellInv ER (ringRd m ρ) κ₁ ((c : Thread nD τ), .dma sS) ∗ cellInv ER (ringRd m ρ) κ₂ ((n : Thread nD τ), .dma sR)
        ∗ (A.view.loc (c : Thread nD τ) ↦[A.view.set]{fullShare.right} A.view.rep y) ∗ (B.view.loc (n : Thread nD τ) ↦[B.view.set]{fullShare} fd)
        ∗ owes (c : Thread nD τ) O₀ W
        ∗ dutyTok ER ((c : Thread nD τ), .dma sS) r 0 ∗ reached ER ((c : Thread nD τ), .dma sS) r
        ∗ dutyTok ER ((n : Thread nD τ), .dma sR) r 0 ∗ reached ER ((n : Thread nD τ), .dma sR) r)
      ⊢ iprop(((cred (tallyAt ((c : Thread nD τ), .dma sS) r N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (A.squeeze S256x512 squeezes_S1x1x256x512_S256x512)
                (.remote (Dev.tc n : Thread nD τ) (B.squeeze S256x512 squeezes_S1x1x256x512_S256x512) (.dma sS) hsc) (.dma sR) hsrc hdst hsem) k) Q) := by
  have h := Rounds.wp_send_pointsTo 𝒱₀ ER (ringRd m ρ) (c : Thread nD τ) none (κ₁ := κ₁) (κ₂ := κ₂) (c' := (n : Thread nD τ)) (sS := .dma sS) (sem := .dma sR)
    (src := A.squeeze S256x512 squeezes_S1x1x256x512_S256x512) (dst := (B.squeeze S256x512 squeezes_S1x1x256x512_S256x512 : Memref sig (Dev.tc n : Thread nD τ).2.kind .vmem S256x512 .f32))
    (hsc := hsc) (hsrc := hsrc) (hdst := hdst) (hsem := hsem) (Γ := PendingWaitsCtx.empty) (defs := defs₀ (F := F)) (Es := Set.univ) (k := k) (Q := Q)
    (fs := A.view.rep y) (q := fullShare.right) (r₁ := r) (r₂ := r) (d₁ := 0) (d₂ := 0) (fd := fd)
    hd₁ hd₂ r r N hN hk₁ hk₂ O hO (W := W)
    (by rw [hp₁, set_squeeze])
    (by
      rw [hp₂]
      refine Entails.trans (Entails.of_eq ?_) (pointsTo_rep_of_read (n : Thread nD τ) B
        ((B.squeeze S256x512 squeezes_S1x1x256x512_S256x512).view.write (Elt F) fd
          ((A.squeeze S256x512 squeezes_S1x1x256x512_S256x512).view.read (Elt F) (A.view.rep y)) Finset.univ) fullShare y (lands A B fd y))
      exact congrArg (fun S => (B.view.loc (n : Thread nD τ) ↦[S]{fullShare} ((B.squeeze S256x512 squeezes_S1x1x256x512_S256x512).view.write (Elt F) fd
          ((A.squeeze S256x512 squeezes_S1x1x256x512_S256x512).view.read (Elt F) (A.view.rep y)) Finset.univ) : sProp 𝕄)) (set_squeeze B))
  have e1 : ((A.squeeze S256x512 squeezes_S1x1x256x512_S256x512).view.loc (c : Thread nD τ) ↦[(A.squeeze S256x512 squeezes_S1x1x256x512_S256x512).view.set]{fullShare.right} A.view.rep y : sProp 𝕄)
      = (A.view.loc (c : Thread nD τ) ↦[A.view.set]{fullShare.right} A.view.rep y : sProp 𝕄) :=
    congrArg (fun S => (A.view.loc (c : Thread nD τ) ↦[S]{fullShare.right} A.view.rep y : sProp 𝕄)) (set_squeeze A)
  have e2 : ((B.squeeze S256x512 squeezes_S1x1x256x512_S256x512).view.loc (n : Thread nD τ) ↦[(B.squeeze S256x512 squeezes_S1x1x256x512_S256x512).view.set]{fullShare} fd : sProp 𝕄)
      = (B.view.loc (n : Thread nD τ) ↦[B.view.set]{fullShare} fd : sProp 𝕄) :=
    congrArg (fun S => (B.view.loc (n : Thread nD τ) ↦[S]{fullShare} fd : sProp 𝕄)) (set_squeeze B)
  iintro ⟨HI1, HI2, Hs, Hd, Ho, Ht1, Hr1, Ht2, Hr2⟩
  ihave Hs' := (Entails.of_eq e1.symm) $$ Hs
  ihave Hd' := (Entails.of_eq e2.symm) $$ Hd
  iapply h
  isplitl [HI1]; · iexact HI1
  isplitl [HI2]; · iexact HI2
  isplitl [Hs']; · iexact Hs'
  isplitl [Hd']; · iexact Hd'
  isplitl [Ho]; · iexact Ho
  isplitl [Ht1]; · iexact Ht1
  isplitl [Hr1]; · iexact Hr1
  isplitl [Ht2]; · iexact Ht2
  iexact Hr2

/-- A send: the kept half of the source and the right to wait for the completion. -/
theorem step_send {g : ℕ} (hg : g < 30) {a b : Fin 4 → ℕ} (ha : a ch = g) {n : Dev nD} (hn : n = nxt ch c)
    {sS sR : DmaSem sig} (hS : sS = sendS ch (sl g)) (hR : sR = recvS ch (sl g))
    {M : Memref sig .tc .vmem S4x2x256x512 .f32} (hM : M = comm (ringOf ch))
    {os od : Fin 4 → ℕ} (hos : os = slotOff (sl g) (halfOf ch)) (hod : od = slotOff (sl (g + 1)) (halfOf ch))
    {his : ∀ a, os a + S1x1x256x512.size a ≤ S4x2x256x512.size a} {hid : ∀ a, od a + S1x1x256x512.size a ≤ S4x2x256x512.size a}
    {hsc : ((M.slice (Rect.unit (s := S4x2x256x512) od S1x1x256x512.size hid) (fun _ => rfl)).squeeze S256x512 squeezes_S1x1x256x512_S256x512 : Memref sig (Dev.tc n : Thread nD τ).2.kind .vmem S256x512 .f32).view.ref.isScScratch = false}
    {hsrc : ((M.slice (Rect.unit (s := S4x2x256x512) os S1x1x256x512.size his) (fun _ => rfl)).squeeze S256x512 squeezes_S1x1x256x512_S256x512).view.WordExact}
    {hdst : ((M.slice (Rect.unit (s := S4x2x256x512) od S1x1x256x512.size hid) (fun _ => rfl)).squeeze S256x512 squeezes_S1x1x256x512_S256x512 : Memref sig (Dev.tc n : Thread nD τ).2.kind .vmem S256x512 .f32).view.WordExact}
    {hsem : DmaTarget.Typed .vmem (.dma sR) (.remote (Dev.tc n : Thread nD τ) ((M.slice (Rect.unit (s := S4x2x256x512) od S1x1x256x512.size hid) (fun _ => rfl)).squeeze S256x512 squeezes_S1x1x256x512_S256x512) (.dma sS) hsc)} :
    iprop(PERS m ρ K κs ∗ toks (F := F) c ch g ∗ anySlot (F := F) (nxt ch c) ch (sl (g + 1)) ∗ reached ER (recvCell (nxt ch c) ch (sl g)) (g / 4)
        ∗ reached ER (sendCell c ch (sl g)) (g / 4) ∗ slotPts c ch (sl g) fullShare (sv m ρ ch c g) ∗ owesE (F := F) c (OW c a b))
      ⊢ iprop(((toks (F := F) c ch (g + 1) ∗ cred (tallyAt (sendCell c ch (sl g)) (g / 4) N) ∗ slotPts c ch (sl g) fullShare.left (sv m ρ ch c g)
              ∗ owesE (F := F) c (OW c (Function.update a ch (g + 1)) b))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S4x2x256x512) os S1x1x256x512.size his) (fun _ => rfl)).squeeze S256x512 squeezes_S1x1x256x512_S256x512)
                (.remote (Dev.tc n : Thread nD τ) ((M.slice (Rect.unit (s := S4x2x256x512) od S1x1x256x512.size hid) (fun _ => rfl)).squeeze S256x512 squeezes_S1x1x256x512_S256x512) (.dma sS) hsc)
                (.dma sR) hsrc hdst hsem) k) Q) := by
  subst hn; subst hS; subst hR; subst hM; subst hos; subst hod
  have hd1 : 0 ∈ (ringRd (F := F) m ρ).duties (sendCell c ch (sl g)) (g / 4) := by rw [duties_send m ρ c ch hg]; exact Finset.mem_singleton_self _
  have hd2 : 0 ∈ (ringRd (F := F) m ρ).duties (recvCell (nxt ch c) ch (sl g)) (g / 4) := by rw [duties_recv m ρ (nxt ch c) ch hg]; exact Finset.mem_singleton_self _
  have hp2 : (ringRd (F := F) m ρ).payload (recvCell (nxt ch c) ch (sl g)) (g / 4) 0 = slotPts (nxt ch c) ch (sl (g + 1)) fullShare (sv m ρ ch c g) := by
    rw [payload_recv]; unfold recvPay; rw [show prv ch (nxt ch c) = c from prv_nxt _ _]
  unfold toks owesE anySlot slot
  rw [big_Ico_bot _ hg]
  iintro ⟨#HP, Htok, Hd, #Hrr, #Hrs, Hs, Ho⟩ Hk
  icases Htok with ⟨⟨HtS, HtR⟩, Htok⟩
  icases Ho with ⟨%W, Ho⟩
  icases Hd with ⟨%fd, Hd⟩
  ihave Hs2 := (slotPts_split c ch (sl g) (sv m ρ ch c g)).1 $$ Hs
  icases Hs2 with ⟨Hl, Hr⟩
  iapply (send_core m ρ c (n := nxt ch c) (sliceM ch (sl g)) (sliceM ch (sl (g + 1))) (sS := sendS ch (sl g)) (sR := recvS ch (sl g))
    (κ₁ := K (c, .inl (ch, sl g))) (κ₂ := K (nxt ch c, .inr (.inl (ch, sl g)))) (r := g / 4) (y := sv m ρ ch c g)
    (credit_eq (ringOf ch) _) hd1 hd2 (amount_send m ρ c ch (sl g) _ _) (amount_recv m ρ (nxt ch c) ch (sl g) _ _)
    (OW c (Function.update a ch (g + 1)) b) (OW_send c ch a b ha hg) (W := W) (payload_send m ρ c ch g 0) hp2 fd) $$ [Hr Hd Ho HtS HtR]
  · isplitr; · iapply (pers_inv m ρ K κs (c, .inl (ch, sl g))); iexact HP
    isplitr; · iapply (pers_inv m ρ K κs (nxt ch c, .inr (.inl (ch, sl g)))); iexact HP
    isplitl [Hr]
    · iapply (Entails.of_eq (show slotPts c ch (sl g) fullShare.right (sv m ρ ch c g) = ((sliceM ch (sl g)).view.loc (c : Thread nD τ) ↦[(sliceM ch (sl g)).view.set]{fullShare.right} (sliceM ch (sl g)).view.rep (sv m ρ ch c g) : sProp 𝕄) from rfl)); iexact Hr
    isplitl [Hd]; · iexact Hd
    isplitl [Ho]; · iexact Ho
    isplitl [HtS]; · iexact HtS
    isplitr; · iexact Hrs
    isplitl [HtR]; · iexact HtR
    iexact Hrr
  iintro ⟨Hc, Ho⟩
  iapply Hk
  isplitl [Htok]; · iexact Htok
  isplitl [Hc]; · iexact Hc
  isplitl [Hl]; · iexact Hl
  iexists W; iexact Ho

theorem sl_add_four (i : ℕ) : sl (i + 4) = sl i := Fin.ext (by show (i + 4) % 4 = i % 4; omega)

theorem told_at (d : Dev nD) {i n : ℕ} (h : i < n) :
    told (F := F) d ch n ⊢ iprop(released ES (d, ch, i) 1 ∗ reached ER (recvCell d ch (sl (i + 3))) ((i + 3) / 4)) := by
  unfold told
  exact big_elim (fun i => iprop(released ES (d, ch, i) 1 ∗ reached ER (recvCell d ch (sl (i + 3))) ((i + 3) / 4))) (Finset.mem_range.mpr h)

/-- Any credit but the earliest ones tells that the slot of the `i`th is free. -/
theorem creds_tell (S : Finset ℕ) {i : ℕ} (h : ∃ d ∈ S, i ≤ d) :
    bigSep S (fun d => credPay (F := F) c ch d) ⊢ iprop(released ES (nxt ch c, ch, i) 1 ∗ reached ER (recvCell (nxt ch c) ch (sl (i + 3))) ((i + 3) / 4)) := by
  obtain ⟨d, hd, hi⟩ := h
  refine BIBase.Entails.trans (big_elim (fun d => credPay (F := F) c ch d) hd) ?_
  rw [credPay_eq_told]
  exact told_at ch (nxt ch c) (by omega)

theorem exists_ge_of_card {S : Finset ℕ} {i : ℕ} (h : i < S.card) : ∃ d ∈ S, i ≤ d := by
  by_contra hc
  push Not at hc
  have : S ⊆ Finset.range i := fun d hd => Finset.mem_range.mpr (hc d hd)
  have := Finset.card_le_card this
  rw [Finset.card_range] at this; omega

/-- A wait for one credit, with what the credits so far tell. -/
theorem credit_core {i : ℕ} (hi : i < 27) {κ : ℕ} {O : CellTallies nD τ sig ℕ} {W : Waits sig ℕ} {T : Finset ℕ} :
    iprop(cellInv ER (ringRd m ρ) κ (credCell c ch) ∗ cred (tallyAt (credCell c ch) i 1) ∗ owes (c : Thread nD τ) O W
        ∗ MayWait (c : Thread nD τ) (.reg (credS ch)) i O ∗ atPos ER (credCell c ch) 0 T i ∗ bigSep T (fun d => credPay (F := F) c ch d))
      ⊢ iprop(((owesE (F := F) c O ∗ posC (F := F) c ch (i + 1)
              ∗ released ES (nxt ch c, ch, i) 1 ∗ reached ER (recvCell (nxt ch c) ch (sl (i + 3))) ((i + 3) / 4))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (credS ch) 1) k) Q) := by
  have hpay : ∀ S : Finset ℕ, bigSep S (fun d => (ringRd (F := F) m ρ).payload (credCell c ch) 0 d) = bigSep S (fun d => credPay (F := F) c ch d) :=
    fun S => bigSep_congr fun d _ => payload_cred m ρ c ch 0 d
  by_cases hl : i < 26
  · have h := Rounds.wp_wait 𝒱₀ ER (ringRd m ρ) (c : Thread nD τ) none (κ := κ) (k := k) (Q := Q)
      (wpE_semWait_eq (defs := defs₀ (F := F)) (sem := credS ch) (k := 1) 𝒱₀ (c : Thread nD τ) none Set.univ) (Set.mem_univ _)
      (cr := Finsupp.single i 1) (O := O) (W := W) {(SemLoc.reg (credS ch), i)} (R := 0) (m := i) (T := T)
      (by rw [Util.total_single]) (image_single_subset (SemLoc.reg (credS ch)) i 1)
    rw [duties_cred, expect_cred] at h
    iintro ⟨HI, Hc, Ho, HM, Hat, HT⟩ Hk
    iapply h $$ [HI Hc Ho HM Hat]
    · isplitl [HI]; · iexact HI
      isplitl [Hc]; · iexact Hc
      isplitl [Ho]; · iexact Ho
      isplitl [HM]; · iexact HM
      iexact Hat
    iintro %S ⟨%hS, Ho, Hat, Hnew⟩
    obtain ⟨h1, h2, h3⟩ := hS
    ihave Hnew' := (Entails.of_eq (hpay (S \ T))) $$ Hnew
    have hsp : iprop(bigSep T (fun d => credPay (F := F) c ch d) ∗ bigSep (S \ T) (fun d => credPay (F := F) c ch d)) = bigSep S (fun d => credPay (F := F) c ch d) :=
      (bigSep_sdiff_split (Φ := fun d => credPay (F := F) c ch d) h1).symm
    ihave HS := (Entails.of_eq hsp) $$ [HT Hnew']
    · isplitl [HT]; · iexact HT
      iexact Hnew'
    have hcard : i < S.card := by
      have := Finset.card_sdiff_add_card_eq_card h2
      rw [Finset.card_range] at this; omega
    have hpos : posC (F := F) c ch (i + 1) = iprop(∃ T : Finset ℕ, atPos ER (credCell c ch) 0 T (i + 1) ∗ bigSep T (fun d => credPay (F := F) c ch d)) := if_pos (by omega)
    ihave Hd := (persistent_entails_right (creds_tell c ch S (exists_ge_of_card hcard))) $$ HS
    icases Hd with ⟨⟨#Hr1, #Hr2⟩, HS⟩
    iapply Hk
    isplitl [Ho]
    · unfold owesE; iexists _; iexact Ho
    isplitl [Hat HS]
    · iapply (Entails.of_eq hpos.symm)
      iexists S
      isplitl [Hat]; · iexact Hat
      iexact HS
    isplitr; · iexact Hr1
    iexact Hr2
  · obtain rfl : i = 26 := by omega
    have h := Rounds.wp_wait_rest_token 𝒱₀ ER (ringRd m ρ) (c : Thread nD τ) none (κ := κ) (k := k) (Q := Q)
      (wpE_semWait_eq (defs := defs₀ (F := F)) (sem := credS ch) (k := 1) 𝒱₀ (c : Thread nD τ) none Set.univ) (Set.mem_univ _) 26 (O := O) (W := W) (R := 0) (m := 26) (T := T)
      (expect_cred m ρ c ch).symm
    rw [duties_cred] at h
    iintro ⟨HI, Hc, Ho, HM, Hat, HT⟩ Hk
    iapply h $$ [HI Hc Ho HM Hat]
    · isplitl [HI]; · iexact HI
      isplitl [Hc]; · iexact Hc
      isplitl [Ho]; · iexact Ho
      isplitl [HM]; · iexact HM
      iexact Hat
    iintro ⟨Ho, Hat, -, Hnew⟩
    ihave Hnew' := (Entails.of_eq (hpay (Finset.range 27 \ T))) $$ Hnew
    have hpos : posC (F := F) c ch (26 + 1) = atPos ER (credCell c ch) 1 ∅ 0 := if_neg (by omega)
    have htell : iprop(bigSep T (fun d => credPay (F := F) c ch d) ∗ bigSep (Finset.range 27 \ T) (fun d => credPay (F := F) c ch d))
        ⊢ iprop(released ES (nxt ch c, ch, 26) 1 ∗ reached ER (recvCell (nxt ch c) ch (sl (26 + 3))) ((26 + 3) / 4)) := by
      by_cases hm : 26 ∈ T
      · refine BIBase.Entails.trans ?_ (creds_tell c ch T ⟨26, hm, le_rfl⟩)
        iintro ⟨H, -⟩; iexact H
      · refine BIBase.Entails.trans ?_ (creds_tell c ch (Finset.range 27 \ T) ⟨26, Finset.mem_sdiff.mpr ⟨by decide, hm⟩, le_rfl⟩)
        iintro ⟨-, H⟩; iexact H
    ihave Hd := htell $$ [HT Hnew']
    · isplitl [HT]; · iexact HT
      iexact Hnew'
    icases Hd with ⟨Hr1, Hr2⟩
    iapply Hk
    isplitl [Ho]
    · unfold owesE; iexists _; iexact Ho
    isplitl [Hat]
    · iapply (Entails.of_eq hpos.symm); iexact Hat
    isplitl [Hr1]; · iexact Hr1
    iexact Hr2

/-- A wait for a credit: the neighbour's slot that the credited transfer lands in, and what the transfer must know of the landing. -/
theorem step_creditWait {i : ℕ} (hi : i < 27) {O : CellTallies nD τ sig ℕ}
    (hmw : levs (F := F) ⊢ MayWait (c : Thread nD τ) (.reg (credS ch)) i O) {sm : Sem sig} (hsm : sm = credS ch) :
    iprop(PERS m ρ K κs ∗ cw (F := F) c ch i ∗ owesE (F := F) c O)
      ⊢ iprop(((cw (F := F) c ch (i + 1) ∗ anySlot (F := F) (nxt ch c) ch (sl (i + 4)) ∗ reached ER (recvCell (nxt ch c) ch (sl (i + 3))) ((i + 3) / 4) ∗ owesE (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm 1) k) Q) := by
  subst hsm
  have hl2 : PERS m ρ K κs ⊢ MayWait (c : Thread nD τ) (.reg (credS ch)) i O := BIBase.Entails.trans (pers_lev (F := F) m ρ K κs) hmw
  have hpos : posC (F := F) c ch i = iprop(∃ T : Finset ℕ, atPos ER (credCell c ch) 0 T i ∗ bigSep T (fun d => credPay (F := F) c ch d)) := if_pos hi
  unfold cw
  rw [big_Ico_bot _ hi, hpos, sl_add_four]
  iintro ⟨#HP, Hcw, Ho⟩ Hk
  icases Hcw with ⟨⟨⟨Hc, Hw⟩, Hcw⟩, Hpos⟩
  icases Hpos with ⟨%T, Hat, HT⟩
  ihave HM := hl2 $$ [HP]
  · iexact HP
  ihave Ho' := (Entails.of_eq (show owesE (F := F) c O = iprop(∃ W : Waits sig ℕ, owes (c : Thread nD τ) O W) from rfl)) $$ Ho
  icases Ho' with ⟨%W, Ho⟩
  iapply (credit_core m ρ c ch hi (κ := K (c, .inr (.inr (.inl ch)))) (O := O) (W := W) (T := T)) $$ [Hc Ho HM Hat HT]
  · isplitr; · iapply (pers_inv m ρ K κs (c, .inr (.inr (.inl ch)))); iexact HP
    isplitl [Hc]; · iexact Hc
    isplitl [Ho]; · iexact Ho
    isplitl [HM]; · iexact HM
    isplitl [Hat]; · iexact Hat
    iexact HT
  iintro ⟨Ho, Hpos, #Hr1, #Hr2⟩
  imod (slot_take ES (ι := κs (nxt ch c, ch, i)) (Es := Set.univ) (k := (nxt ch c, ch, i)) (Set.mem_univ _) (S := anySlot (F := F) (nxt ch c) ch (sl i)) 1) $$ [Hw] with Hs
  · isplitr; · iapply (pers_slot m ρ K κs (nxt ch c) ch hi); iexact HP
    isplitr; · iexact Hr1
    iexact Hw
  iapply Hk
  isplitl [Hcw Hpos]
  · isplitl [Hcw]; · iexact Hcw
    iexact Hpos
  isplitl [Hs]; · iexact Hs
  isplitr; · iexact Hr2
  iexact Ho

end Steps

end Cert.KernelIdeal.Ring

end
-- ==== Proof.KernelIdeal.Mem.lean ====
/-
Loads and stores: of a half slot, of the two halves of a slot together, of a block of an operand or of
the output array; a communication buffer cut into its eight half slots and put together again; and how
one trip of the loop moves the statement about the output array forward.
-/
module

public import proofs.«01_k».proof.Proof.KernelIdeal.Stage

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

section Mem
variable (c : Dev nD)
variable {α : Type} {Q : α → sProp (MT nD τ sig ℕ (Elt F) ℕ UU ℕ)}

/-! ## Any buffer -/

theorem ld {s : Shape} {e : EltTy} {cs : CoreSpace} (M : Memref sig .tc cs s e) {off off' : Fin s.rank → ℕ} (h : off = off') {size : Fin s.rank → ℕ}
    {i1 : ∀ a, off a + size a ≤ s.size a} (i2 : ∀ a, off' a + size a ≤ s.size a) {hl : M.view.LoadsAt (Rect.unit (s := s) off size i1).toLoadRect}
    {k : ((⟨s.rank, size⟩ : Shape).Idx → Elt F e) → Prog (TpuEff nD τ sig (Elt F) Λ₀ .tc) α} {q : PosShare TreeShare} {f : Buf (Elt F) (M.view.loc (c : Thread nD τ))} :
    (M.view.loc (c : Thread nD τ) ↦[Finset.univ]{q} f)
      ⊢ iprop(((M.view.loc (c : Thread nD τ) ↦[Finset.univ]{q} f)
            -∗ wp frame (wpE (defs₀ (F := F)) 𝒱₀ (c : Thread nD τ) none) Set.univ (k (M.view.readAt (Elt F) (Rect.unit (s := s) off' size i2).toLoadRect f)) Q)
          -∗ wp frame (wpE (defs₀ (F := F)) 𝒱₀ (c : Thread nD τ) none) Set.univ (.op (.load M (Rect.unit (s := s) off size i1).toLoadRect hl) k) Q) := by
  subst h
  exact wp_load 𝒱₀ (c : Thread nD τ) none Set.univ (m := M) (Finset.subset_univ _)

theorem st {s : Shape} {e : EltTy} {cs : CoreSpace} (M : Memref sig .tc cs s e) {off off' : Fin s.rank → ℕ} (h : off = off') {size : Fin s.rank → ℕ}
    {i1 : ∀ a, off a + size a ≤ s.size a} (i2 : ∀ a, off' a + size a ≤ s.size a) {w : (⟨s.rank, size⟩ : Shape).Idx → Elt F e}
    {hx : (M.access (Rect.unit (s := s) off size i1)).Stores Finset.univ}
    {hm : (Finset.univ : Finset (Rect.unit (s := s) off size i1).shape.Idx) = Finset.univ ∨ ∀ a, (Rect.unit (s := s) off size i1).stride a = 1}
    {k : PUnit → Prog (TpuEff nD τ sig (Elt F) Λ₀ .tc) α} {f : Buf (Elt F) (M.view.loc (c : Thread nD τ))} :
    (M.view.loc (c : Thread nD τ) ↦[Finset.univ]{fullShare} f)
      ⊢ iprop(((M.view.loc (c : Thread nD τ) ↦[Finset.univ]{fullShare} (M.access (Rect.unit (s := s) off' size i2)).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit (s := s) off size i1) w Finset.univ hx hm) k) Q) := by
  subst h
  have h := wp_store 𝒱₀ (c : Thread nD τ) none Set.univ (Γ := PendingWaitsCtx.empty) (defs := defs₀ (F := F)) (m := M) (r := Rect.unit (s := s) off size i1) (hx := hx) (hm := hm) (w := w) (k := k) (Q := Q)
    (S := Finset.univ) (f := f) (Mk := Finset.univ) (Finset.subset_univ _)
  exact h

/-! ## A half slot -/

theorem slot_load (ch k : Fin 4) {q : PosShare TreeShare} {y : Vec F S1x1x256x512 .f32}
    {M : Memref sig .tc .vmem S4x2x256x512 .f32} (hM : M = comm (ringOf ch)) {off : Fin 4 → ℕ} (ho : off = slotOff k (halfOf ch))
    {i1 : ∀ a, off a + S1x1x256x512.size a ≤ S4x2x256x512.size a} {hl : M.view.LoadsAt (Rect.unit (s := S4x2x256x512) off S1x1x256x512.size i1).toLoadRect}
    {kk : Vec F S1x1x256x512 .f32 → Prog (TpuEff nD τ sig (Elt F) Λ₀ .tc) α} :
    slotPts c ch k q y
      ⊢ iprop((slotPts c ch k q y -∗ wp frame (wpE (defs₀ (F := F)) 𝒱₀ (c : Thread nD τ) none) Set.univ (kk y) Q)
          -∗ wp frame (wpE (defs₀ (F := F)) 𝒱₀ (c : Thread nD τ) none) Set.univ (.op (.load M (Rect.unit (s := S4x2x256x512) off S1x1x256x512.size i1).toLoadRect hl) kk) Q) := by
  subst hM; subst ho
  unfold slotPts
  have h := wp_load_rect 𝒱₀ (c : Thread nD τ) none Set.univ (Γ := PendingWaitsCtx.empty) (defs := defs₀ (F := F)) (m := comm (ringOf ch)) (r := sliceR ch k) (hl := hl) (k := kk) (Q := Q) (q := q)
    (S := (sliceM ch k).view.set) (f := (sliceM ch k).view.rep y) (Finset.Subset.refl _)
  have e : ((comm (ringOf ch)).access (sliceR ch k)).read (Elt F) ((sliceM ch k).view.rep y) = y := View.read_rep (sliceM ch k).view y
  rw [e] at h
  exact h

theorem slot_store (ch k : Fin 4) {w : Vec F S1x1x256x512 .f32}
    {M : Memref sig .tc .vmem S4x2x256x512 .f32} (hM : M = comm (ringOf ch)) {off : Fin 4 → ℕ} (ho : off = slotOff k (halfOf ch))
    {i1 : ∀ a, off a + S1x1x256x512.size a ≤ S4x2x256x512.size a} {hx : (M.access (Rect.unit (s := S4x2x256x512) off S1x1x256x512.size i1)).Stores Finset.univ} {hm}
    {kk : PUnit → Prog (TpuEff nD τ sig (Elt F) Λ₀ .tc) α} :
    anySlot (F := F) c ch k
      ⊢ iprop((slotPts c ch k fullShare w -∗ wp frame (wpE (defs₀ (F := F)) 𝒱₀ (c : Thread nD τ) none) Set.univ (kk ⟨⟩) Q)
          -∗ wp frame (wpE (defs₀ (F := F)) 𝒱₀ (c : Thread nD τ) none) Set.univ (.op (.store M (Rect.unit (s := S4x2x256x512) off S1x1x256x512.size i1) w Finset.univ hx hm) kk) Q) := by
  subst hM; subst ho
  unfold anySlot slot slotPts
  iintro ⟨%f, H⟩ Hk
  have h := wp_store 𝒱₀ (c : Thread nD τ) none Set.univ (Γ := PendingWaitsCtx.empty) (defs := defs₀ (F := F)) (m := comm (ringOf ch)) (r := sliceR ch k) (hx := hx) (hm := hm) (w := w) (k := kk) (Q := Q)
    (S := (sliceM ch k).view.set) (f := f) (Mk := Finset.univ) (Finset.Subset.refl _)
  iapply h $$ [H]
  · iexact H
  iintro H
  iapply Hk
  iapply (pointsTo_rep_of_read (c : Thread nD τ) (sliceM ch k) ((sliceM ch k).view.write (Elt F) f w Finset.univ) fullShare w (View.read_write_univ _ _))
  iexact H

theorem slot_loadAny (ch k : Fin 4)
    {M : Memref sig .tc .vmem S4x2x256x512 .f32} (hM : M = comm (ringOf ch)) {off : Fin 4 → ℕ} (ho : off = slotOff k (halfOf ch))
    {i1 : ∀ a, off a + S1x1x256x512.size a ≤ S4x2x256x512.size a} {hl : M.view.LoadsAt (Rect.unit (s := S4x2x256x512) off S1x1x256x512.size i1).toLoadRect}
    {kk : Vec F S1x1x256x512 .f32 → Prog (TpuEff nD τ sig (Elt F) Λ₀ .tc) α} :
    anySlot (F := F) c ch k
      ⊢ iprop((∀ y, anySlot (F := F) c ch k -∗ wp frame (wpE (defs₀ (F := F)) 𝒱₀ (c : Thread nD τ) none) Set.univ (kk y) Q)
          -∗ wp frame (wpE (defs₀ (F := F)) 𝒱₀ (c : Thread nD τ) none) Set.univ (.op (.load M (Rect.unit (s := S4x2x256x512) off S1x1x256x512.size i1).toLoadRect hl) kk) Q) := by
  subst hM; subst ho
  unfold anySlot slot
  iintro ⟨%f, H⟩ Hk
  iapply (wp_load_rect 𝒱₀ (c : Thread nD τ) none Set.univ (defs := defs₀ (F := F)) (m := comm (ringOf ch)) (r := sliceR ch k) (hl := hl) (k := kk) (Q := Q) (q := fullShare)
    (S := (sliceM ch k).view.set) (f := f) (Finset.Subset.refl _)) $$ [H]
  · iexact H
  iintro H
  iapply Hk
  iexists f; iexact H

/-! ## The halves of a slot together -/

/-- Held by its own elements, a memref's contents are what it reads. -/
theorem pts_eq_of_read {s : Shape} {e : EltTy} (M : Memref sig .tc .vmem s e) (q : PosShare TreeShare) {f g : M.view.ty.Contents (Elt F)}
    (h : M.view.read (Elt F) f = M.view.read (Elt F) g) :
    (M.view.loc (c : Thread nD τ) ↦[M.view.set]{q} f : sProp 𝕄) = (M.view.loc (c : Thread nD τ) ↦[M.view.set]{q} g : sProp 𝕄) := by
  refine pointsTo_congr fun i hi => ?_
  obtain ⟨x, -, rfl⟩ := Finset.mem_map.mp hi
  exact View.eq_of_read_eq (v := M.view) (congrFun h x)

/-- The four-dimensional block whose halves are `y` and `z`, the same at every slot. -/
def both (y z : Vec F S1x1x256x512 .f32) : S4x2x256x512.Idx → Elt F .f32 :=
  fun i => if (i 1).val = 0 then y (ix4 0 0 (i 2) (i 3)) else z (ix4 0 0 (i 2) (i 3))

abbrev hsl (r : Fin 2) (k : Fin 4) (s : Fin 2) : Memref sig .tc .vmem S1x1x256x512 .f32 :=
  (comm r).slice (Rect.unit (s := S4x2x256x512) (slotOff k s) S1x1x256x512.size (slotOff_inb k s)) (fun _ => rfl)

theorem both_read (r : Fin 2) (k : Fin 4) (s : Fin 2) (y z : Vec F S1x1x256x512 .f32) :
    (hsl r k s).view.read (Elt F) ((comm r).view.rep (both y z)) = if s = 0 then y else z := by
  funext x
  have e : (hsl r k s).view.read (Elt F) ((comm r).view.rep (both y z)) x
      = (comm r).view.read (Elt F) ((comm r).view.rep (both y z)) ((Rect.unit (s := S4x2x256x512) (slotOff k s) S1x1x256x512.size (slotOff_inb k s)).emb x) := rfl
  rw [e, View.read_rep]
  have h0 : (x 0).val = 0 := by have : (x 0).val < 1 := (x 0).isLt; omega
  have h1 : (x 1).val = 0 := by have : (x 1).val < 1 := (x 1).isLt; omega
  generalize hi : (Rect.unit (s := S4x2x256x512) (slotOff k s) S1x1x256x512.size (slotOff_inb k s)).emb x = i
  have i1 : (i 1).val = s.val := by rw [← hi]; simp [Rect.unit, Rect.emb, slotOff]; omega
  have i2 : (i 2).val = (x 2).val := by rw [← hi]; simp [Rect.unit, Rect.emb, slotOff]
  have i3 : (i 3).val = (x 3).val := by rw [← hi]; simp [Rect.unit, Rect.emb, slotOff]
  have ex : (ix4 0 0 (i 2) (i 3) : S1x1x256x512.Idx) = x := by
    funext a
    fin_cases a
    · exact Fin.ext h0.symm
    · exact Fin.ext h1.symm
    · exact Fin.ext i2
    · exact Fin.ext i3
  unfold both
  rw [i1, ex]
  rcases s with ⟨_ | _ | s, hs⟩
  · rfl
  · rfl
  · omega

theorem hsl_disjoint (r : Fin 2) {k k' : Fin 4} {s s' : Fin 2} (h : k ≠ k' ∨ s ≠ s') : Disjoint (hsl r k s).view.set (hsl r k' s').view.set := by
  refine View.disjoint_slice ?_
  rw [Finset.disjoint_left]
  intro i hi hi'
  have a := mem_slotIdx.mp (show i ∈ slotIdx k s from hi)
  have b := mem_slotIdx.mp (show i ∈ slotIdx k' s' from hi')
  rcases h with h | h
  · exact h (a.1.symm.trans b.1)
  · exact h (a.2.symm.trans b.2)

theorem slotPts_both (ch k : Fin 4) (q : PosShare TreeShare) {r : Fin 2} (hr : ringOf ch = r) (s : Fin 2) (hs : halfOf ch = s) (y z : Vec F S1x1x256x512 .f32) :
    slotPts c ch k q (if s = 0 then y else z)
      = ((comm r).view.loc (c : Thread nD τ) ↦[(hsl r k s).view.set]{q} (comm r).view.rep (both y z) : sProp 𝕄) := by
  subst hr; subst hs
  exact pts_eq_of_read c (hsl (ringOf ch) k (halfOf ch)) q ((View.read_rep _ _).trans (both_read (ringOf ch) k (halfOf ch) y z).symm)

theorem hsl_set (r : Fin 2) (k : Fin 4) (s : Fin 2) : (hsl r k s).view.set = (comm r).view.setOn (slotIdx k s) := View.set_slice _ _

/-- A load of both halves of a slot. -/
theorem pair_load (r : Fin 2) (k : Fin 4) {q : PosShare TreeShare} {y z : Vec F S1x1x256x512 .f32} {chA chB : Fin 4}
    (hA : ringOf chA = r) (hA' : halfOf chA = 0) (hB : ringOf chB = r) (hB' : halfOf chB = 1)
    {M : Memref sig .tc .vmem S4x2x256x512 .f32} (hM : M = comm r) {off : Fin 4 → ℕ} (ho : off = slotOff k 0)
    {i1 : ∀ a, off a + S1x2x256x512.size a ≤ S4x2x256x512.size a} {hl : M.view.LoadsAt (Rect.unit (s := S4x2x256x512) off S1x2x256x512.size i1).toLoadRect}
    {kk : Vec F S1x2x256x512 .f32 → Prog (TpuEff nD τ sig (Elt F) Λ₀ .tc) α} :
    iprop(slotPts c chA k q y ∗ slotPts c chB k q z)
      ⊢ iprop(((slotPts c chA k q y ∗ slotPts c chB k q z) -∗ wp frame (wpE (defs₀ (F := F)) 𝒱₀ (c : Thread nD τ) none) Set.univ (kk (glue2 y z)) Q)
          -∗ wp frame (wpE (defs₀ (F := F)) 𝒱₀ (c : Thread nD τ) none) Set.univ (.op (.load M (Rect.unit (s := S4x2x256x512) off S1x2x256x512.size i1).toLoadRect hl) kk) Q) := by
  subst hM; subst ho
  have hy := slotPts_both c chA k q hA 0 hA' y z
  have hz := slotPts_both c chB k q hB 1 hB' y z
  rw [if_pos rfl] at hy
  rw [if_neg (by decide)] at hz
  have hsub : (comm r).view.setOn (Rect.unit (s := S4x2x256x512) (slotOff k 0) S1x2x256x512.size i1).set ⊆ (hsl r k 0).view.set ∪ (hsl r k 1).view.set := by
    intro i hi
    obtain ⟨x, hx, rfl⟩ := Finset.mem_map.mp hi
    have hb := (Rect.mem_set_unit).mp hx
    have b0 := hb 0; have b1 := hb 1
    simp at b0 b1
    have x1 : (x 1).val < 2 := (x 1).isLt
    have e0 : x 0 = k := Fin.ext (by omega)
    by_cases h1 : (x 1).val = 0
    · exact Finset.mem_union_left _ (by
        rw [hsl_set]
        exact Finset.mem_map.mpr ⟨x, mem_slotIdx.mpr ⟨e0, Fin.ext h1⟩, rfl⟩)
    · exact Finset.mem_union_right _ (by
        rw [hsl_set]
        exact Finset.mem_map.mpr ⟨x, mem_slotIdx.mpr ⟨e0, Fin.ext (by show (x 1).val = 1; omega)⟩, rfl⟩)
  have h := wp_load 𝒱₀ (c : Thread nD τ) none Set.univ (Γ := PendingWaitsCtx.empty) (defs := defs₀ (F := F)) (m := comm r) (r := (Rect.unit (s := S4x2x256x512) (slotOff k 0) S1x2x256x512.size i1).toLoadRect) (hl := hl) (k := kk) (Q := Q) (q := q)
    (S := (hsl r k 0).view.set ∪ (hsl r k 1).view.set) (f := (comm r).view.rep (both y z)) hsub
  have e : (comm r).view.readAt (Elt F) (Rect.unit (s := S4x2x256x512) (slotOff k 0) S1x2x256x512.size i1).toLoadRect ((comm r).view.rep (both y z)) = glue2 y z := by
    funext x
    have e1 : (comm r).view.readAt (Elt F) (Rect.unit (s := S4x2x256x512) (slotOff k 0) S1x2x256x512.size i1).toLoadRect ((comm r).view.rep (both y z)) x
      = (comm r).view.read (Elt F) ((comm r).view.rep (both y z)) ((Rect.unit (s := S4x2x256x512) (slotOff k 0) S1x2x256x512.size i1).emb x) := rfl
    rw [e1, View.read_rep]
    generalize hi : (Rect.unit (s := S4x2x256x512) (slotOff k 0) S1x2x256x512.size i1).emb x = i
    have i1 : (i 1).val = (x 1).val := by rw [← hi]; simp [Rect.unit, Rect.emb, slotOff]
    have i2 : i 2 = x 2 := by rw [← hi]; exact Fin.ext (by simp [Rect.unit, Rect.emb, slotOff])
    have i3 : i 3 = x 3 := by rw [← hi]; exact Fin.ext (by simp [Rect.unit, Rect.emb, slotOff])
    unfold both glue2
    rw [i1, i2, i3]
  rw [e] at h
  rw [hy, hz]
  have hj := pointsTo_union (nD := nD) (τ := τ) (sig := sig) (Ix := ℕ) (Val := Elt F) (Name := ℕ) (U := UU) (Lvl := ℕ) (ℓ := (comm r).view.loc (c : Thread nD τ))
    (q := q) (f := (comm r).view.rep (both y z)) (hsl_disjoint r (k := k) (k' := k) (s := 0) (s' := 1) (Or.inr (by decide)))
  iintro H Hk
  ihave H := hj.2 $$ H
  iapply h $$ [H]
  · iexact H
  iintro H
  iapply Hk
  iapply hj.1; iexact H

end Mem

/-! ## A whole communication buffer -/

theorem comm_cover (r : Fin 2) : ((Finset.univ : Finset (Fin 4 × Fin 2)).biUnion fun ks => (hsl r ks.1 ks.2).view.set) = (comm r).view.set := by
  ext i
  rw [Finset.mem_biUnion]
  constructor
  · rintro ⟨ks, -, h⟩
    rw [hsl_set] at h
    obtain ⟨x, -, rfl⟩ := Finset.mem_map.mp h
    exact Finset.mem_map.mpr ⟨x, Finset.mem_univ _, rfl⟩
  · intro h
    obtain ⟨x, -, rfl⟩ := Finset.mem_map.mp h
    refine ⟨(x 0, x 1), Finset.mem_univ _, ?_⟩
    rw [hsl_set]
    exact Finset.mem_map.mpr ⟨x, mem_slotIdx.mpr ⟨rfl, rfl⟩, rfl⟩

theorem hsl_pairwise (r : Fin 2) : ∀ t ∈ (Finset.univ : Finset (Fin 4 × Fin 2)), ∀ t' ∈ (Finset.univ : Finset (Fin 4 × Fin 2)), t ≠ t' →
    Disjoint (hsl r t.1 t.2).view.set (hsl r t'.1 t'.2).view.set := fun t _ t' _ hne => hsl_disjoint r (by
  by_contra hc; push Not at hc; exact hne (Prod.ext hc.1 hc.2))

theorem comm_set (r : Fin 2) : (comm r).view.set = Finset.univ := by
  fin_cases r
  · exact View.set_whole _
  · exact View.set_whole _

/-- The channel of ring `r` over half `s`. -/
def chan (r s : Fin 2) : Fin 4 := ⟨2 * r.val + s.val, by omega⟩

theorem ringOf_chan (r s : Fin 2) : ringOf (chan r s) = r := by revert r s; decide
theorem halfOf_chan (r s : Fin 2) : halfOf (chan r s) = s := by revert r s; decide

theorem anySlot_chan (c : Dev nD) (r s : Fin 2) (k : Fin 4) :
    anySlot (F := F) c (chan r s) k = iprop(∃ f, ((comm r).view.loc (c : Thread nD τ) ↦[(hsl r k s).view.set]{fullShare} f)) := by
  have hr := ringOf_chan r s; have hs := halfOf_chan r s
  generalize chan r s = ch at *
  subst hr; subst hs
  rfl

theorem anySlot_intro (c : Dev nD) (r s : Fin 2) (k : Fin 4) (f : (comm r).view.ty.Contents (Elt F)) :
    ((comm r).view.loc (c : Thread nD τ) ↦[(hsl r k s).view.set]{fullShare} f : sProp 𝕄) ⊢ anySlot (F := F) c (chan r s) k := by
  rw [anySlot_chan]
  iintro H; iexists f; iexact H

/-- The whole buffer of ring `r` is its eight half slots. -/
theorem comm_split (c : Dev nD) (r : Fin 2) :
    (iprop(∃ f, ((comm r).view.loc (c : Thread nD τ) ↦[(comm r).view.set]{fullShare} f)) : sProp 𝕄)
      ⊢ bigSep (Finset.univ : Finset (Fin 4 × Fin 2)) fun ks => anySlot (F := F) c (chan r ks.2) ks.1 := by
  have hmono (f : (comm r).view.ty.Contents (Elt F)) : (bigSep (Finset.univ : Finset (Fin 4 × Fin 2)) fun ks => ((comm r).view.loc (c : Thread nD τ) ↦[(hsl r ks.1 ks.2).view.set]{fullShare} f : sProp 𝕄))
      ⊢ bigSep (Finset.univ : Finset (Fin 4 × Fin 2)) fun ks => anySlot (F := F) c (chan r ks.2) ks.1 := bigSep_mono fun ks _ => anySlot_intro c r ks.2 ks.1 f
  iintro ⟨%f, H⟩
  have h := pointsTo_biUnion (nD := nD) (τ := τ) (sig := sig) (Ix := ℕ) (Val := Elt F) (Name := ℕ) (U := UU) (Lvl := ℕ) (ℓ := (comm r).view.loc (c : Thread nD τ)) (q := fullShare) (f := f)
    Finset.univ (fun ks : Fin 4 × Fin 2 => (hsl r ks.1 ks.2).view.set) (hsl_pairwise r)
  rw [comm_cover r] at h
  ihave H := (Entails.of_eq h) $$ H
  iapply (hmono f); iexact H

theorem comm_whole (c : Dev nD) (r : Fin 2) :
    (bigSep (Finset.univ : Finset (Fin 4 × Fin 2)) fun ks => anySlot (F := F) c (chan r ks.2) ks.1)
      ⊢ (iprop(∃ f, ((comm r).view.loc (c : Thread nD τ) ↦[(comm r).view.set]{fullShare} f)) : sProp 𝕄) := by
  have e : (fun ks : Fin 4 × Fin 2 => anySlot (F := F) c (chan r ks.2) ks.1)
      = fun ks : Fin 4 × Fin 2 => iprop(∃ f, ((comm r).view.loc (c : Thread nD τ) ↦[(hsl r ks.1 ks.2).view.set]{fullShare} f)) := funext fun ks => anySlot_chan c r ks.2 ks.1
  rw [e]
  iintro H
  ihave H := (bigSep_exists_pi (Finset.univ : Finset (Fin 4 × Fin 2)) (fun (ks : Fin 4 × Fin 2) (f : (comm r).view.ty.Contents (Elt F)) => ((comm r).view.loc (c : Thread nD τ) ↦[(hsl r ks.1 ks.2).view.set]{fullShare} f : sProp 𝕄))) $$ H
  icases H with ⟨%fs, H⟩
  have h := pointsTo_biUnion_join (nD := nD) (τ := τ) (sig := sig) (Ix := ℕ) (Val := Elt F) (Name := ℕ) (U := UU) (Lvl := ℕ) (ℓ := (comm r).view.loc (c : Thread nD τ)) (q := fullShare)
    Finset.univ (fun ks : Fin 4 × Fin 2 => (hsl r ks.1 ks.2).view.set) fs (fs (0, 0)) (hsl_pairwise r)
  rw [comm_cover r] at h
  ihave H := h $$ H
  icases H with ⟨%g, -, H⟩
  iexists g; iexact H

/-! ## The output array through a trip -/

abbrev halfSt (c : Dev nD) (h : ℕ) (r : Fin 2) (f : (cc0_stg2_0 : Ref sig .tc).ty.Contents (Elt F)) : (cc0_stg2_0 : Ref sig .tc).ty.Contents (Elt F) :=
  (oM.access (halfR (chunkR r c (h + 2)) r)).write (Elt F) f (part m ρ c r (chunkR r c (h + 2))) Finset.univ

/-- Before hop 14: two partial products are stored into the row block of the next hop. -/
theorem outInv_part (c : Dev nD) (h : ℕ) (f : (cc0_stg2_0 : Ref sig .tc).ty.Contents (Elt F)) (hh : h ≤ 13) :
    OutInv m ρ c (h + 1) (halfSt m ρ c h 1 (halfSt m ρ c h 0 f)) := by
  refine ⟨fun _ ch => ?_, fun g h1 h2 => by omega⟩
  have hc : ringOf ch = 0 ∨ ringOf ch = 1 := by revert ch; decide
  rcases hc with hc | hc
  · refine half_store_other _ _ (Or.inr (by rw [hc]; decide)) ?_
    have := half_store_self m ρ f c (chunkR 0 c (h + 2)) ch
    unfold chunk
    rw [hc] at this ⊢
    exact this
  · have := half_store_self m ρ (halfSt m ρ c h 0 f) c (chunkR 1 c (h + 2)) ch
    unfold chunk
    rw [hc] at this ⊢
    exact this

abbrev blkSt (c : Dev nD) (h : ℕ) (ch : Fin 4) (f : (cc0_stg2_0 : Ref sig .tc).ty.Contents (Elt F)) : (cc0_stg2_0 : Ref sig .tc).ty.Contents (Elt F) :=
  (oM.access (blkR (chunk ch c (h + 1)) ch)).write (Elt F) f (fin512 m ρ ch (chunk ch c (h + 1))) Finset.univ

/-- From hop 14: the four finished blocks received are stored. -/
theorem outInv_done (c : Dev nD) (h : ℕ) (hh : 14 ≤ h) (hh' : h ≤ 29) (f : (cc0_stg2_0 : Ref sig .tc).ty.Contents (Elt F)) (H : OutInv m ρ c h f) :
    OutInv m ρ c (h + 1) (blkSt m ρ c h 3 (blkSt m ρ c h 1 (blkSt m ρ c h 2 (blkSt m ρ c h 0 f)))) := by
  refine ⟨fun h0 => by omega, fun g h1 h2 ch => ?_⟩
  by_cases hg : g < h
  · have hn : chunk ch c (g + 1) ≠ chunk ch c (h + 1) := chunk_ne ch c (by omega) (by omega)
    have key : ∀ (ch' : Fin 4) f', Blk f' (chunk ch c (g + 1)) ch (fin512 m ρ ch (chunk ch c (g + 1))) →
        Blk (blkSt m ρ c h ch' f') (chunk ch c (g + 1)) ch (fin512 m ρ ch (chunk ch c (g + 1))) := fun ch' f' hf => by
      refine blk_store_other _ _ ?_ hf
      by_cases hcc : ch = ch'
      · left; rw [← hcc]; exact hn
      · right; exact hcc
    exact key _ _ (key _ _ (key _ _ (key _ _ (H.done g h1 hg ch))))
  · obtain rfl : g = h := by omega
    have self : ∀ f', Blk (blkSt m ρ c g ch f') (chunk ch c (g + 1)) ch (fin512 m ρ ch (chunk ch c (g + 1))) := fun f' => blk_store_self _ _ _ _
    have key : ∀ (ch' : Fin 4) f', ch ≠ ch' → Blk f' (chunk ch c (g + 1)) ch (fin512 m ρ ch (chunk ch c (g + 1))) →
        Blk (blkSt m ρ c g ch' f') (chunk ch c (g + 1)) ch (fin512 m ρ ch (chunk ch c (g + 1))) := fun ch' f' hne hf =>
      blk_store_other _ _ (Or.inr hne) hf
    rcases (show ch = 3 ∨ ch = 1 ∨ ch = 2 ∨ ch = 0 by clear self key; revert ch; decide) with rfl | rfl | rfl | rfl
    · exact self _
    · exact key _ _ (by decide) (self _)
    · exact key _ _ (by decide) (key _ _ (by decide) (self _))
    · exact key _ _ (by decide) (key _ _ (by decide) (key _ _ (by decide) (self _)))

end Cert.KernelIdeal.Ring

end
-- ==== Proof.KernelIdeal.Chan.lean ====
/-
One channel's part of a trip: the wait for the block received, the sum with the device's own block, the
wait for a credit and the next send; and the waits and the credit at the start of the trip.  The programs
here are the text of one channel's part with its operands as parameters.
-/
module

public import proofs.«01_k».proof.Proof.KernelIdeal.Mem

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

/-! ## The programs -/

/-- The sum of the block received and the device's own, where the condition holds. -/
def redProg {α : Type} (M : Memref sig .tc .vmem S4x2x256x512 .f32) (A : Memref sig .tc .vmem S4096x2048 .f32) {P : Prop} [Decidable P]
    (o25 : Fin 4 → ℕ) (i25 : P → ∀ a, o25 a + S1x1x256x512.size a ≤ S4x2x256x512.size a)
    (o26 : Fin 2 → ℕ) (i26 : P → ∀ a, o26 a + S256x512.size a ≤ S4096x2048.size a)
    (pay : Vec F S1x1x256x512 .f32 → Vec F S256x512 .f32 → FVec F S1x1x256x512 .f32) (jp : Prog (TpuEff nD τ sig (Elt F) Λ₀ .tc) α) : Prog (TpuEff nD τ sig (Elt F) Λ₀ .tc) α :=
  if h : P then
    .op (.load M (Rect.unit (s := S4x2x256x512) o25 S1x1x256x512.size (i25 h)).toLoadRect (View.loadsAt_vmem h_S1x1x256x512)) fun v713 =>
    .op (.load A (Rect.unit (s := S4096x2048) o26 S256x512.size (i26 h)).toLoadRect (View.loadsAt_vmem h_S256x512)) fun v717 =>
    .op (.load M (Rect.unit (s := S4x2x256x512) o25 S1x1x256x512.size (i25 h)).toLoadRect (View.loadsAt_vmem h_S1x1x256x512)) fun _ =>
    .op (.store M (Rect.unit (s := S4x2x256x512) o25 S1x1x256x512.size (i25 h)) (pay v713 v717) Finset.univ (View.stores_vmem_bits_univ h_S1x1x256x512 rfl) (.inl rfl)) fun _ =>
    jp
  else jp

/-- The wait for a credit, where the condition holds. -/
def credProg (C : Prop) [Decidable C] (cs : Sem sig) : Prog (TpuEff nD τ sig (Elt F) Λ₀ .tc) PUnit :=
  if h : C then .op (.semWait cs 1) fun _ => .ret ⟨⟩ else .ret ⟨⟩

/-- The wait for a credit and the send, where the condition holds. -/
def sendProg {α : Type} (M : Memref sig .tc .vmem S4x2x256x512 .f32) {P : Prop} [Decidable P] (cp : P → Prog (TpuEff nD τ sig (Elt F) Λ₀ .tc) PUnit)
    (sS sR : P → DmaSem sig) (os od : Fin 4 → ℕ) (ios : P → ∀ a, os a + S1x1x256x512.size a ≤ S4x2x256x512.size a)
    (iod : P → ∀ a, od a + S1x1x256x512.size a ≤ S4x2x256x512.size a) (n : ℕ) (hn : P → n < nD) (jp : Prog (TpuEff nD τ sig (Elt F) Λ₀ .tc) α) : Prog (TpuEff nD τ sig (Elt F) Λ₀ .tc) α :=
  if h : P then
    (cp h) >>= fun _ =>
    .op (.enqueueDma ((M.slice (Rect.unit (s := S4x2x256x512) os S1x1x256x512.size (ios h)) (fun _ => rfl)).squeeze S256x512 squeezes_S1x1x256x512_S256x512)
      (.remote (Dev.tc (⟨n, hn h⟩ : Dev nD)) ((M.slice (Rect.unit (s := S4x2x256x512) od S1x1x256x512.size (iod h)) (fun _ => rfl)).squeeze S256x512 squeezes_S1x1x256x512_S256x512) (.dma (sS h)))
      (.dma (sR h)) ((View.wordExact_bits rfl).reshape _ _) ((View.wordExact_bits rfl).reshape _ _) ⟨⟨rfl, Or.inl rfl⟩, trivial⟩) fun _ =>
    jp
  else jp

section Chan
variable (c : Dev nD) (ch : Fin 4)
variable {α : Type} {Q : α → sProp (MT nD τ sig ℕ (Elt F) ℕ UU ℕ)}

abbrev oPts (f : (cc0_stg2_0 : Ref sig .tc).ty.Contents (Elt F)) : sProp 𝕄 := oM.view.loc (c : Thread nD τ) ↦[Finset.univ]{fullShare} f
abbrev WP (p : Prog (TpuEff nD τ sig (Elt F) Λ₀ .tc) α) (Q : α → sProp (MT nD τ sig ℕ (Elt F) ℕ UU ℕ)) : sProp 𝕄 := wp frame (wpE (defs₀ (F := F)) 𝒱₀ (c : Thread nD τ) none) Set.univ p Q

theorem red_ok {t : ℕ} {f : (cc0_stg2_0 : Ref sig .tc).ty.Contents (Elt F)}
    (hB : t ≤ 14 → Blk f (chunk ch c (t + 1)) ch (part512 m ρ c ch (chunk ch c (t + 1))))
    {M : Memref sig .tc .vmem S4x2x256x512 .f32} (hM : M = comm (ringOf ch)) {A : Memref sig .tc .vmem S4096x2048 .f32} (hA : A = oM) {P : Prop} [Decidable P] (hP : P ↔ t ≤ 14)
    {o25 : Fin 4 → ℕ} (ho25 : o25 = slotOff (sl (t + 1)) (halfOf ch)) {i25 : P → ∀ a, o25 a + S1x1x256x512.size a ≤ S4x2x256x512.size a}
    {o26 : Fin 2 → ℕ} (ho26 : o26 = ![256 * (chunk ch c (t + 1)).val, 512 * ch.val]) {i26 : P → ∀ a, o26 a + S256x512.size a ≤ S4096x2048.size a}
    {pay : Vec F S1x1x256x512 .f32 → Vec F S256x512 .f32 → FVec F S1x1x256x512 .f32} (hpay : pay = k0_pay2) {jp : Prog (TpuEff nD τ sig (Elt F) Λ₀ .tc) α} :
    iprop(slotPts c ch (sl (t + 1)) fullShare (sv m ρ ch (prv ch c) t) ∗ oPts c f)
      ⊢ iprop(((slotPts c ch (sl (t + 1)) fullShare (sv m ρ ch c (t + 1)) ∗ oPts c f) -∗ WP c jp Q)
          -∗ WP c (redProg M A o25 i25 o26 i26 pay jp) Q) := by
  subst hA; subst hpay
  unfold redProg WP oPts
  by_cases h : P
  · have ht := hP.mp h
    rw [dif_pos h]
    have hb := hB ht
    unfold Blk at hb
    iintro ⟨Hs, Ho⟩ Hk
    iapply (slot_load c ch (sl (t + 1)) hM ho25) $$ [Hs]
    · iexact Hs
    iintro Hs
    iapply (ld c oM ho26 (blk_inb (chunk ch c (t + 1)) ch)) $$ [Ho]
    · iexact Ho
    iintro Ho
    iapply (slot_load c ch (sl (t + 1)) hM ho25) $$ [Hs]
    · iexact Hs
    iintro Hs
    ihave Hs := (slotPts_any (F := F) c ch (sl (t + 1)) _) $$ Hs
    iapply (slot_store c ch (sl (t + 1)) hM ho25) $$ [Hs]
    · iexact Hs
    iintro Hs
    iapply Hk
    isplitl [Hs]
    · have e : k0_pay2 (sv m ρ ch (prv ch c) t) (oM.view.readAt (Elt F) (blkR (chunk ch c (t + 1)) ch).toLoadRect f) = sv m ρ ch c (t + 1) := by
        rw [hb]; exact sv_recv_add m ρ ch c t ht
      ihave Hs := (Entails.of_eq (congrArg (fun y => (slotPts c ch (sl (t + 1)) fullShare y : sProp 𝕄)) e)) $$ Hs
      iexact Hs
    · iexact Ho
  · rw [dif_neg h, sv_recv m ρ ch c t (by have := mt hP.mpr h; omega)]
    iintro ⟨Hs, Ho⟩ Hk
    iapply Hk
    isplitl [Hs] <;> iassumption

/-- After the last hop: the block received last. -/
def last (t : ℕ) : sProp 𝕄 := if t = 30 then slotPts c ch (sl 30) fullShare (sv m ρ ch c 30) else iprop(emp)

theorem dst_nil {n : ℕ} (h : 3 ≤ n) : dst (F := F) c ch n = iprop(emp) := by unfold dst; exact big_Ico_nil _ h

theorem send_ok {t : ℕ} (ht : t < 30) {a b : Fin 4 → ℕ} (ha : a ch = t + 1) (ha' : ∀ ch', t + 1 ≤ a ch') (hb' : ∀ ch', min t 27 ≤ b ch')
    {M : Memref sig .tc .vmem S4x2x256x512 .f32} (hM : M = comm (ringOf ch)) {P : Prop} [Decidable P] (hP : P ↔ t < 29) {C : Prop} [Decidable C] (hC : C ↔ 2 ≤ t)
    {cp : P → Prog (TpuEff nD τ sig (Elt F) Λ₀ .tc) PUnit} {cs : Sem sig} (hcs : cs = credS ch) (hcp : ∀ h, cp h = credProg C cs)
    {sS sR : P → DmaSem sig} (hS : ∀ h, sS h = sendS ch (sl (t + 1))) (hR : ∀ h, sR h = recvS ch (sl (t + 1)))
    {os od : Fin 4 → ℕ} (hos : os = slotOff (sl (t + 1)) (halfOf ch)) (hod : od = slotOff (sl (t + 2)) (halfOf ch)) {ios : P → ∀ a, os a + S1x1x256x512.size a ≤ S4x2x256x512.size a}
    {iod : P → ∀ a, od a + S1x1x256x512.size a ≤ S4x2x256x512.size a} {n : ℕ} (hn' : n = (nxt ch c).val) {hn : P → n < nD} {jp : Prog (TpuEff nD τ sig (Elt F) Λ₀ .tc) α} :
    iprop(PERS m ρ K κs ∗ toks (F := F) c ch (t + 1) ∗ cw (F := F) c ch (min (t - 2) 27) ∗ dst (F := F) c ch (t + 1) ∗ posS (F := F) c ch t ∗ fl m ρ c ch t (t + 1)
        ∗ slotPts c ch (sl (t + 1)) fullShare (sv m ρ ch c (t + 1)) ∗ owesE (F := F) c (OW c a b))
      ⊢ iprop(((toks (F := F) c ch (t + 2) ∗ cw (F := F) c ch (min (t - 1) 27) ∗ dst (F := F) c ch (t + 2) ∗ posS (F := F) c ch t ∗ fl m ρ c ch t (min (t + 2) 30)
              ∗ last m ρ c ch (t + 1) ∗ owesE (F := F) c (OW c (Function.update a ch (min (t + 2) 30)) b)) -∗ WP c jp Q)
          -∗ WP c (sendProg M cp sS sR os od ios iod n hn jp) Q) := by
  unfold sendProg WP
  by_cases h : P
  · have ht2 : t < 29 := hP.mp h
    rw [dif_pos h, hcp h]
    have e1 : min (t + 2) 30 = t + 1 + 1 := by omega
    have e2 : last m ρ c ch (t + 1) = iprop(emp) := if_neg (by omega)
    have efl : fl m ρ c ch t (t + 1 + 1) = iprop((cred (tallyAt (sendCell c ch (sl (t + 1))) ((t + 1) / 4) N) ∗ slotPts c ch (sl (t + 1)) fullShare.left (sv m ρ ch c (t + 1))) ∗ fl m ρ c ch t (t + 1)) := by
      unfold fl; exact big_Ico_top _ (by omega)
    have hn3 : (⟨n, hn h⟩ : Dev nD) = nxt ch c := Fin.ext hn'
    rw [e1, e2, efl]
    unfold credProg
    by_cases hc : C
    · have h2 := hC.mp hc
      obtain ⟨i, rfl⟩ : ∃ i, t = i + 2 := ⟨t - 2, by omega⟩
      rw [dif_pos hc]
      have em1 : min (i + 2 - 2) 27 = i := by omega
      have em2 : min (i + 2 - 1) 27 = i + 1 := by omega
      rw [em1, em2, dst_nil c ch (by omega), dst_nil c ch (by omega)]
      simp only [Prog.bind_op, Prog.bind_ret]
      have hmw : levs (F := F) ⊢ MayWait (c : Thread nD τ) (.reg (credS ch)) i (OW c a b) := by
        unfold levs
        refine mayWait_of c _ i (4 * i + 6) a b (by omega) (lv_cred c ch i).le (fun ch' h => ?_) (fun ch' h => ?_)
        · have := ha' ch'; omega
        · have := hb' ch'; omega
      iintro ⟨#HP, Ht, Hc, Hd, HpS, Hfl, Hs, Ho⟩ Hk
      iapply (step_creditWait m ρ K κs c ch (show i < 27 by omega) hmw hcs) $$ [Hc Ho]
      · isplitl []
        · iexact HP
        isplitl [Hc] <;> iassumption
      iintro ⟨Hc, Hdst, Hr, Ho⟩
      ihave Hrs := (persistent_entails_right (posS_reached (F := F) c ch (n := i + 2) (g := i + 2 + 1) (by omega) (by omega))) $$ HpS
      icases Hrs with ⟨Hrs, HpS⟩
      iapply (step_send m ρ K κs c ch (g := i + 2 + 1) (by omega) ha hn3 (hS h) (hR h) hM hos hod) $$ [Ht Hdst Hr Hrs Hs Ho]
      · isplitl []
        · iexact HP
        isplitl [Ht]
        · iexact Ht
        isplitl [Hdst]
        · iexact Hdst
        isplitl [Hr]
        · iexact Hr
        isplitl [Hrs]
        · iexact Hrs
        isplitl [Hs]
        · iexact Hs
        · iexact Ho
      iintro ⟨Ht, Hcr, Hl, Ho⟩
      iapply Hk
      isplitl [Ht]
      · iexact Ht
      isplitl [Hc]
      · iexact Hc
      isplitl [Hd]
      · iexact Hd
      isplitl [HpS]
      · iexact HpS
      isplitl [Hfl Hcr Hl]
      · isplitl [Hcr Hl]
        · isplitl [Hcr] <;> iassumption
        · iexact Hfl
      isplitl []
      · iempintro
      · iexact Ho
    · have h2 : t ≤ 1 := by have := mt hC.mpr hc; omega
      rw [dif_neg hc]
      have em1 : min (t - 2) 27 = 0 := by omega
      have em2 : min (t - 1) 27 = 0 := by omega
      have ed : dst (F := F) c ch (t + 1) = iprop(anySlot (F := F) (nxt ch c) ch (sl (t + 1 + 1)) ∗ dst (F := F) c ch (t + 2)) := by
        unfold dst; exact big_Ico_bot _ (by omega)
      have er : (t + 1) / 4 = 0 := by omega
      rw [em1, em2, ed]
      simp only [Prog.bind_op, Prog.bind_ret]
      have hpr : PERS m ρ K κs ⊢ reached ER (recvCell (nxt ch c) ch (sl (t + 1))) ((t + 1) / 4) := by
        rw [er]; exact pers_reached m ρ K κs (nxt ch c, .inr (.inl (ch, sl (t + 1))))
      iintro ⟨#HP, Ht, Hc, ⟨Hdst, Hd⟩, HpS, Hfl, Hs, Ho⟩ Hk
      ihave Hr := hpr $$ [HP]
      · iexact HP
      ihave Hrs := (persistent_entails_right (posS_reached (F := F) c ch (n := t) (g := t + 1) (by omega) (by omega))) $$ HpS
      icases Hrs with ⟨Hrs, HpS⟩
      iapply (step_send m ρ K κs c ch (g := t + 1) (by omega) ha hn3 (hS h) (hR h) hM hos hod) $$ [Ht Hdst Hr Hrs Hs Ho]
      · isplitl []
        · iexact HP
        isplitl [Ht]
        · iexact Ht
        isplitl [Hdst]
        · iexact Hdst
        isplitl [Hr]
        · iexact Hr
        isplitl [Hrs]
        · iexact Hrs
        isplitl [Hs]
        · iexact Hs
        · iexact Ho
      iintro ⟨Ht, Hcr, Hl, Ho⟩
      iapply Hk
      isplitl [Ht]
      · iexact Ht
      isplitl [Hc]
      · iexact Hc
      isplitl [Hd]
      · iexact Hd
      isplitl [HpS]
      · iexact HpS
      isplitl [Hfl Hcr Hl]
      · isplitl [Hcr Hl]
        · isplitl [Hcr] <;> iassumption
        · iexact Hfl
      isplitl []
      · iempintro
      · iexact Ho
  · have ht2 : t = 29 := by have := mt hP.mpr h; omega
    subst ht2
    rw [dif_neg h]
    have e0 : Function.update a ch (min (29 + 2) 30) = a := by
      rw [show min (29 + 2) 30 = a ch by rw [ha]; rfl]; exact Function.update_eq_self ch a
    have e2 : last m ρ c ch (29 + 1) = slotPts c ch (sl (29 + 1)) fullShare (sv m ρ ch c (29 + 1)) := if_pos rfl
    have et : toks (F := F) c ch (29 + 1) = toks (F := F) c ch (29 + 2) := by
      unfold toks; rw [big_Ico_nil _ (by omega), big_Ico_nil _ (by omega)]
    have ed : dst (F := F) c ch (29 + 1) = dst (F := F) c ch (29 + 2) := by rw [dst_nil c ch (by omega), dst_nil c ch (by omega)]
    rw [e0, e2, et, ed]
    iintro ⟨#HP, Ht, Hc, Hd, HpS, Hfl, Hs, Ho⟩ Hk
    iapply Hk
    isplitl [Ht]
    · iexact Ht
    isplitl [Hc]
    · iexact Hc
    isplitl [Hd]
    · iexact Hd
    isplitl [HpS]
    · iexact HpS
    isplitl [Hfl]
    · iexact Hfl
    isplitl [Hs]
    · iexact Hs
    · iexact Ho

/-! ## The whole part of a channel -/

/-- A channel in trip `t`, after the waits for sends and before its part. -/
def chanIn (t : ℕ) : sProp 𝕄 :=
  iprop(toks (F := F) c ch (t + 1) ∗ cw (F := F) c ch (min (t - 2) 27) ∗ dst (F := F) c ch (t + 1) ∗ posS (F := F) c ch t ∗ fl m ρ c ch t (t + 1)
    ∗ rcr (F := F) c ch t ∗ posR (F := F) c ch t)
/-- The same channel after its part. -/
def chanOut (t : ℕ) : sProp 𝕄 :=
  iprop(toks (F := F) c ch (t + 2) ∗ cw (F := F) c ch (min (t - 1) 27) ∗ dst (F := F) c ch (t + 2) ∗ posS (F := F) c ch t ∗ fl m ρ c ch t (min (t + 2) 30)
    ∗ last m ρ c ch (t + 1) ∗ rcr (F := F) c ch (t + 1) ∗ posR (F := F) c ch (t + 1))

theorem chan_ok {t : ℕ} (ht : t < 30) {a b : Fin 4 → ℕ} (ha : a ch = t + 1) (ha' : ∀ ch', t + 1 ≤ a ch') (hb' : ∀ ch', min t 27 ≤ b ch')
    {f : (cc0_stg2_0 : Ref sig .tc).ty.Contents (Elt F)}
    (hB : t ≤ 14 → Blk f (chunk ch c (t + 1)) ch (part512 m ρ c ch (chunk ch c (t + 1))))
    {rs : DmaSem sig} (hrs : rs = recvS ch (sl t)) {s' : Shape} {e' : EltTy} {src : Memref sig .tc .vmem s' e'} {D : Memref sig .tc .vmem S256x512 .f32} (hD : D.view.dmaCredit = N)
    {hs : src.view.WordExact} {hd : D.view.WordExact}
    {M : Memref sig .tc .vmem S4x2x256x512 .f32} (hM : M = comm (ringOf ch)) {A : Memref sig .tc .vmem S4096x2048 .f32} (hA : A = oM) {P3 : Prop} [Decidable P3] (hP3 : P3 ↔ t ≤ 14)
    {o25 : Fin 4 → ℕ} (ho25 : o25 = slotOff (sl (t + 1)) (halfOf ch)) {i25 : P3 → ∀ a, o25 a + S1x1x256x512.size a ≤ S4x2x256x512.size a}
    {o26 : Fin 2 → ℕ} (ho26 : o26 = ![256 * (chunk ch c (t + 1)).val, 512 * ch.val]) {i26 : P3 → ∀ a, o26 a + S256x512.size a ≤ S4096x2048.size a}
    {pay : Vec F S1x1x256x512 .f32 → Vec F S256x512 .f32 → FVec F S1x1x256x512 .f32} (hpay : pay = k0_pay2)
    {P : Prop} [Decidable P] (hP : P ↔ t < 29) {C : Prop} [Decidable C] (hC : C ↔ 2 ≤ t)
    {cp : P → Prog (TpuEff nD τ sig (Elt F) Λ₀ .tc) PUnit} {cs : Sem sig} (hcs : cs = credS ch) (hcp : ∀ h, cp h = credProg C cs)
    {sS sR : P → DmaSem sig} (hS : ∀ h, sS h = sendS ch (sl (t + 1))) (hR : ∀ h, sR h = recvS ch (sl (t + 1)))
    {os od : Fin 4 → ℕ} (hos : os = slotOff (sl (t + 1)) (halfOf ch)) (hod : od = slotOff (sl (t + 2)) (halfOf ch)) {ios : P → ∀ a, os a + S1x1x256x512.size a ≤ S4x2x256x512.size a}
    {iod : P → ∀ a, od a + S1x1x256x512.size a ≤ S4x2x256x512.size a} {n : ℕ} (hn' : n = (nxt ch c).val) {hn : P → n < nD} {jp : Prog (TpuEff nD τ sig (Elt F) Λ₀ .tc) α} :
    iprop(PERS m ρ K κs ∗ chanIn m ρ c ch t ∗ oPts c f ∗ owesE (F := F) c (OW c a b))
      ⊢ iprop(((chanOut m ρ c ch t ∗ oPts c f ∗ owesE (F := F) c (OW c (Function.update a ch (min (t + 2) 30)) b)) -∗ WP c jp Q)
          -∗ WP c (.op (.waitDma2 rs src D hs hd) fun _ => redProg M A o25 i25 o26 i26 pay (sendProg M cp sS sR os od ios iod n hn jp)) Q) := by
  unfold chanIn chanOut
  have hmw : levs (F := F) ⊢ MayWait (c : Thread nD τ) (.dma (recvS ch (sl t))) (t / 4) (OW c a b) := by
    unfold levs
    refine mayWait_of c _ (t / 4) (4 * t + 4) a b (by omega) (lv_recv c ch t).le (fun ch' h => ?_) (fun ch' h => ?_)
    · have := ha' ch'; omega
    · have := hb' ch'; omega
  iintro ⟨#HP, ⟨Ht, Hc, Hd, HpS, Hfl, Hrc, HpR⟩, Hf, Ho⟩ Hk
  iapply (step_waitRecv m ρ K κs c ch ht hmw hrs hD) $$ [Hrc HpR Ho]
  · isplitl []
    · iexact HP
    isplitl [Hrc]
    · iexact Hrc
    isplitl [HpR] <;> iassumption
  iintro ⟨Hrc, HpR, Ho, Hs⟩
  iapply (red_ok m ρ c ch hB hM hA hP3 ho25 ho26 hpay) $$ [Hs Hf]
  · isplitl [Hs] <;> iassumption
  iintro ⟨Hs, Hf⟩
  iapply (send_ok m ρ K κs c ch ht ha ha' hb' hM hP hC hcs hcp hS hR hos hod hn') $$ [Ht Hc Hd HpS Hfl Hs Ho]
  · isplitl []
    · iexact HP
    isplitl [Ht]
    · iexact Ht
    isplitl [Hc]
    · iexact Hc
    isplitl [Hd]
    · iexact Hd
    isplitl [HpS]
    · iexact HpS
    isplitl [Hfl]
    · iexact Hfl
    isplitl [Hs] <;> iassumption
  iintro ⟨Ht, Hc, Hd, HpS, Hfl, Hl, Ho⟩
  iapply Hk
  isplitl [Ht Hc Hd HpS Hfl Hl Hrc HpR]
  · isplitl [Ht]
    · iexact Ht
    isplitl [Hc]
    · iexact Hc
    isplitl [Hd]
    · iexact Hd
    isplitl [HpS]
    · iexact HpS
    isplitl [Hfl]
    · iexact Hfl
    isplitl [Hl]
    · iexact Hl
    isplitl [Hrc] <;> iassumption
  · isplitl [Hf] <;> iassumption

end Chan

end Cert.KernelIdeal.Ring

end
-- ==== Proof.KernelIdeal.Conds.lean ====
/-
The closed forms of the kernel's conditions, device numbers and offsets: hop `t` is trip `t` of its loop.
-/
module

public import proofs.«01_k».proof.Proof.KernelIdeal.Base

@[expose] public section

noncomputable section

namespace Cert.KernelIdeal.Ring

open Cert.KernelIdeal Cert.KernelIdeal.Gen

open Idealize.ShloMosaic

theorem trips_eq : k0_t1_loop.trips = 30 := by decide +kernel

/-! The conditions of a hop -/

theorem cond1_iff (t : Fin k0_t1_loop.trips) : Iff (k0_cond1 t = 1#1) (1 ≤ t.val) := by revert t; decide +kernel
theorem cond2_iff (t : Fin k0_t1_loop.trips) : Iff (k0_cond2 t = 1#1) (1 ≤ t.val ∧ t.val ≤ 27) := by revert t; decide +kernel
theorem cond3_iff (t : Fin k0_t1_loop.trips) : Iff (k0_cond3 t = 1#1) (t.val ≤ 14) := by revert t; decide +kernel
theorem cond6_iff (t : Fin k0_t1_loop.trips) : Iff (k0_cond6 t = 1#1) (t.val ≤ 14) := by revert t; decide +kernel
theorem cond9_iff (t : Fin k0_t1_loop.trips) : Iff (k0_cond9 t = 1#1) (t.val ≤ 14) := by revert t; decide +kernel
theorem cond12_iff (t : Fin k0_t1_loop.trips) : Iff (k0_cond12 t = 1#1) (t.val ≤ 14) := by revert t; decide +kernel
theorem cond4_iff (t : Fin k0_t1_loop.trips) : Iff (k0_cond4 t = 1#1) (t.val < 29) := by revert t; decide +kernel
theorem cond7_iff (t : Fin k0_t1_loop.trips) : Iff (k0_cond7 t = 1#1) (t.val < 29) := by revert t; decide +kernel
theorem cond10_iff (t : Fin k0_t1_loop.trips) : Iff (k0_cond10 t = 1#1) (t.val < 29) := by revert t; decide +kernel
theorem cond13_iff (t : Fin k0_t1_loop.trips) : Iff (k0_cond13 t = 1#1) (t.val < 29) := by revert t; decide +kernel
theorem cond15_iff (t : Fin k0_t1_loop.trips) : Iff (k0_cond15 t = 1#1) (14 ≤ t.val) := by revert t; decide +kernel
theorem cond16_iff (t : Fin k0_t1_loop.trips) : Iff (k0_cond16 t = 1#1) (t.val ≤ 13) := by revert t; decide +kernel

/-! The neighbours -/

theorem dev1_val (c : Dev nD) : k0_dev1 c = (predD c).val := by revert c; decide +kernel
theorem dev2_val (c : Dev nD) : k0_dev2 c = (succD c).val := by revert c; decide +kernel
theorem dev3_val (c : Dev nD) : k0_dev3 c = (succD c).val := by revert c; decide +kernel
theorem dev4_val (c : Dev nD) : k0_dev4 c = (succD c).val := by revert c; decide +kernel
theorem dev5_val (c : Dev nD) : k0_dev5 c = (predD c).val := by revert c; decide +kernel
theorem dev6_val (c : Dev nD) : k0_dev6 c = (predD c).val := by revert c; decide +kernel
theorem dev7_val (c : Dev nD) : k0_dev7 c = (predD c).val := by revert c; decide +kernel
theorem dev8_val (c : Dev nD) : k0_dev8 c = (succD c).val := by revert c; decide +kernel
theorem dev9_val (c : Dev nD) : k0_dev9 c = (predD c).val := by revert c; decide +kernel
theorem dev10_val (c : Dev nD) : k0_dev10 c = (succD c).val := by revert c; decide +kernel
theorem dev11_val (c : Dev nD) : k0_dev11 c = (succD c).val := by revert c; decide +kernel
theorem dev12_val (c : Dev nD) : k0_dev12 c = (predD c).val := by revert c; decide +kernel
theorem dev13_val (c : Dev nD) : k0_dev13 c = (succD c).val := by revert c; decide +kernel
theorem dev14_val (c : Dev nD) : k0_dev14 c = (predD c).val := by revert c; decide +kernel

/-! The semaphore indices -/

theorem off16_eq (t : Fin k0_t1_loop.trips) (h : 1 ≤ t.val) : k0_off16 t = ![(t.val - 1) % 4, 0] := by revert t; decide +kernel
theorem off19_eq (t : Fin k0_t1_loop.trips) (h : 1 ≤ t.val) : k0_off19 t = ![(t.val - 1) % 4, 1] := by revert t; decide +kernel
theorem off22_eq (t : Fin k0_t1_loop.trips) : k0_off22 t = ![t.val % 4, 0] := by revert t; decide +kernel
theorem off35_eq (t : Fin k0_t1_loop.trips) : k0_off35 t = ![t.val % 4, 1] := by revert t; decide +kernel
theorem off27_eq (t : Fin k0_t1_loop.trips) : k0_off27 t = ![(t.val + 1) % 4, 0] := by revert t; decide +kernel
theorem off32_eq (t : Fin k0_t1_loop.trips) : k0_off32 t = ![(t.val + 1) % 4, 0] := by revert t; decide +kernel
theorem off40_eq (t : Fin k0_t1_loop.trips) : k0_off40 t = ![(t.val + 1) % 4, 1] := by revert t; decide +kernel
theorem off45_eq (t : Fin k0_t1_loop.trips) : k0_off45 t = ![(t.val + 1) % 4, 1] := by revert t; decide +kernel
theorem off12_first  : k0_off12 0#32 = ![0, 0] := by decide +kernel
theorem off12_last  : k0_off12 29#32 = ![1, 0] := by decide +kernel
theorem off14_first  : k0_off14 0#32 = ![0, 1] := by decide +kernel
theorem off14_last  : k0_off14 29#32 = ![1, 1] := by decide +kernel

/-! The half slots -/

theorem off25_eq (t : Fin k0_t1_loop.trips) : k0_off25 t = ![(t.val + 1) % 4, 0, 0, 0] := by revert t; decide +kernel
theorem off30_eq (t : Fin k0_t1_loop.trips) : k0_off30 t = ![(t.val + 1) % 4, 0, 0, 0] := by revert t; decide +kernel
theorem off38_eq (t : Fin k0_t1_loop.trips) : k0_off38 t = ![(t.val + 1) % 4, 1, 0, 0] := by revert t; decide +kernel
theorem off43_eq (t : Fin k0_t1_loop.trips) : k0_off43 t = ![(t.val + 1) % 4, 1, 0, 0] := by revert t; decide +kernel
theorem off48_eq (t : Fin k0_t1_loop.trips) : k0_off48 t = ![(t.val + 1) % 4, 0, 0, 0] := by revert t; decide +kernel
theorem off51_eq (t : Fin k0_t1_loop.trips) : k0_off51 t = ![(t.val + 1) % 4, 1, 0, 0] := by revert t; decide +kernel
theorem off54_eq (t : Fin k0_t1_loop.trips) : k0_off54 t = ![(t.val + 1) % 4, 0, 0, 0] := by revert t; decide +kernel
theorem off29_eq (t : Fin k0_t1_loop.trips) : k0_off29 t = ![(t.val + 1) % 4, 0, 0, 0] := by revert t; decide +kernel
theorem off34_eq (t : Fin k0_t1_loop.trips) : k0_off34 t = ![(t.val + 1) % 4, 0, 0, 0] := by revert t; decide +kernel
theorem off42_eq (t : Fin k0_t1_loop.trips) : k0_off42 t = ![(t.val + 1) % 4, 1, 0, 0] := by revert t; decide +kernel
theorem off47_eq (t : Fin k0_t1_loop.trips) : k0_off47 t = ![(t.val + 1) % 4, 1, 0, 0] := by revert t; decide +kernel
theorem off28_eq (t : Fin k0_t1_loop.trips) : k0_off28 t = ![(t.val + 2) % 4, 0, 0, 0] := by revert t; decide +kernel
theorem off33_eq (t : Fin k0_t1_loop.trips) : k0_off33 t = ![(t.val + 2) % 4, 0, 0, 0] := by revert t; decide +kernel
theorem off41_eq (t : Fin k0_t1_loop.trips) : k0_off41 t = ![(t.val + 2) % 4, 1, 0, 0] := by revert t; decide +kernel
theorem off46_eq (t : Fin k0_t1_loop.trips) : k0_off46 t = ![(t.val + 2) % 4, 1, 0, 0] := by revert t; decide +kernel
theorem off13_src  : k0_off13 0#32 = ![0, 0, 0, 0] := by decide +kernel
theorem off13_dst  : k0_off13 1#32 = ![1, 0, 0, 0] := by decide +kernel
theorem off15_src  : k0_off15 0#32 = ![0, 1, 0, 0] := by decide +kernel
theorem off15_dst  : k0_off15 1#32 = ![1, 1, 0, 0] := by decide +kernel

/-! The row blocks -/

theorem offx_own (c : Dev nD) : k0_off1 c = ![256 * (chunkR 0 c 0).val, 0] := by revert c; decide +kernel
theorem offx_left (c : Dev nD) : k0_off4 c = ![256 * (chunkR 0 c 1).val, 0] := by revert c; decide +kernel
theorem offx_right (c : Dev nD) : k0_off6 c = ![256 * (chunkR 1 c 1).val, 0] := by revert c; decide +kernel
theorem off2_at (c : Dev nD) : k0_off2 c = ![256 * (chunkR 0 c 0).val, 0] := by revert c; decide +kernel
theorem off3_at (c : Dev nD) : k0_off3 c = ![256 * (chunkR 1 c 0).val, 1024] := by revert c; decide +kernel
theorem off5_at (c : Dev nD) : k0_off5 c = ![256 * (chunkR 0 c 1).val, 0] := by revert c; decide +kernel
theorem off7_at (c : Dev nD) : k0_off7 c = ![256 * (chunkR 1 c 1).val, 1024] := by revert c; decide +kernel
theorem off8_at (c : Dev nD) : k0_off8 c = ![256 * (chunkR 0 c 0).val, 0] := by revert c; decide +kernel
theorem off9_at (c : Dev nD) : k0_off9 c = ![256 * (chunkR 1 c 0).val, 1024] := by revert c; decide +kernel
theorem off10_at (c : Dev nD) : k0_off10 c = ![256 * (chunkR 0 c 0).val, 512] := by revert c; decide +kernel
theorem off11_at (c : Dev nD) : k0_off11 c = ![256 * (chunkR 1 c 0).val, 1536] := by revert c; decide +kernel
theorem off26_at (c : Dev nD) (t : Fin k0_t1_loop.trips) : k0_off26 c t = ![256 * (chunkR 0 c (t.val + 1)).val, 0] := by revert c t; decide +kernel
theorem off31_at (c : Dev nD) (t : Fin k0_t1_loop.trips) : k0_off31 c t = ![256 * (chunkR 1 c (t.val + 1)).val, 1024] := by revert c t; decide +kernel
theorem off39_at (c : Dev nD) (t : Fin k0_t1_loop.trips) : k0_off39 c t = ![256 * (chunkR 0 c (t.val + 1)).val, 512] := by revert c t; decide +kernel
theorem off44_at (c : Dev nD) (t : Fin k0_t1_loop.trips) : k0_off44 c t = ![256 * (chunkR 1 c (t.val + 1)).val, 1536] := by revert c t; decide +kernel
theorem off49_at (c : Dev nD) (t : Fin k0_t1_loop.trips) (h : 14 ≤ t.val) : k0_off49 c t = ![256 * (chunkR 0 c (t.val + 1)).val, 0] := by revert c t; decide +kernel
theorem off50_at (c : Dev nD) (t : Fin k0_t1_loop.trips) (h : 14 ≤ t.val) : k0_off50 c t = ![256 * (chunkR 1 c (t.val + 1)).val, 1024] := by revert c t; decide +kernel
theorem off52_at (c : Dev nD) (t : Fin k0_t1_loop.trips) (h : 14 ≤ t.val) : k0_off52 c t = ![256 * (chunkR 0 c (t.val + 1)).val, 512] := by revert c t; decide +kernel
theorem off53_at (c : Dev nD) (t : Fin k0_t1_loop.trips) (h : 14 ≤ t.val) : k0_off53 c t = ![256 * (chunkR 1 c (t.val + 1)).val, 1536] := by revert c t; decide +kernel
theorem off55_at (c : Dev nD) (t : Fin k0_t1_loop.trips) (h : t.val ≤ 13) : k0_off55 c t = ![256 * (chunkR 0 c (t.val + 2)).val, 0] := by revert c t; decide +kernel
theorem off56_at (c : Dev nD) (t : Fin k0_t1_loop.trips) (h : t.val ≤ 13) : k0_off56 c t = ![256 * (chunkR 0 c (t.val + 2)).val, 0] := by revert c t; decide +kernel
theorem off57_at (c : Dev nD) (t : Fin k0_t1_loop.trips) (h : t.val ≤ 13) : k0_off57 c t = ![256 * (chunkR 1 c (t.val + 2)).val, 0] := by revert c t; decide +kernel
theorem off58_at (c : Dev nD) (t : Fin k0_t1_loop.trips) (h : t.val ≤ 13) : k0_off58 c t = ![256 * (chunkR 1 c (t.val + 2)).val, 1024] := by revert c t; decide +kernel

end Cert.KernelIdeal.Ring

end
-- ==== Proof.KernelIdeal.Trip.lean ====
/-
One trip of the loop: the parts of the generated body at a symbolic device and a symbolic trip.
-/
module

public import proofs.«01_k».proof.Proof.KernelIdeal.Chan
public import proofs.«01_k».proof.Proof.KernelIdeal.Conds

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

theorem trip_lt (t : Fin k0_t1_loop.trips) : t.val < 30 := by have h := t.isLt; have e := trips_eq; omega

theorem condW (t : Fin k0_t1_loop.trips) : Iff (Scalar.cmpi .ne (Scalar.extui (Scalar.cmpi .sge (Scalar.addi (Scf.iv 0#32 1#32 t) 1#32) 3#32)) (0#32 : BitVec 32) = 1#1) (2 ≤ t.val) := by
  revert t; decide +kernel
theorem condA (t : Fin k0_t1_loop.trips) : Iff (Scalar.cmpi .sge (Scf.iv 0#32 1#32 t) 14#32 = 1#1) (14 ≤ t.val) := by
  revert t; decide +kernel

theorem slot_off {a k s s' : ℕ} (hs : s = s') : (![k % 4, s, 0, 0] : Fin 4 → ℕ) = ![k % 4, s', 0, 0] := by rw [hs]

theorem sem_at (A : DmaSems sig S4x2) {off off' : Fin 2 → ℕ} (h : off = off') (i1 : ∀ a, off a + S1x1.size a ≤ S4x2.size a) (i2 : ∀ a, off' a + S1x1.size a ≤ S4x2.size a) :
    ((A.slice (Rect.unit (s := S4x2) off S1x1.size i1)).squeeze S_ squeezes_S1x1_S_).sem = ((A.slice (Rect.unit (s := S4x2) off' S1x1.size i2)).squeeze S_ squeezes_S1x1_S_).sem := by
  subst h; rfl

theorem wp_done (c : Dev nD) {α : Type} {Q : α → sProp (MT nD τ sig ℕ (Elt F) ℕ UU ℕ)} (r : α) : Q r ⊢ WP c (.ret r) Q := by
  unfold WP; rw [wp_ret]; exact fupd_intro

section Trip
variable (c : Dev nD) (t : Fin k0_t1_loop.trips)
variable (h0 : xM.IsWhole) (h1 : wM.IsWhole) (h2 : oM.IsWhole) (h3 : comm0.IsWhole) (h4 : comm1.IsWhole)

/-- Whether trip `t` waits for a credit, as the program asks. -/
abbrev needC : Prop := Scalar.cmpi .ne (Scalar.extui (Scalar.cmpi .sge (Scalar.addi (Scf.iv 0#32 1#32 t) 1#32) 3#32)) (0#32 : BitVec 32) = 1#1

/-! ## The parts of the four channels -/

theorem part4_eq (v : BitVec 32) (hh : k0_cond4 t = 1#1) :
    k0_part4 (F := F) xM h0 wM h1 oM h2 comm0 h3 comm1 h4 cc0_scratch2 cc0_scratch3 cc0_scratch4 cc0_scratch5 cc0_scratch6 cc0_scratch7 v t (Scf.iv 0#32 1#32 t) hh
      = credProg (needC t) (credS 0) := by
  rw [k0_part4_eq_skeleton]; rfl
theorem part5_eq (v : BitVec 32) (hh : k0_cond7 t = 1#1) :
    k0_part5 (F := F) xM h0 wM h1 oM h2 comm0 h3 comm1 h4 cc0_scratch2 cc0_scratch3 cc0_scratch4 cc0_scratch5 cc0_scratch6 cc0_scratch7 v t (Scf.iv 0#32 1#32 t) hh
      = credProg (needC t) (credS 2) := by
  rw [k0_part5_eq_skeleton]; rfl
theorem part6_eq (v : BitVec 32) (hh : k0_cond10 t = 1#1) :
    k0_part6 (F := F) xM h0 wM h1 oM h2 comm0 h3 comm1 h4 cc0_scratch2 cc0_scratch3 cc0_scratch4 cc0_scratch5 cc0_scratch6 cc0_scratch7 v t (Scf.iv 0#32 1#32 t) hh
      = credProg (needC t) (credS 1) := by
  rw [k0_part6_eq_skeleton]; rfl
theorem part7_eq (v : BitVec 32) (hh : k0_cond13 t = 1#1) :
    k0_part7 (F := F) xM h0 wM h1 oM h2 comm0 h3 comm1 h4 cc0_scratch2 cc0_scratch3 cc0_scratch4 cc0_scratch5 cc0_scratch6 cc0_scratch7 v t (Scf.iv 0#32 1#32 t) hh
      = credProg (needC t) (credS 3) := by
  rw [k0_part7_eq_skeleton]; rfl

variable {a b : Fin 4 → ℕ} {f : (cc0_stg2_0 : Ref sig .tc).ty.Contents (Elt F)}

/-- What a channel's part needs, and what it leaves. -/
abbrev preC (ch : Fin 4) (a b : Fin 4 → ℕ) (f : (cc0_stg2_0 : Ref sig .tc).ty.Contents (Elt F)) : sProp 𝕄 :=
  iprop(PERS m ρ K κs ∗ chanIn m ρ c ch t.val ∗ oPts c f ∗ owesE (F := F) c (OW c a b))
abbrev postC (ch : Fin 4) (a b : Fin 4 → ℕ) (f : (cc0_stg2_0 : Ref sig .tc).ty.Contents (Elt F)) : sProp 𝕄 :=
  iprop(chanOut m ρ c ch t.val ∗ oPts c f ∗ owesE (F := F) c (OW c (Function.update a ch (min (t.val + 2) 30)) b))

theorem part11_ok (v13 v25 v480 v501 : BitVec 32) (ha : a 0 = t.val + 1) (ha' : ∀ ch', t.val + 1 ≤ a ch') (hb' : ∀ ch', min t.val 27 ≤ b ch')
    (hB : t.val ≤ 14 → Blk f (chunk 0 c (t.val + 1)) 0 (part512 m ρ c 0 (chunk 0 c (t.val + 1)))) {Q} :
    preC m ρ K κs c t 0 a b f ⊢ iprop((∀ r, postC m ρ c t 0 a b f -∗ Q r)
      -∗ WP c (k0_part11 (F := F) xM h0 wM h1 oM h2 comm0 h3 comm1 h4 cc0_scratch2 cc0_scratch3 cc0_scratch4 cc0_scratch5 cc0_scratch6 cc0_scratch7 c v13 v25 t (Scf.iv 0#32 1#32 t) v480 v501) Q) := by
  rw [k0_part11_eq_skeleton]
  unfold k0_part11_skel
  iintro H Hk
  iapply (chan_ok m ρ K κs c 0 (trip_lt t) ha ha' hb' hB (sem_at _ (off22_eq t) _ _) (credit_eq 0 _) rfl rfl (cond3_iff t) (off25_eq t) (off26_at c t) rfl (cond4_iff t) (condW t) rfl (part4_eq t h0 h1 h2 h3 h4 v13)
    (fun _ => sem_at _ (off27_eq t) _ _) (fun _ => sem_at _ (off27_eq t) _ _) (off29_eq t) (off28_eq t) (dev11_val c)) $$ [H]
  · iexact H
  iintro H
  iapply wp_done; iapply Hk; iexact H

theorem part12_ok (v25 v480 v513 v570 z : BitVec 32) (ha : a 2 = t.val + 1) (ha' : ∀ ch', t.val + 1 ≤ a ch') (hb' : ∀ ch', min t.val 27 ≤ b ch')
    (hB : t.val ≤ 14 → Blk f (chunk 2 c (t.val + 1)) 2 (part512 m ρ c 2 (chunk 2 c (t.val + 1)))) {Q} :
    preC m ρ K κs c t 2 a b f ⊢ iprop((∀ r, postC m ρ c t 2 a b f -∗ Q r)
      -∗ WP c (k0_part12 (F := F) xM h0 wM h1 oM h2 comm0 h3 comm1 h4 cc0_scratch2 cc0_scratch3 cc0_scratch4 cc0_scratch5 cc0_scratch6 cc0_scratch7 c v25 t (Scf.iv 0#32 1#32 t) v480 v513 v570 z) Q) := by
  rw [k0_part12_eq_skeleton]
  unfold k0_part12_skel
  iintro H Hk
  iapply (chan_ok m ρ K κs c 2 (trip_lt t) ha ha' hb' hB (sem_at _ (off22_eq t) _ _) (credit_eq 1 _) rfl rfl (cond6_iff t) (off30_eq t) (off31_at c t) rfl (cond7_iff t) (condW t) rfl (part5_eq t h0 h1 h2 h3 h4 v25)
    (fun _ => sem_at _ (off32_eq t) _ _) (fun _ => sem_at _ (off32_eq t) _ _) (off34_eq t) (off33_eq t) (dev12_val c)) $$ [H]
  · iexact H
  iintro H
  iapply wp_done; iapply Hk; iexact H

theorem part13_ok (v13 v480 v501 : BitVec 32) (ha : a 1 = t.val + 1) (ha' : ∀ ch', t.val + 1 ≤ a ch') (hb' : ∀ ch', min t.val 27 ≤ b ch')
    (hB : t.val ≤ 14 → Blk f (chunk 1 c (t.val + 1)) 1 (part512 m ρ c 1 (chunk 1 c (t.val + 1)))) {Q} :
    preC m ρ K κs c t 1 a b f ⊢ iprop((∀ r, postC m ρ c t 1 a b f -∗ Q r)
      -∗ WP c (k0_part13 (F := F) xM h0 wM h1 oM h2 comm0 h3 comm1 h4 cc0_scratch2 cc0_scratch3 cc0_scratch4 cc0_scratch5 cc0_scratch6 cc0_scratch7 c v13 t (Scf.iv 0#32 1#32 t) v480 v501) Q) := by
  rw [k0_part13_eq_skeleton]
  unfold k0_part13_skel
  iintro H Hk
  iapply (chan_ok m ρ K κs c 1 (trip_lt t) ha ha' hb' hB (sem_at _ (off35_eq t) _ _) (credit_eq 0 _) rfl rfl (cond9_iff t) (off38_eq t) (off39_at c t) rfl (cond10_iff t) (condW t) rfl (part6_eq t h0 h1 h2 h3 h4 v13)
    (fun _ => sem_at _ (off40_eq t) _ _) (fun _ => sem_at _ (off40_eq t) _ _) (off42_eq t) (off41_eq t) (dev13_val c)) $$ [H]
  · iexact H
  iintro H
  iapply wp_done; iapply Hk; iexact H

theorem part14_ok (v2 v25 v480 v513 v631 v632 : BitVec 32) (v633 v636 : BitVec 1) (ha : a 3 = t.val + 1) (ha' : ∀ ch', t.val + 1 ≤ a ch') (hb' : ∀ ch', min t.val 27 ≤ b ch')
    (hB : t.val ≤ 14 → Blk f (chunk 3 c (t.val + 1)) 3 (part512 m ρ c 3 (chunk 3 c (t.val + 1)))) {Q} :
    preC m ρ K κs c t 3 a b f ⊢ iprop((∀ r, postC m ρ c t 3 a b f -∗ Q r)
      -∗ WP c (k0_part14 (F := F) xM h0 wM h1 oM h2 comm0 h3 comm1 h4 cc0_scratch2 cc0_scratch3 cc0_scratch4 cc0_scratch5 cc0_scratch6 cc0_scratch7 c v2 v25 t (Scf.iv 0#32 1#32 t) v480 v513 v631 v632 v633 v636) Q) := by
  rw [k0_part14_eq_skeleton]
  unfold k0_part14_skel
  iintro H Hk
  iapply (chan_ok m ρ K κs c 3 (trip_lt t) ha ha' hb' hB (sem_at _ (off35_eq t) _ _) (credit_eq 1 _) rfl rfl (cond12_iff t) (off43_eq t) (off44_at c t) rfl (cond13_iff t) (condW t) rfl (part7_eq t h0 h1 h2 h3 h4 v25)
    (fun _ => sem_at _ (off45_eq t) _ _) (fun _ => sem_at _ (off45_eq t) _ _) (off47_eq t) (off46_eq t) (dev14_val c)) $$ [H]
  · iexact H
  iintro H
  iapply wp_done; iapply Hk; iexact H

/-! ## The start of a trip -/

/-- A channel before trip `t`. -/
def chanA (ch : Fin 4) (t : ℕ) : sProp 𝕄 :=
  iprop((toks (F := F) c ch (t + 1) ∗ cw (F := F) c ch (min (t - 2) 27) ∗ dst (F := F) c ch (t + 1) ∗ rcr (F := F) c ch t)
    ∗ fl m ρ c ch (t - 1) (min (t + 1) 30) ∗ posS (F := F) c ch (t - 1) ∗ posR (F := F) c ch t
    ∗ rel (F := F) c ch (min (t - 1) 27) ∗ told (F := F) c ch (min (t - 1) 27) ∗ kept (F := F) c ch (t - 1) ∗ last m ρ c ch t)
/-- What a channel's part does not touch. -/
def restC (ch : Fin 4) (t : ℕ) : sProp 𝕄 := iprop(rel (F := F) c ch (min t 27) ∗ told (F := F) c ch (min t 27) ∗ kept (F := F) c ch t)
/-- A channel once its send is complete. -/
def chanW (ch : Fin 4) (i : ℕ) : sProp 𝕄 :=
  iprop((toks (F := F) c ch (i + 1 + 1) ∗ cw (F := F) c ch (min (i + 1 - 2) 27) ∗ dst (F := F) c ch (i + 1 + 1) ∗ rcr (F := F) c ch (i + 1))
    ∗ fl m ρ c ch (i + 1) (i + 1 + 1) ∗ posS (F := F) c ch (i + 1) ∗ posR (F := F) c ch (i + 1)
    ∗ rel (F := F) c ch (min i 27) ∗ told (F := F) c ch (min i 27) ∗ kept (F := F) c ch i ∗ anySlot (F := F) c ch (sl i))

theorem ws_ok (ch : Fin 4) {i : ℕ} (hi : i < 29) {a b : Fin 4 → ℕ} (ha : ∀ ch, i + 1 ≤ a ch) (hb : ∀ ch, min i 27 ≤ b ch) {α : Type} {Q : α → sProp 𝕄} {k : PUnit → Prog (TpuEff nD τ sig (Elt F) Λ₀ .tc) α}
    {sm : DmaSem sig} (hsm : sm = sendS ch (sl i))
    {s' : Shape} {e' : EltTy} {src : Memref sig .tc .vmem s' e'} {D : Memref sig .tc .vmem S256x512 .f32} (hD : D.view.dmaCredit = N) {hs : src.view.WordExact} {hd : D.view.WordExact} :
    iprop(PERS m ρ K κs ∗ chanA m ρ c ch (i + 1) ∗ owesE (F := F) c (OW c a b))
      ⊢ iprop(((chanW m ρ c ch i ∗ owesE (F := F) c (OW c a b)) -∗ WP c (k ⟨⟩) Q) -∗ WP c (.op (.waitDma2 sm src D hs hd) k) Q) := by
  have hmw : levs (F := F) ⊢ MayWait (c : Thread nD τ) (.dma (sendS ch (sl i))) (i / 4) (OW c a b) := by
    unfold levs
    refine mayWait_of c _ (i / 4) (4 * i + 3) a b (by omega) (lv_send c ch i).le (fun ch' h => ?_) (fun ch' h => ?_)
    · have := ha ch'; omega
    · have := hb ch'; omega
  have e1 : min (i + 1 + 1) 30 = i + 1 + 1 := by omega
  have e2 : last m ρ c ch (i + 1) = iprop(emp) := if_neg (by omega)
  unfold chanA chanW
  rw [e1, e2, Nat.add_sub_cancel]
  iintro ⟨#HP, ⟨H1, Hfl, HpS, HpR, Hrel, Htold, Hk, -⟩, Ho⟩ HK
  iapply (step_waitSend m ρ K κs c ch (show i < i + 1 + 1 by omega) (by omega) hmw hsm hD) $$ [Hfl HpS Ho]
  · isplitl []
    · iexact HP
    isplitl [Hfl]
    · iexact Hfl
    isplitl [HpS] <;> iassumption
  iintro ⟨Hfl, HpS, Ho, Hs⟩
  ihave Hs := (slotPts_any (F := F) c ch (sl i) _) $$ Hs
  iapply HK
  isplitl [H1 Hfl HpS HpR Hrel Htold Hk Hs]
  · isplitl [H1]
    · iexact H1
    isplitl [Hfl]
    · iexact Hfl
    isplitl [HpS]
    · iexact HpS
    isplitl [HpR]
    · iexact HpR
    isplitl [Hrel]
    · iexact Hrel
    isplitl [Htold]
    · iexact Htold
    isplitl [Hk] <;> iassumption
  · iexact Ho

theorem cr_ok (ch : Fin 4) {i : ℕ} (hi : i < 27) {a b : Fin 4 → ℕ} (hb : b ch = i) {α : Type} {Q : α → sProp 𝕄} {k : PUnit → Prog (TpuEff nD τ sig (Elt F) Λ₀ .tc) α}
    {n : Dev nD} (hn : n.val = (prv ch c).val) {sm : Sem sig} (hsm : sm = credS ch) :
    iprop(PERS m ρ K κs ∗ chanW m ρ c ch i ∗ owesE (F := F) c (OW c a b))
      ⊢ iprop((((chanIn m ρ c ch (i + 1) ∗ restC c ch (i + 1)) ∗ owesE (F := F) c (OW c a (Function.update b ch (i + 1)))) -∗ WP c (k ⟨⟩) Q)
          -∗ WP c (.op (.semSignal (n : Thread nD τ) sm 1) k) Q) := by
  have e1 : min i 27 = i := by omega
  have e2 : min (i + 1) 27 = i + 1 := by omega
  have e3 : kept (F := F) c ch i = kept (F := F) c ch (i + 1) := by unfold kept; rw [big_Ico_nil _ (by omega), big_Ico_nil _ (by omega)]
  unfold chanW chanIn restC
  rw [e1, e2, e3]
  iintro ⟨#HP, ⟨⟨Ht, Hc, Hd, Hrc⟩, Hfl, HpS, HpR, Hrel, Htold, Hk, Hs⟩, Ho⟩ HK
  iapply (step_credit m ρ K κs c ch hi hb (Fin.ext hn) hsm) $$ [Hrel Htold HpR Hs Ho]
  · isplitl []
    · iexact HP
    isplitl [Hrel]
    · iexact Hrel
    isplitl [Htold]
    · iexact Htold
    isplitl [HpR]
    · iexact HpR
    isplitl [Hs] <;> iassumption
  iintro ⟨Hrel, Htold, HpR, Ho⟩
  iapply HK
  isplitl [Ht Hc Hd Hrc Hfl HpS HpR Hrel Htold Hk]
  · isplitl [Ht Hc Hd Hrc Hfl HpS HpR]
    · isplitl [Ht]
      · iexact Ht
      isplitl [Hc]
      · iexact Hc
      isplitl [Hd]
      · iexact Hd
      isplitl [HpS]
      · iexact HpS
      isplitl [Hfl]
      · iexact Hfl
      isplitl [Hrc] <;> iassumption
    · isplitl [Hrel]
      · iexact Hrel
      isplitl [Htold] <;> iassumption
  · iexact Ho

/-- Late in the loop no credit is given and the slot is kept. -/
theorem keep_ok (ch : Fin 4) {i : ℕ} (hi : 27 ≤ i) : chanW m ρ c ch i ⊢ iprop(chanIn m ρ c ch (i + 1) ∗ restC (F := F) c ch (i + 1)) := by
  have e1 : min i 27 = 27 := by omega
  have e2 : min (i + 1) 27 = 27 := by omega
  have e3 : kept (F := F) c ch (i + 1) = iprop(anySlot (F := F) c ch (sl i) ∗ kept (F := F) c ch i) := by unfold kept; exact big_Ico_top _ hi
  unfold chanW chanIn restC
  rw [e1, e2, e3]
  iintro ⟨⟨Ht, Hc, Hd, Hrc⟩, Hfl, HpS, HpR, Hrel, Htold, Hk, Hs⟩
  isplitl [Ht Hc Hd Hrc Hfl HpS HpR]
  · isplitl [Ht]
    · iexact Ht
    isplitl [Hc]
    · iexact Hc
    isplitl [Hd]
    · iexact Hd
    isplitl [HpS]
    · iexact HpS
    isplitl [Hfl]
    · iexact Hfl
    isplitl [Hrc] <;> iassumption
  · isplitl [Hrel]
    · iexact Hrel
    isplitl [Htold]
    · iexact Htold
    isplitl [Hs] <;> iassumption

/-- The first trip waits for nothing at its start. -/
theorem first_ok (ch : Fin 4) : chanA m ρ c ch 0 ⊢ iprop(chanIn m ρ c ch 0 ∗ restC (F := F) c ch 0) := by
  have e2 : last m ρ c ch 0 = iprop(emp) := if_neg (by omega)
  unfold chanA chanIn restC
  rw [e2]
  iintro ⟨⟨Ht, Hc, Hd, Hrc⟩, Hfl, HpS, HpR, Hrel, Htold, Hk, -⟩
  isplitl [Ht Hc Hd Hrc Hfl HpS HpR]
  · isplitl [Ht]
    · iexact Ht
    isplitl [Hc]
    · iexact Hc
    isplitl [Hd]
    · iexact Hd
    isplitl [HpS]
    · iexact HpS
    isplitl [Hfl]
    · iexact Hfl
    isplitl [Hrc] <;> iassumption
  · isplitl [Hrel]
    · iexact Hrel
    isplitl [Htold] <;> iassumption

theorem upd4 (b : Fin 4 → ℕ) (n : ℕ) : Function.update (Function.update (Function.update (Function.update b 0 n) 2 n) 1 n) 3 n = fun _ => n := by
  funext i; fin_cases i <;> rfl

/-- The four channels before trip `t`. -/
def four (P : Fin 4 → sProp (MT nD τ sig ℕ (Elt F) ℕ UU ℕ)) : sProp 𝕄 := iprop(P 0 ∗ P 2 ∗ P 1 ∗ P 3)

end Trip

end Cert.KernelIdeal.Ring

end
-- ==== Proof.KernelIdeal.Loop.lean ====
/-
The loop: the start of a trip, its end, and the trips together.
-/
module

public import proofs.«01_k».proof.Proof.KernelIdeal.Trip

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

section Loop
variable (c : Dev nD) (t : Fin k0_t1_loop.trips)
variable (h0 : xM.IsWhole) (h1 : wM.IsWhole) (h2 : oM.IsWhole) (h3 : comm0.IsWhole) (h4 : comm1.IsWhole)

abbrev pre9 : sProp 𝕄 :=
  iprop(PERS m ρ K κs ∗ four (fun ch => chanA m ρ c ch t.val) ∗ owesE (F := F) c (OW c (fun _ => t.val + 1) (fun _ => min (t.val - 1) 27)))
abbrev post9 : sProp 𝕄 :=
  iprop(four (fun ch => iprop(chanIn m ρ c ch t.val ∗ restC (F := F) c ch t.val)) ∗ owesE (F := F) c (OW c (fun _ => t.val + 1) (fun _ => min t.val 27)))

theorem part9_ok (v2 v13 v25 : BitVec 32) {Q} :
    pre9 m ρ K κs c t ⊢ iprop((∀ v480 v501 v503 z z', post9 m ρ c t -∗ Q ⟨Scf.iv 0#32 1#32 t, v480, v501, v503, z, z'⟩)
      -∗ WP c (k0_part9 (F := F) xM h0 wM h1 oM h2 comm0 h3 comm1 h4 cc0_scratch2 cc0_scratch3 cc0_scratch4 cc0_scratch5 cc0_scratch6 cc0_scratch7 c v2 v13 v25 0#32 1#32 t) Q) := by
  rw [k0_part9_eq_skeleton]
  unfold k0_part9_skel pre9 post9
  by_cases hz : 1 ≤ t.val
  · obtain ⟨i, hi⟩ : ∃ i, t.val = i + 1 := ⟨t.val - 1, by omega⟩
    have hlt := trip_lt t
    have c1 := (cond1_iff t).mpr hz
    have o16 : k0_off16 t = ![(sl i).val, 0] := by rw [off16_eq t hz, hi]; rfl
    have o19 : k0_off19 t = ![(sl i).val, 1] := by rw [off19_eq t hz, hi]; rfl
    rw [dif_pos c1, k0_part1_eq_skeleton, k0_part2_eq_skeleton, k0_part3_eq_skeleton]
    unfold k0_part1_skel k0_part2_skel k0_part3_skel
    have eb : (fun _ => min (i + 1 - 1) 27 : Fin 4 → ℕ) = fun _ => min i 27 := by rw [Nat.add_sub_cancel]
    rw [hi, eb]
    unfold four
    by_cases hc : i < 27
    · have c2 := (cond2_iff t).mpr ⟨hz, by omega⟩
      have e2 : (fun _ => min (i + 1) 27 : Fin 4 → ℕ) = fun _ => i + 1 := by funext _; omega
      have e3 : (fun _ => min i 27 : Fin 4 → ℕ) = fun _ => i := by funext _; omega
      rw [e2, e3]
      simp only [dif_pos c2, semSignalWord, Prog.lift, Prog.bind_op, Prog.bind_ret, Prog.pure_eq_ret]
      iintro ⟨#HP, ⟨H0, H2, H1, H3⟩, Ho⟩ HK
      iapply (ws_ok m ρ K κs c 0 (i := i) (by omega) (a := fun _ => i + 1 + 1) (b := fun _ => i) (fun _ => by omega) (fun _ => by omega) (sem_at _ o16 _ _) (credit_eq 0 _)) $$ [H0 Ho]
      · isplitl []
        · iexact HP
        isplitl [H0] <;> iassumption
      iintro ⟨H0, Ho⟩
      iapply (ws_ok m ρ K κs c 1 (i := i) (by omega) (a := fun _ => i + 1 + 1) (b := fun _ => i) (fun _ => by omega) (fun _ => by omega) (sem_at _ o19 _ _) (credit_eq 0 _)) $$ [H1 Ho]
      · isplitl []
        · iexact HP
        isplitl [H1] <;> iassumption
      iintro ⟨H1, Ho⟩
      iapply (ws_ok m ρ K κs c 2 (i := i) (by omega) (a := fun _ => i + 1 + 1) (b := fun _ => i) (fun _ => by omega) (fun _ => by omega) (sem_at _ o16 _ _) (credit_eq 1 _)) $$ [H2 Ho]
      · isplitl []
        · iexact HP
        isplitl [H2] <;> iassumption
      iintro ⟨H2, Ho⟩
      iapply (ws_ok m ρ K κs c 3 (i := i) (by omega) (a := fun _ => i + 1 + 1) (b := fun _ => i) (fun _ => by omega) (fun _ => by omega) (sem_at _ o19 _ _) (credit_eq 1 _)) $$ [H3 Ho]
      · isplitl []
        · iexact HP
        isplitl [H3] <;> iassumption
      iintro ⟨H3, Ho⟩
      iapply (cr_ok m ρ K κs c 0 hc (a := fun _ => i + 1 + 1) (b := fun _ => i) rfl (dev7_val c) rfl) $$ [H0 Ho]
      · isplitl []
        · iexact HP
        isplitl [H0] <;> iassumption
      iintro ⟨H0, Ho⟩
      iapply (cr_ok m ρ K κs c 2 hc (a := fun _ => i + 1 + 1) (b := (Function.update (fun _ => i) 0 (i + 1))) rfl (dev8_val c) rfl) $$ [H2 Ho]
      · isplitl []
        · iexact HP
        isplitl [H2] <;> iassumption
      iintro ⟨H2, Ho⟩
      iapply (cr_ok m ρ K κs c 1 hc (a := fun _ => i + 1 + 1) (b := (Function.update (Function.update (fun _ => i) 0 (i + 1)) 2 (i + 1))) rfl (dev9_val c) rfl) $$ [H1 Ho]
      · isplitl []
        · iexact HP
        isplitl [H1] <;> iassumption
      iintro ⟨H1, Ho⟩
      iapply (cr_ok m ρ K κs c 3 hc (a := fun _ => i + 1 + 1) (b := (Function.update (Function.update (Function.update (fun _ => i) 0 (i + 1)) 2 (i + 1)) 1 (i + 1))) rfl (dev10_val c) rfl) $$ [H3 Ho]
      · isplitl []
        · iexact HP
        isplitl [H3] <;> iassumption
      iintro ⟨H3, Ho⟩
      iapply wp_done
      iapply HK
      isplitl [H0 H1 H2 H3]
      · isplitl [H0]
        · iexact H0
        isplitl [H2]
        · iexact H2
        isplitl [H1] <;> iassumption
      · ihave Ho := (Entails.of_eq (congrArg (fun b => (owesE (F := F) c (OW c (fun _ => i + 1 + 1) b) : sProp 𝕄)) (upd4 (fun _ => i) (i + 1)))) $$ Ho
        iexact Ho
    · have c2 : ¬ k0_cond2 t = 1#1 := fun h => by have := (cond2_iff t).mp h; omega
      have e2 : (fun _ => min (i + 1) 27 : Fin 4 → ℕ) = fun _ => min i 27 := by funext _; omega
      rw [e2]
      simp only [dif_neg c2, Prog.lift, Prog.bind_op, Prog.bind_ret, Prog.pure_eq_ret]
      iintro ⟨#HP, ⟨H0, H2, H1, H3⟩, Ho⟩ HK
      iapply (ws_ok m ρ K κs c 0 (i := i) (by omega) (a := fun _ => i + 1 + 1) (b := fun _ => min i 27) (fun _ => by omega) (fun _ => by omega) (sem_at _ o16 _ _) (credit_eq 0 _)) $$ [H0 Ho]
      · isplitl []
        · iexact HP
        isplitl [H0] <;> iassumption
      iintro ⟨H0, Ho⟩
      iapply (ws_ok m ρ K κs c 1 (i := i) (by omega) (a := fun _ => i + 1 + 1) (b := fun _ => min i 27) (fun _ => by omega) (fun _ => by omega) (sem_at _ o19 _ _) (credit_eq 0 _)) $$ [H1 Ho]
      · isplitl []
        · iexact HP
        isplitl [H1] <;> iassumption
      iintro ⟨H1, Ho⟩
      iapply (ws_ok m ρ K κs c 2 (i := i) (by omega) (a := fun _ => i + 1 + 1) (b := fun _ => min i 27) (fun _ => by omega) (fun _ => by omega) (sem_at _ o16 _ _) (credit_eq 1 _)) $$ [H2 Ho]
      · isplitl []
        · iexact HP
        isplitl [H2] <;> iassumption
      iintro ⟨H2, Ho⟩
      iapply (ws_ok m ρ K κs c 3 (i := i) (by omega) (a := fun _ => i + 1 + 1) (b := fun _ => min i 27) (fun _ => by omega) (fun _ => by omega) (sem_at _ o19 _ _) (credit_eq 1 _)) $$ [H3 Ho]
      · isplitl []
        · iexact HP
        isplitl [H3] <;> iassumption
      iintro ⟨H3, Ho⟩
      iapply wp_done
      iapply HK
      isplitl [H0 H1 H2 H3]
      · isplitl [H0]
        · iapply (keep_ok m ρ c 0 (by omega)); iexact H0
        isplitl [H2]
        · iapply (keep_ok m ρ c 2 (by omega)); iexact H2
        isplitl [H1]
        · iapply (keep_ok m ρ c 1 (by omega)); iexact H1
        · iapply (keep_ok m ρ c 3 (by omega)); iexact H3
      · iexact Ho
  · have hi : t.val = 0 := by omega
    have c1 : ¬ k0_cond1 t = 1#1 := fun h => by have := (cond1_iff t).mp h; omega
    have c2 : ¬ k0_cond2 t = 1#1 := fun h => by have := (cond2_iff t).mp h; omega
    rw [hi]
    unfold four
    simp only [dif_neg c1, dif_neg c2, Prog.bind_ret, Prog.pure_eq_ret]
    iintro ⟨#HP, ⟨H0, H2, H1, H3⟩, Ho⟩ HK
    iapply wp_done
    iapply HK
    isplitl [H0 H1 H2 H3]
    · isplitl [H0]
      · iapply (first_ok m ρ c 0); iexact H0
      isplitl [H2]
      · iapply (first_ok m ρ c 2); iexact H2
      isplitl [H1]
      · iapply (first_ok m ρ c 1); iexact H1
      · iapply (first_ok m ρ c 3); iexact H3
    · iexact Ho

/-! ## The maximum and the finished blocks -/

abbrev xPts : sProp 𝕄 := xM.view.loc (c : Thread nD τ) ↦[Finset.univ]{fullShare} xstg m ρ c
abbrev wPts : sProp 𝕄 := wM.view.loc (c : Thread nD τ) ↦[Finset.univ]{fullShare} wstg m ρ c

theorem sv_fin (ch : Fin 4) {h : ℕ} (hh : 14 ≤ h) : k0_pay6 (sv m ρ ch c (h + 1)) = fin512 m ρ ch (chunk ch c (h + 1)) := by
  unfold sv fin512
  rw [Nat.min_eq_right (by omega)]

/-- The slot a device has just summed into or received, readable while the next transfer of it is in flight. -/
abbrev slotV (q : PosShare TreeShare) (ch : Fin 4) : sProp 𝕄 := slotPts c ch (sl (t.val + 1)) q (sv m ρ ch c (t.val + 1))

abbrev amV : F .f32 := k0_pay10 (am m ρ c t.val) (glue2 (sv m ρ 0 c (t.val + 1)) (sv m ρ 1 c (t.val + 1))) (glue2 (sv m ρ 2 c (t.val + 1)) (sv m ρ 3 c (t.val + 1)))

theorem part15_ok (q : PosShare TreeShare) (f : (cc0_stg2_0 : Ref sig .tc).ty.Contents (Elt F)) (hf : OutInv m ρ c t.val f) (v480 v501 v513 v667 v669 : BitVec 32) {Q} :
    iprop(four (slotV m ρ c t q) ∗ oPts c f)
      ⊢ iprop((∀ f', iprop(four (slotV m ρ c t q) ∗ oPts c f' ∗ ⌜14 ≤ t.val → OutInv m ρ c (t.val + 1) f'⌝) -∗ Q ⟨Scalar.cmpi .sge (Scf.iv 0#32 1#32 t) 14#32, amV m ρ c t⟩)
      -∗ WP c (k0_part15 (F := F) xM h0 wM h1 oM h2 comm0 h3 comm1 h4 cc0_scratch2 cc0_scratch3 cc0_scratch4 cc0_scratch5 cc0_scratch6 cc0_scratch7 c t (am m ρ c t.val) (Scf.iv 0#32 1#32 t) v480 v501 v513 v667 v669) Q) := by
  rw [k0_part15_eq_skeleton]
  unfold k0_part15_skel four slotV
  have hlt := trip_lt t
  by_cases hz : 14 ≤ t.val
  · rw [dif_pos ((cond15_iff t).mpr hz)]
    simp only [Prog.lift, Prog.bind_op, Prog.bind_ret, Prog.pure_eq_ret]
    have o0 : k0_off49 c t = ![256 * (chunk 0 c (t.val + 1)).val, 512 * (0 : Fin 4).val] := off49_at c t hz
    have o2 : k0_off50 c t = ![256 * (chunk 2 c (t.val + 1)).val, 512 * (2 : Fin 4).val] := off50_at c t hz
    have o1 : k0_off52 c t = ![256 * (chunk 1 c (t.val + 1)).val, 512 * (1 : Fin 4).val] := off52_at c t hz
    have o3 : k0_off53 c t = ![256 * (chunk 3 c (t.val + 1)).val, 512 * (3 : Fin 4).val] := off53_at c t hz
    iintro ⟨⟨H0, H2, H1, H3⟩, Hf⟩ HK
    iapply (slot_load c 0 (sl (t.val + 1)) rfl (off48_eq t)) $$ H0
    iintro H0
    iapply (ld c oM o0 (blk_inb _ _)) $$ Hf
    iintro Hf
    iapply (st c oM o0 (blk_inb _ _)) $$ Hf
    iintro Hf
    iapply (slot_load c 2 (sl (t.val + 1)) rfl (off48_eq t)) $$ H2
    iintro H2
    iapply (ld c oM o2 (blk_inb _ _)) $$ Hf
    iintro Hf
    iapply (st c oM o2 (blk_inb _ _)) $$ Hf
    iintro Hf
    iapply (slot_load c 1 (sl (t.val + 1)) rfl (off51_eq t)) $$ H1
    iintro H1
    iapply (ld c oM o1 (blk_inb _ _)) $$ Hf
    iintro Hf
    iapply (st c oM o1 (blk_inb _ _)) $$ Hf
    iintro Hf
    iapply (slot_load c 3 (sl (t.val + 1)) rfl (off51_eq t)) $$ H3
    iintro H3
    iapply (ld c oM o3 (blk_inb _ _)) $$ Hf
    iintro Hf
    iapply (st c oM o3 (blk_inb _ _)) $$ Hf
    iintro Hf
    iapply (pair_load c 0 (sl (t.val + 1)) (chA := 0) (chB := 1) rfl rfl rfl rfl rfl (off54_eq t)) $$ [H0 H1]
    · isplitl [H0] <;> iassumption
    iintro ⟨H0, H1⟩
    iapply (pair_load c 1 (sl (t.val + 1)) (chA := 2) (chB := 3) rfl rfl rfl rfl rfl (off54_eq t)) $$ [H2 H3]
    · isplitl [H2] <;> iassumption
    iintro ⟨H2, H3⟩
    iapply wp_done
    ihave Hf := (Entails.of_eq (congrArg (fun g => (oPts c g : sProp 𝕄)) (show _ = blkSt m ρ c t.val 3 (blkSt m ρ c t.val 1 (blkSt m ρ c t.val 2 (blkSt m ρ c t.val 0 f))) from by
      unfold blkSt; rw [← sv_fin m ρ c 0 hz, ← sv_fin m ρ c 1 hz, ← sv_fin m ρ c 2 hz, ← sv_fin m ρ c 3 hz]; rfl))) $$ Hf
    iapply HK
    isplitl [H0 H1 H2 H3]
    · isplitl [H0]; · iexact H0
      isplitl [H2]; · iexact H2
      isplitl [H1] <;> iassumption
    isplitl [Hf]; · iexact Hf
    ipureintro
    exact fun _ => outInv_done m ρ c t.val hz (by omega) f hf
  · rw [dif_neg (fun h => hz ((cond15_iff t).mp h))]
    simp only [Prog.lift, Prog.bind_op, Prog.bind_ret, Prog.pure_eq_ret]
    iintro ⟨⟨H0, H2, H1, H3⟩, Hf⟩ HK
    iapply (pair_load c 0 (sl (t.val + 1)) (chA := 0) (chB := 1) rfl rfl rfl rfl rfl (off54_eq t)) $$ [H0 H1]
    · isplitl [H0] <;> iassumption
    iintro ⟨H0, H1⟩
    iapply (pair_load c 1 (sl (t.val + 1)) (chA := 2) (chB := 3) rfl rfl rfl rfl rfl (off54_eq t)) $$ [H2 H3]
    · isplitl [H2] <;> iassumption
    iintro ⟨H2, H3⟩
    iapply wp_done
    iapply HK
    isplitl [H0 H1 H2 H3]
    · isplitl [H0]; · iexact H0
      isplitl [H2]; · iexact H2
      isplitl [H1] <;> iassumption
    isplitl [Hf]; · iexact Hf
    ipureintro
    exact fun h => absurd h hz

/-- The share of the slot that is not lent to a transfer. -/
def shareT (t : ℕ) : PosShare TreeShare := if t < 29 then fullShare.left else fullShare

/-- The slot taken out of a channel, to be put back. -/
theorem peel (ch : Fin 4) : chanOut m ρ c ch t.val ⊢ iprop(slotV m ρ c t (shareT t.val) ch ∗ (slotV m ρ c t (shareT t.val) ch -∗ chanOut m ρ c ch t.val)) := by
  have hlt := trip_lt t
  unfold chanOut slotV shareT
  by_cases h : t.val < 29
  · rw [if_pos h]
    have e : fl m ρ c ch t.val (min (t.val + 2) 30)
        = iprop((cred (tallyAt (sendCell c ch (sl (t.val + 1))) ((t.val + 1) / 4) N) ∗ slotPts c ch (sl (t.val + 1)) fullShare.left (sv m ρ ch c (t.val + 1)))
          ∗ bigSep ((Finset.Ico t.val (min (t.val + 2) 30)).erase (t.val + 1)) (fun g => iprop(cred (tallyAt (sendCell c ch (sl g)) (g / 4) N) ∗ slotPts c ch (sl g) fullShare.left (sv m ρ ch c g)))) := by
      unfold fl
      rw [bigSep_erase (Finset.mem_Ico.mpr ⟨by omega, by omega⟩ : t.val + 1 ∈ Finset.Ico t.val (min (t.val + 2) 30))]; rfl
    rw [e]
    iintro ⟨Ht, Hc, Hd, HpS, ⟨⟨Hcr, Hs⟩, Hfl⟩, Hl, Hrc, HpR⟩
    isplitl [Hs]; · iexact Hs
    iintro Hs
    isplitl [Ht]; · iexact Ht
    isplitl [Hc]; · iexact Hc
    isplitl [Hd]; · iexact Hd
    isplitl [HpS]; · iexact HpS
    isplitl [Hcr Hs Hfl]
    · isplitl [Hcr Hs]
      · isplitl [Hcr] <;> iassumption
      iexact Hfl
    isplitl [Hl]; · iexact Hl
    isplitl [Hrc] <;> iassumption
  · have h29 : t.val = 29 := by omega
    rw [if_neg h, h29]
    have e : last m ρ c ch (29 + 1) = slotPts c ch (sl (29 + 1)) fullShare (sv m ρ ch c (29 + 1)) := by unfold last; rw [if_pos rfl]
    rw [e]
    iintro ⟨Ht, Hc, Hd, HpS, Hfl, Hl, Hrc, HpR⟩
    isplitl [Hl]; · iexact Hl
    iintro Hl
    isplitl [Ht]; · iexact Ht
    isplitl [Hc]; · iexact Hc
    isplitl [Hd]; · iexact Hd
    isplitl [HpS]; · iexact HpS
    isplitl [Hfl]; · iexact Hfl
    isplitl [Hl]; · iexact Hl
    isplitl [Hrc] <;> iassumption

theorem peel4 : four (fun ch => chanOut m ρ c ch t.val) ⊢ iprop(four (slotV m ρ c t (shareT t.val)) ∗ (four (slotV m ρ c t (shareT t.val)) -∗ four (fun ch => chanOut m ρ c ch t.val))) := by
  unfold four
  iintro ⟨H0, H2, H1, H3⟩
  ihave ⟨H0, K0⟩ := (peel m ρ c t 0) $$ H0
  ihave ⟨H1, K1⟩ := (peel m ρ c t 1) $$ H1
  ihave ⟨H2, K2⟩ := (peel m ρ c t 2) $$ H2
  ihave ⟨H3, K3⟩ := (peel m ρ c t 3) $$ H3
  isplitl [H0 H1 H2 H3]
  · isplitl [H0]; · iexact H0
    isplitl [H2]; · iexact H2
    isplitl [H1] <;> iassumption
  iintro ⟨H0, H2, H1, H3⟩
  isplitl [K0 H0]; · iapply K0; iexact H0
  isplitl [K2 H2]; · iapply K2; iexact H2
  isplitl [K1 H1]; · iapply K1; iexact H1
  iapply K3; iexact H3

/-- What a channel is before the next trip. -/
theorem chan_next (ch : Fin 4) : iprop(chanOut m ρ c ch t.val ∗ restC (F := F) c ch t.val) ⊢ chanA m ρ c ch (t.val + 1) := by
  have e1 : t.val + 1 - 2 = t.val - 1 := by omega
  unfold chanOut restC chanA
  rw [e1, Nat.add_sub_cancel]
  iintro ⟨⟨Ht, Hc, Hd, HpS, Hfl, Hl, Hrc, HpR⟩, Hre, Hto, Hke⟩
  isplitl [Ht Hc Hd Hrc]
  · isplitl [Ht]; · iexact Ht
    isplitl [Hc]; · iexact Hc
    isplitl [Hd] <;> iassumption
  isplitl [Hfl]; · iexact Hfl
  isplitl [HpS]; · iexact HpS
  isplitl [HpR]; · iexact HpR
  isplitl [Hre]; · iexact Hre
  isplitl [Hto]; · iexact Hto
  isplitl [Hke] <;> iassumption

theorem next4 : iprop(four (fun ch => chanOut m ρ c ch t.val) ∗ four (fun ch => restC (F := F) c ch t.val)) ⊢ four (fun ch => chanA m ρ c ch (t.val + 1)) := by
  unfold four
  iintro ⟨⟨H0, H2, H1, H3⟩, K0, K2, K1, K3⟩
  isplitl [K0 H0]
  · iapply (chan_next m ρ c t 0); isplitl [H0] <;> iassumption
  isplitl [K2 H2]
  · iapply (chan_next m ρ c t 2); isplitl [H2] <;> iassumption
  isplitl [K1 H1]
  · iapply (chan_next m ρ c t 1); isplitl [H1] <;> iassumption
  · iapply (chan_next m ρ c t 3); isplitl [H3] <;> iassumption

/-! ## The partial products of the next hop -/

theorem part8_ok (hc : k0_cond16 t = 1#1) (f : (cc0_stg2_0 : Ref sig .tc).ty.Contents (Elt F)) (v2 : BitVec 32) {Q} :
    iprop(xPts m ρ c ∗ wPts m ρ c ∗ oPts c f)
      ⊢ iprop((∀ r, iprop(xPts m ρ c ∗ wPts m ρ c ∗ oPts c (halfSt m ρ c t.val 0 f)) -∗ Q r)
      -∗ WP c (k0_part8 (F := F) xM h0 wM h1 oM h2 comm0 h3 comm1 h4 cc0_scratch2 cc0_scratch3 cc0_scratch4 cc0_scratch5 cc0_scratch6 cc0_scratch7 c v2 t (Scf.iv 0#32 1#32 t) hc) Q) := by
  rw [k0_part8_eq_skeleton]
  unfold k0_part8_skel
  have hz : t.val ≤ 13 := (cond16_iff t).mp hc
  simp only [Prog.lift, Prog.bind_op, Prog.bind_ret, Prog.pure_eq_ret]
  iintro ⟨Hx, Hw, Hf⟩ HK
  iapply (ld c xM (off55_at c t hz) (rowsX_inb _)) $$ Hx
  iintro Hx
  iapply (ld c wM (off' := ![0, 1024 * (0 : Fin 2).val]) rfl (colsW_inb _)) $$ Hw
  iintro Hw
  iapply (ld c oM (off56_at c t hz) (half_inb _ 0)) $$ Hf
  iintro Hf
  iapply (st c oM (off56_at c t hz) (half_inb _ 0)) $$ Hf
  iintro Hf
  iapply wp_done
  iapply HK
  isplitl [Hx]; · iexact Hx
  isplitl [Hw]; · iexact Hw
  iexact Hf

/-! ## A trip -/

/-- Before trip `t`. -/
def invT (t : ℕ) (a : F .f32) : sProp 𝕄 :=
  iprop(PERS m ρ K κs ∗ four (fun ch => chanA m ρ c ch t) ∗ owesE (F := F) c (OW c (fun _ => min (t + 1) 30) (fun _ => min (t - 1) 27))
    ∗ xPts m ρ c ∗ wPts m ρ c ∗ (∃ f, oPts c f ∗ ⌜OutInv m ρ c t f⌝) ∗ ⌜a = am m ρ c t⌝)

theorem wp_seq {α β : Type} {p : Prog (TpuEff nD τ sig (Elt F) Λ₀ .tc) α} {k : α → Prog (TpuEff nD τ sig (Elt F) Λ₀ .tc) β} {Q : β → sProp 𝕄} :
    WP c p (fun r => WP c (k r) Q) ⊢ WP c (p >>= k) Q := by
  unfold WP; rw [wp_bind]

theorem am_next : k0_pay19 (am m ρ c t.val) (Scalar.cmpi .sge (Scf.iv 0#32 1#32 t) 14#32) (amV m ρ c t) = am m ρ c (t.val + 1) := by
  unfold k0_pay19
  show _ = if 14 ≤ t.val then amV m ρ c t else am m ρ c t.val
  by_cases h : 14 ≤ t.val
  · rw [if_pos h, (condA t).mpr h]; rfl
  · rw [if_neg h]
    have h0 := mt (condA t).mp h
    exact if_neg h0

theorem four_split : four (fun ch => iprop(chanIn m ρ c ch t.val ∗ restC (F := F) c ch t.val)) ⊢ iprop(four (fun ch => chanIn m ρ c ch t.val) ∗ four (fun ch => restC (F := F) c ch t.val)) := by
  unfold four
  iintro ⟨⟨H0, K0⟩, ⟨H2, K2⟩, ⟨H1, K1⟩, H3, K3⟩
  isplitl [H0 H1 H2 H3]
  · isplitl [H0]; · iexact H0
    isplitl [H2]; · iexact H2
    isplitl [H1] <;> iassumption
  · isplitl [K0]; · iexact K0
    isplitl [K2]; · iexact K2
    isplitl [K1] <;> iassumption

theorem part10_ok (v13 v503 z z' w : BitVec 32) {Q : BitVec 32 → sProp 𝕄} :
    iprop(∀ r, Q r) ⊢ WP c (k0_part10 (F := F) xM h0 wM h1 oM h2 comm0 h3 comm1 h4 cc0_scratch2 cc0_scratch3 cc0_scratch4 cc0_scratch5 cc0_scratch6 cc0_scratch7 v13 t w v503 z z') Q := by
  rw [k0_part10_eq_skeleton]
  unfold k0_part10_skel
  simp only [Prog.pure_eq_ret]
  iintro H
  iapply wp_done
  iapply H

theorem upd_le (a : Fin 4 → ℕ) (h : ∀ ch, t.val + 1 ≤ a ch) (ch : Fin 4) : ∀ ch', t.val + 1 ≤ Function.update a ch (min (t.val + 2) 30) ch' := by
  have hlt := trip_lt t
  intro ch'
  by_cases e : ch' = ch
  · subst e; rw [Function.update_self]; omega
  · rw [Function.update_of_ne e]; exact h ch'

theorem four_in (P : Fin 4 → sProp 𝕄) : iprop(P 0 ∗ P 2 ∗ P 1 ∗ P 3) ⊢ four P := by
  unfold four; exact .rfl

/-- The end of a trip: the partial products of the next hop. -/
theorem tail_ok (v2 : BitVec 32) (f : (cc0_stg2_0 : Ref sig .tc).ty.Contents (Elt F)) (hf : 14 ≤ t.val → OutInv m ρ c (t.val + 1) f) :
    iprop(PERS m ρ K κs ∗ four (fun ch => chanA m ρ c ch (t.val + 1)) ∗ owesE (F := F) c (OW c (fun _ => min (t.val + 2) 30) (fun _ => min t.val 27))
      ∗ xPts m ρ c ∗ wPts m ρ c ∗ oPts c f)
    ⊢ WP c (do
      if h : k0_cond16 t = 1#1 then do
        let ⟨_, _⟩ ← k0_part8 (F := F) xM h0 wM h1 oM h2 comm0 h3 comm1 h4 cc0_scratch2 cc0_scratch3 cc0_scratch4 cc0_scratch5 cc0_scratch6 cc0_scratch7 c v2 t (Scf.iv 0#32 1#32 t) h
        let v749 : Vec F S256x256 .f32 ← Prog.lift (.load xM (Rect.unit (s := S4096x256) (k0_off57 c t) S256x256.size (k0_off57_inb c t h)).toLoadRect (View.loadsAt_vmem h_S256x256))
        let v751 : Vec F S256x1024 .f32 ← Prog.lift (.load wM (Rect.unit (s := S256x2048) ![0, 1024] S256x1024.size inb_S256x2048_S256x1024_0_1024).toLoadRect (View.loadsAt_vmem h_S256x1024))
        let _ : Vec F S256x1024 .f32 ← Prog.lift (.load oM (Rect.unit (s := S4096x2048) (k0_off58 c t) S256x1024.size (k0_off58_inb c t h)).toLoadRect (View.loadsAt_vmem h_S256x1024))
        Prog.lift (.store oM (Rect.unit (s := S4096x2048) (k0_off58 c t) S256x1024.size (k0_off58_inb c t h)) (k0_pay20 v749 v751) Finset.univ (View.stores_vmem_bits_univ h_S256x1024 rfl) (.inl rfl))
        pure ⟨⟩
      else do
        pure ⟨⟩
      pure (k0_pay19 (am m ρ c t.val) (Scalar.cmpi .sge (Scf.iv 0#32 1#32 t) 14#32) (amV m ρ c t)) : Prog (TpuEff nD τ sig (Elt F) Λ₀ .tc) (F .f32)) (invT m ρ K κs c (t.val + 1)) := by
  unfold invT
  rw [am_next, Nat.add_sub_cancel]
  by_cases hc : k0_cond16 t = 1#1
  · have hz : t.val ≤ 13 := (cond16_iff t).mp hc
    rw [dif_pos hc]
    iintro ⟨#HP, HA, Ho, Hx, Hw, Hf⟩
    iapply wp_seq
    iapply (part8_ok m ρ c t h0 h1 h2 h3 h4 hc f v2) $$ [Hx Hw Hf]
    · isplitl [Hx]; · iexact Hx
      isplitl [Hw] <;> iassumption
    iintro %r ⟨Hx, Hw, Hf⟩
    iapply (ld c xM (off57_at c t hz) (rowsX_inb _)) $$ Hx
    iintro Hx
    iapply (ld c wM (off' := ![0, 1024 * (1 : Fin 2).val]) rfl (colsW_inb _)) $$ Hw
    iintro Hw
    iapply (ld c oM (off58_at c t hz) (half_inb _ 1)) $$ Hf
    iintro Hf
    iapply (st c oM (off58_at c t hz) (half_inb _ 1)) $$ Hf
    iintro Hf
    iapply wp_done
    isplitl []; · iexact HP
    isplitl [HA]; · iexact HA
    isplitl [Ho]; · iexact Ho
    isplitl [Hx]; · iexact Hx
    isplitl [Hw]; · iexact Hw
    isplitl [Hf]
    · iexists (halfSt m ρ c t.val 1 (halfSt m ρ c t.val 0 f))
      isplitl [Hf]; · iexact Hf
      ipureintro; exact outInv_part m ρ c t.val f hz
    · ipureintro; rfl
  · have hz : 14 ≤ t.val := by have := mt (cond16_iff t).mpr hc; omega
    rw [dif_neg hc]
    iintro ⟨#HP, HA, Ho, Hx, Hw, Hf⟩
    iapply wp_done
    isplitl []; · iexact HP
    isplitl [HA]; · iexact HA
    isplitl [Ho]; · iexact Ho
    isplitl [Hx]; · iexact Hx
    isplitl [Hw]; · iexact Hw
    isplitl [Hf]
    · iexists f
      isplitl [Hf]; · iexact Hf
      ipureintro; exact hf hz
    · ipureintro; rfl

theorem body_ok (v2 v13 v25 z z' : BitVec 32) (a : F .f32) :
    invT m ρ K κs c t.val a ⊢ WP c (k0_t1_body (F := F) xM h0 wM h1 oM h2 comm0 h3 comm1 h4 cc0_scratch2 cc0_scratch3 cc0_scratch4 cc0_scratch5 cc0_scratch6 cc0_scratch7 c v2 v13 v25 z z' t a) (invT m ρ K κs c (t.val + 1)) := by
  have hlt := trip_lt t
  have ea : (fun _ => min (t.val + 1) 30 : Fin 4 → ℕ) = fun _ => t.val + 1 := by funext _; omega
  unfold invT k0_t1_body
  rw [ea]
  iintro ⟨#HP, HA, Ho, Hx, Hw, ⟨%f, Hf, %hf⟩, %hacc⟩
  subst hacc
  iapply wp_seq
  iapply (part9_ok m ρ K κs c t h0 h1 h2 h3 h4 v2 v13 v25) $$ [HA Ho]
  · isplitl []
    · iexact HP
    isplitl [HA] <;> iassumption
  iintro %v480 %v501 %v503 %y %y' ⟨HA, Ho⟩
  ihave ⟨HA, HR⟩ := (four_split m ρ c t) $$ HA
  ihave HA := (Entails.of_eq (show four (fun ch => chanIn m ρ c ch t.val) = iprop(chanIn m ρ c 0 t.val ∗ chanIn m ρ c 2 t.val ∗ chanIn m ρ c 1 t.val ∗ chanIn m ρ c 3 t.val) from rfl)) $$ HA
  icases HA with ⟨H0, H2, H1, H3⟩
  iapply wp_seq
  iapply (part10_ok c t h0 h1 h2 h3 h4 _ _ _ _ _)
  iintro %v513
  iapply wp_seq
  iapply (part11_ok m ρ K κs c t h0 h1 h2 h3 h4 (a := fun _ => t.val + 1) (b := fun _ => min t.val 27) (f := f) _ _ _ _ rfl (fun _ => le_rfl) (fun _ => le_rfl) (fun h => hf.part h 0)) $$ [H0 Ho Hf]
  · isplitl []; · iexact HP
    isplitl [H0]; · iexact H0
    isplitl [Hf] <;> iassumption
  iintro %r1 ⟨H0, Hf, Ho⟩
  iapply wp_seq
  iapply (part12_ok m ρ K κs c t h0 h1 h2 h3 h4 (a := (Function.update (fun _ => t.val + 1) 0 (min (t.val + 2) 30))) (b := fun _ => min t.val 27) (f := f) _ _ _ _ _ rfl (upd_le t _ (fun _ => le_rfl) _) (fun _ => le_rfl) (fun h => hf.part h 2)) $$ [H2 Ho Hf]
  · isplitl []; · iexact HP
    isplitl [H2]; · iexact H2
    isplitl [Hf] <;> iassumption
  iintro %r2 ⟨H2, Hf, Ho⟩
  iapply wp_seq
  iapply (part13_ok m ρ K κs c t h0 h1 h2 h3 h4 (a := (Function.update (Function.update (fun _ => t.val + 1) 0 (min (t.val + 2) 30)) 2 (min (t.val + 2) 30))) (b := fun _ => min t.val 27) (f := f) _ _ _ rfl (upd_le t _ (upd_le t _ (fun _ => le_rfl) _) _) (fun _ => le_rfl) (fun h => hf.part h 1)) $$ [H1 Ho Hf]
  · isplitl []; · iexact HP
    isplitl [H1]; · iexact H1
    isplitl [Hf] <;> iassumption
  iintro %r3 ⟨H1, Hf, Ho⟩
  iapply wp_seq
  iapply (part14_ok m ρ K κs c t h0 h1 h2 h3 h4 (a := (Function.update (Function.update (Function.update (fun _ => t.val + 1) 0 (min (t.val + 2) 30)) 2 (min (t.val + 2) 30)) 1 (min (t.val + 2) 30))) (b := fun _ => min t.val 27) (f := f) _ _ _ _ _ _ _ _ rfl (upd_le t _ (upd_le t _ (upd_le t _ (fun _ => le_rfl) _) _) _) (fun _ => le_rfl) (fun h => hf.part h 3)) $$ [H3 Ho Hf]
  · isplitl []; · iexact HP
    isplitl [H3]; · iexact H3
    isplitl [Hf] <;> iassumption
  iintro %r4 ⟨H3, Hf, Ho⟩
  ihave Ho := (Entails.of_eq (congrArg (fun a => (owesE (F := F) c (OW c a (fun _ => min t.val 27)) : sProp 𝕄)) (upd4 (fun _ => t.val + 1) (min (t.val + 2) 30)))) $$ Ho
  ihave HA := (four_in (fun ch => chanOut m ρ c ch t.val)) $$ [H0 H1 H2 H3]
  · isplitl [H0]; · iexact H0
    isplitl [H2]; · iexact H2
    isplitl [H1] <;> iassumption
  ihave ⟨HV, HA⟩ := (peel4 m ρ c t) $$ HA
  iapply wp_seq
  iapply (part15_ok m ρ c t h0 h1 h2 h3 h4 (shareT t.val) f hf) $$ [HV Hf]
  · isplitl [HV] <;> iassumption
  iintro %f' ⟨HV, Hf, %hf'⟩
  ihave HA := HA $$ HV
  ihave HA := (next4 m ρ c t) $$ [HA HR]
  · isplitl [HA] <;> iassumption
  iapply (tail_ok m ρ K κs c t h0 h1 h2 h3 h4 v2 f' hf')
  isplitl []; · iexact HP
  isplitl [HA]; · iexact HA
  isplitl [Ho]; · iexact Ho
  isplitl [Hx]; · iexact Hx
  isplitl [Hw]; · iexact Hw
  iexact Hf

end Loop

end Cert.KernelIdeal.Ring

end
-- ==== Proof.KernelIdeal.Start.lean ====
/-
The start of the kernel's body: the first partial products, the own blocks put into the first slots, the
barrier and the first four transfers.
-/
module

public import proofs.«01_k».proof.Proof.KernelIdeal.Loop

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

/-! ## The first partial products -/

abbrev gemm0 (c : Dev nD) (g : ℕ) (r : Fin 2) (f : (cc0_stg2_0 : Ref sig .tc).ty.Contents (Elt F)) : (cc0_stg2_0 : Ref sig .tc).ty.Contents (Elt F) :=
  (oM.access (halfR (chunkR r c g) r)).write (Elt F) f (part m ρ c r (chunkR r c g)) Finset.univ

/-- The array holds the partial products of the blocks sent first and of the blocks added first. -/
structure Inv0 (c : Dev nD) (f : (cc0_stg2_0 : Ref sig .tc).ty.Contents (Elt F)) : Prop where
  out : OutInv m ρ c 0 f
  own : ∀ ch, Blk f (chunk ch c 0) ch (part512 m ρ c ch (chunk ch c 0))

theorem inv0 (c : Dev nD) (f : (cc0_stg2_0 : Ref sig .tc).ty.Contents (Elt F)) :
    Inv0 m ρ c (gemm0 m ρ c 1 1 (gemm0 m ρ c 1 0 (gemm0 m ρ c 0 1 (gemm0 m ρ c 0 0 f)))) := by
  have hc (ch : Fin 4) : ringOf ch = 0 ∨ ringOf ch = 1 := by revert ch; decide
  refine ⟨⟨fun _ ch => ?_, fun g h1 h2 => by omega⟩, fun ch => ?_⟩
  · rcases hc ch with hc | hc
    · refine half_store_other _ _ (Or.inr (by rw [hc]; decide)) ?_
      have := half_store_self m ρ (gemm0 m ρ c 0 1 (gemm0 m ρ c 0 0 f)) c (chunkR 0 c 1) ch
      unfold chunk
      rw [hc] at this ⊢
      exact this
    · have := half_store_self m ρ (gemm0 m ρ c 1 0 (gemm0 m ρ c 0 1 (gemm0 m ρ c 0 0 f))) c (chunkR 1 c 1) ch
      unfold chunk
      rw [hc] at this ⊢
      exact this
  · have hne : chunk ch c 0 ≠ chunk ch c 1 := chunk_ne ch c (by omega) (by omega)
    unfold chunk at hne
    rcases hc ch with hc | hc
    · refine half_store_other _ _ (Or.inr (by rw [hc]; decide)) ?_
      refine half_store_other _ _ (Or.inl (by rw [hc] at hne; unfold chunk; rw [hc]; exact hne.symm)) ?_
      refine half_store_other _ _ (Or.inr (by rw [hc]; decide)) ?_
      have := half_store_self m ρ f c (chunkR 0 c 0) ch
      unfold chunk
      rw [hc] at this ⊢
      exact this
    · refine half_store_other _ _ (Or.inl (by rw [hc] at hne; unfold chunk; rw [hc]; exact hne.symm)) ?_
      refine half_store_other _ _ (Or.inr (by rw [hc]; decide)) ?_
      have := half_store_self m ρ (gemm0 m ρ c 0 0 f) c (chunkR 1 c 0) ch
      unfold chunk
      rw [hc] at this ⊢
      exact this

section Start
variable (c : Dev nD)
variable (h0 : xM.IsWhole) (h1 : wM.IsWhole) (h2 : oM.IsWhole) (h3 : comm0.IsWhole) (h4 : comm1.IsWhole)

theorem part16_ok {Q} : iprop(xPts m ρ c ∗ wPts m ρ c)
    ⊢ iprop((∀ v2 v13 v25 v, iprop(xPts m ρ c ∗ wPts m ρ c ∗ ⌜v = part m ρ c 0 (chunkR 0 c 0)⌝) -∗ Q ⟨c, v2, v13, v25, v⟩)
      -∗ WP c (k0_part16 (F := F) xM h0 wM h1 oM h2 comm0 h3 comm1 h4 cc0_scratch2 cc0_scratch3 cc0_scratch4 cc0_scratch5 cc0_scratch6 cc0_scratch7) Q) := by
  rw [k0_part16_eq_skeleton]
  unfold k0_part16_skel WP
  simp only [Prog.lift, Prog.bind_op, Prog.bind_ret, Prog.pure_eq_ret, wp_deviceId]
  iintro ⟨Hx, Hw⟩ HK
  iapply (ld c xM (offx_own c) (rowsX_inb _)) $$ Hx
  iintro Hx
  iapply (ld c wM (off' := ![0, 1024 * (0 : Fin 2).val]) rfl (colsW_inb _)) $$ Hw
  iintro Hw
  iapply wp_done
  iapply HK
  isplitl [Hx]; · iexact Hx
  isplitl [Hw]; · iexact Hw
  ipureintro; rfl

theorem part17_ok (f : (cc0_stg2_0 : Ref sig .tc).ty.Contents (Elt F)) (v2 v13 v25 : BitVec 32) {Q} : iprop(xPts m ρ c ∗ wPts m ρ c ∗ oPts c f)
    ⊢ iprop((iprop(xPts m ρ c ∗ wPts m ρ c ∗ oPts c (gemm0 m ρ c 1 1 (gemm0 m ρ c 1 0 (gemm0 m ρ c 0 1 (gemm0 m ρ c 0 0 f))))) -∗ Q ⟨⟩)
      -∗ WP c (k0_part17 (F := F) xM h0 wM h1 oM h2 comm0 h3 comm1 h4 cc0_scratch2 cc0_scratch3 cc0_scratch4 cc0_scratch5 cc0_scratch6 cc0_scratch7 c v2 v13 v25 (part m ρ c 0 (chunkR 0 c 0))) Q) := by
  rw [k0_part17_eq_skeleton]
  unfold k0_part17_skel
  have o1 : k0_off1 c = ![256 * (chunkR 1 c 0).val, 0] := offx_own c
  simp only [Prog.lift, Prog.bind_op, Prog.bind_ret, Prog.pure_eq_ret]
  iintro ⟨Hx, Hw, Hf⟩ HK
  iapply (ld c oM (off2_at c) (half_inb _ 0)) $$ Hf
  iintro Hf
  iapply (st c oM (off2_at c) (half_inb _ 0)) $$ Hf
  iintro Hf
  iapply (ld c xM o1 (rowsX_inb _)) $$ Hx
  iintro Hx
  iapply (ld c wM (off' := ![0, 1024 * (1 : Fin 2).val]) rfl (colsW_inb _)) $$ Hw
  iintro Hw
  iapply (ld c oM (off3_at c) (half_inb _ 1)) $$ Hf
  iintro Hf
  iapply (st c oM (off3_at c) (half_inb _ 1)) $$ Hf
  iintro Hf
  iapply (ld c xM (offx_left c) (rowsX_inb _)) $$ Hx
  iintro Hx
  iapply (ld c wM (off' := ![0, 1024 * (0 : Fin 2).val]) rfl (colsW_inb _)) $$ Hw
  iintro Hw
  iapply (ld c oM (off5_at c) (half_inb _ 0)) $$ Hf
  iintro Hf
  iapply (st c oM (off5_at c) (half_inb _ 0)) $$ Hf
  iintro Hf
  iapply (ld c xM (offx_right c) (rowsX_inb _)) $$ Hx
  iintro Hx
  iapply (ld c wM (off' := ![0, 1024 * (1 : Fin 2).val]) rfl (colsW_inb _)) $$ Hw
  iintro Hw
  iapply (ld c oM (off7_at c) (half_inb _ 1)) $$ Hf
  iintro Hf
  iapply (st c oM (off7_at c) (half_inb _ 1)) $$ Hf
  iintro Hf
  iapply wp_done
  iapply HK
  isplitl [Hx]; · iexact Hx
  isplitl [Hw]; · iexact Hw
  iexact Hf

/-! ## The first slots and the barrier -/

/-- What a channel starts with. -/
def startC (ch : Fin 4) : sProp 𝕄 :=
  iprop(toks (F := F) c ch 0 ∗ cw (F := F) c ch 0 ∗ rcr (F := F) c ch 0 ∗ posS (F := F) c ch 0 ∗ posR (F := F) c ch 0 ∗ rel (F := F) c ch 0)

abbrev slot0 (ch : Fin 4) : sProp 𝕄 := slotPts c ch (sl 0) fullShare (sv m ρ ch c 0)
abbrev free3 (ch : Fin 4) : sProp 𝕄 := bigSep (Finset.range 3) fun g => anySlot (F := F) c ch (sl (g + 1))

/-- A signal to the neighbour that sends to this device on ring `r`. -/
theorem bar_signal (r : Fin 2) {O O' : CellTallies nD τ sig ℕ} (hO : O = O' + tallyAt (barCell (prvR r c)) 0 1) {n : Dev nD} (hn : n = prvR r c)
    {sm : Sem sig} (hsm : sm = barS) {α : Type} {Q : α → sProp 𝕄} {k : PUnit → Prog (TpuEff nD τ sig (Elt F) Λ₀ .tc) α}
    (hp : iprop(free3 c (chan r 0) ∗ free3 c (chan r 1)) ⊢ barPay (F := F) (prvR r c) r.val) :
    iprop(PERS m ρ K κs ∗ dutyTok ER (barCell (prvR r c)) 0 r.val ∗ free3 (F := F) c (chan r 0) ∗ free3 (F := F) c (chan r 1) ∗ owesE (F := F) c O)
      ⊢ iprop((owesE (F := F) c O' -∗ WP c (k ⟨⟩) Q) -∗ WP c (.op (.semSignal (n : Thread nD τ) sm 1) k) Q) := by
  subst hn; subst hsm
  have hd : r.val ∈ (ringRd (F := F) m ρ).duties (barCell (prvR r c)) 0 := by
    have h : ∀ r : Fin 2, r.val ∈ ({0, 1} : Finset ℕ) := by decide
    rw [duties_bar]; exact h r
  unfold owesE
  iintro ⟨#HP, Ht, Ha, Hb, Ho⟩ Hk
  icases Ho with ⟨%W, Ho⟩
  iapply (Rounds.wp_signal 𝒱₀ ER (ringRd m ρ) (c : Thread nD τ) none (dst := (prvR r c : Thread nD τ)) (κ := K (prvR r c, .inr (.inr (.inr ()))))
      (r := 0) (d := r.val) hd (amount_bar m ρ (prvR r c) 0 r.val) 0 O' hO) $$ [Ho Ht Ha Hb]
  · isplitr; · iapply (pers_inv m ρ K κs (prvR r c, .inr (.inr (.inr ())))); iexact HP
    isplitl [Ho]; · iexact Ho
    isplitl [Ht]; · iexact Ht
    isplitl [Ha Hb]
    · ihave H := hp $$ [Ha Hb]
      · isplitl [Ha] <;> iassumption
      iapply (Entails.of_eq (payload_bar m ρ (prvR r c) 0 r.val).symm); iexact H
    iapply (pers_reached m ρ K κs (prvR r c, .inr (.inr (.inr ())))); iexact HP
  iintro Ho
  iapply Hk
  iexists W; iexact Ho

theorem pay_at0 : iprop(free3 c 0 ∗ free3 c 1) ⊢ barPay (F := F) (prvR 0 c) 0 := by
  unfold barPay
  rw [if_pos rfl, show nxt 0 (prvR 0 c) = c from nxt_prv _ _, show nxt 1 (prvR 0 c) = c from nxt_prv _ _]
theorem pay_at1 : iprop(free3 c 2 ∗ free3 c 3) ⊢ barPay (F := F) (prvR 1 c) 1 := by
  unfold barPay
  rw [if_neg (by decide), show nxt 2 (prvR 1 c) = c from nxt_prv _ _, show nxt 3 (prvR 1 c) = c from nxt_prv _ _]

/-- The wait at the barrier: both neighbours' free slots. -/
theorem bar_wait {O : CellTallies nD τ sig ℕ} (hmw : levs (F := F) ⊢ MayWait (c : Thread nD τ) (.reg barS) 0 O) {sm : Sem sig} (hsm : sm = barS)
    {α : Type} {Q : α → sProp 𝕄} {k : PUnit → Prog (TpuEff nD τ sig (Elt F) Λ₀ .tc) α} :
    iprop(PERS m ρ K κs ∗ cred (tallyAt (barCell c) 0 2) ∗ atPos ER (barCell c) 0 ∅ 0 ∗ owesE (F := F) c O)
      ⊢ iprop((iprop(atPos ER (barCell c) 1 ∅ 0 ∗ four (fun ch => dst (F := F) c ch 0) ∗ owesE (F := F) c O) -∗ WP c (k ⟨⟩) Q)
        -∗ WP c (.op (.semWait sm 2) k) Q) := by
  subst hsm
  have hl2 : PERS m ρ K κs ⊢ MayWait (c : Thread nD τ) (.reg barS) 0 O := BIBase.Entails.trans (pers_lev (F := F) m ρ K κs) hmw
  have hpay : bigSep ((ringRd (F := F) m ρ).duties (barCell c) 0 \ ∅) (fun u => (ringRd (F := F) m ρ).payload (barCell c) 0 u) ⊢ four (fun ch => dst (F := F) c ch 0) := by
    have h2 (P : ℕ → sProp 𝕄) : bigSep {0, 1} P = iprop(P 0 ∗ P 1) := by rw [bigSep_insert (by decide), bigSep_singleton]; rfl
    rw [Finset.sdiff_empty, duties_bar, h2, payload_bar, payload_bar]
    unfold barPay four dst
    rw [if_pos rfl, if_neg (by decide), ← Finset.range_eq_Ico]
    iintro ⟨⟨H0, H1⟩, H2, H3⟩
    isplitl [H0]; · iexact H0
    isplitl [H2]; · iexact H2
    isplitl [H1] <;> iassumption
  unfold owesE
  iintro ⟨#HP, Hc, Hat, Ho⟩ Hk
  icases Ho with ⟨%W, Ho⟩
  iapply (Rounds.wp_wait_rest_token 𝒱₀ ER (ringRd m ρ) (c : Thread nD τ) none (κ := K (c, .inr (.inr (.inr ()))))
      (wpE_semWait_eq (defs := defs₀ (F := F)) (sem := barS) (k := 2) 𝒱₀ (c : Thread nD τ) none Set.univ) (Set.mem_univ _) 0 (O := O) (W := W) (R := 0) (m := 0) (T := ∅)
      (by rw [Nat.zero_add, expect_bar])) $$ [Hc Ho Hat]
  · isplitr; · iapply (pers_inv m ρ K κs (c, .inr (.inr (.inr ())))); iexact HP
    isplitl [Hc]; · iexact Hc
    isplitl [Ho]; · iexact Ho
    isplitr; · iapply hl2; iexact HP
    iexact Hat
  iintro ⟨Ho, Hat, -, Hpay⟩
  ihave H := hpay $$ Hpay
  iapply Hk
  isplitl [Hat]; · iexact Hat
  isplitl [H]; · iexact H
  iexists _; iexact Ho

/-- The first transfer of a channel. -/
theorem send0_ok (ch : Fin 4) {a b : Fin 4 → ℕ} (ha : a ch = 0) {n : Dev nD} (hn : n = nxt ch c)
    {sS sR : DmaSem sig} (hS : sS = sendS ch (sl 0)) (hR : sR = recvS ch (sl 0))
    {M : Memref sig .tc .vmem S4x2x256x512 .f32} (hM : M = comm (ringOf ch))
    {os od : Fin 4 → ℕ} (hos : os = slotOff (sl 0) (halfOf ch)) (hod : od = slotOff (sl 1) (halfOf ch))
    {his : ∀ a, os a + S1x1x256x512.size a ≤ S4x2x256x512.size a} {hid : ∀ a, od a + S1x1x256x512.size a ≤ S4x2x256x512.size a}
    {hsc : ((M.slice (Rect.unit (s := S4x2x256x512) od S1x1x256x512.size hid) (fun _ => rfl)).squeeze S256x512 squeezes_S1x1x256x512_S256x512 : Memref sig (Dev.tc n : Thread nD τ).2.kind .vmem S256x512 .f32).view.ref.isScScratch = false}
    {hsrc : ((M.slice (Rect.unit (s := S4x2x256x512) os S1x1x256x512.size his) (fun _ => rfl)).squeeze S256x512 squeezes_S1x1x256x512_S256x512).view.WordExact}
    {hdst : ((M.slice (Rect.unit (s := S4x2x256x512) od S1x1x256x512.size hid) (fun _ => rfl)).squeeze S256x512 squeezes_S1x1x256x512_S256x512 : Memref sig (Dev.tc n : Thread nD τ).2.kind .vmem S256x512 .f32).view.WordExact}
    {hsem : DmaTarget.Typed .vmem (.dma sR) (.remote (Dev.tc n : Thread nD τ) ((M.slice (Rect.unit (s := S4x2x256x512) od S1x1x256x512.size hid) (fun _ => rfl)).squeeze S256x512 squeezes_S1x1x256x512_S256x512) (.dma sS) hsc)}
    {α : Type} {Q : α → sProp 𝕄} {k : PUnit → Prog (TpuEff nD τ sig (Elt F) Λ₀ .tc) α} :
    iprop(PERS m ρ K κs ∗ startC (F := F) c ch ∗ dst (F := F) c ch 0 ∗ slot0 m ρ c ch ∗ owesE (F := F) c (OW c a b))
      ⊢ iprop((iprop(chanA m ρ c ch 0 ∗ owesE (F := F) c (OW c (Function.update a ch 1) b)) -∗ WP c (k ⟨⟩) Q)
          -∗ WP c (.op (.enqueueDma ((M.slice (Rect.unit (s := S4x2x256x512) os S1x1x256x512.size his) (fun _ => rfl)).squeeze S256x512 squeezes_S1x1x256x512_S256x512)
                (.remote (Dev.tc n : Thread nD τ) ((M.slice (Rect.unit (s := S4x2x256x512) od S1x1x256x512.size hid) (fun _ => rfl)).squeeze S256x512 squeezes_S1x1x256x512_S256x512) (.dma sS) hsc)
                (.dma sR) hsrc hdst hsem) k) Q) := by
  have hd : dst (F := F) c ch 0 = iprop(anySlot (F := F) (nxt ch c) ch (sl (0 + 1)) ∗ dst (F := F) c ch 1) := by unfold dst; exact big_Ico_bot _ (by omega)
  have hfl : fl m ρ c ch 0 1 = iprop((cred (tallyAt (sendCell c ch (sl 0)) (0 / 4) N) ∗ slotPts c ch (sl 0) fullShare.left (sv m ρ ch c 0)) ∗ emp) := by
    unfold fl; rw [big_Ico_bot _ (by omega), big_Ico_nil _ (by omega)]
  have htold : told (F := F) c ch 0 = iprop(emp) := by unfold told; rw [Finset.range_zero, bigSep_empty]; rfl
  have hkept : kept (F := F) c ch 0 = iprop(emp) := by unfold kept; exact big_Ico_nil _ (by omega)
  have hlast : last m ρ c ch 0 = iprop(emp) := by unfold last; rw [if_neg (by decide)]
  have hA : chanA m ρ c ch 0 = iprop((toks (F := F) c ch 1 ∗ cw (F := F) c ch 0 ∗ dst (F := F) c ch 1 ∗ rcr (F := F) c ch 0)
    ∗ fl m ρ c ch 0 1 ∗ posS (F := F) c ch 0 ∗ posR (F := F) c ch 0 ∗ rel (F := F) c ch 0 ∗ told (F := F) c ch 0 ∗ kept (F := F) c ch 0 ∗ last m ρ c ch 0) := rfl
  unfold startC
  rw [hA, hd, hfl, htold, hkept, hlast]
  iintro ⟨#HP, ⟨Ht, Hcw, Hrc, HpS, HpR, Hre⟩, ⟨Hd, Hds⟩, Hs, Ho⟩ Hk
  iapply (step_send m ρ K κs c ch (g := 0) (by omega) ha hn hS hR hM hos hod) $$ [Ht Hd Hs Ho]
  · isplitr; · iexact HP
    isplitl [Ht]; · iexact Ht
    isplitl [Hd]; · iexact Hd
    isplitr; · iapply (pers_reached m ρ K κs (nxt ch c, .inr (.inl (ch, sl 0)))); iexact HP
    isplitr; · iapply (pers_reached m ρ K κs (c, .inl (ch, sl 0))); iexact HP
    isplitl [Hs] <;> iassumption
  iintro ⟨Ht, Hcr, Hs, Ho⟩
  iapply Hk
  isplitr [Ho]
  · isplitl [Ht Hcw Hds Hrc]
    · isplitl [Ht]; · iexact Ht
      isplitl [Hcw]; · iexact Hcw
      isplitl [Hds] <;> iassumption
    isplitl [Hcr Hs]
    · isplitl [Hcr Hs]
      · isplitl [Hcr] <;> iassumption
      iempintro
    isplitl [HpS]; · iexact HpS
    isplitl [HpR]; · iexact HpR
    isplitl [Hre]; · iexact Hre
    isplitr; · iempintro
    isplitr; · iempintro
    iempintro
  · iexact Ho

theorem part18_ok (f : (cc0_stg2_0 : Ref sig .tc).ty.Contents (Elt F)) (hf : Inv0 m ρ c f) (v2 v25 : BitVec 32) {Q} :
    iprop(PERS m ρ K κs ∗ dutyTok ER (barCell (predD c)) 0 0 ∗ four (fun ch => anySlot (F := F) c ch (sl 0)) ∗ free3 (F := F) c 0 ∗ free3 (F := F) c 1 ∗ oPts c f ∗ owesE (F := F) c (O₀ c))
      ⊢ iprop((iprop(four (slot0 m ρ c) ∗ oPts c f ∗ owesE (F := F) c (OW c (fun _ => 0) (fun _ => 0) + owB1 c)) -∗ Q (SemArray.scalar (sig.barrier 0 rfl)))
      -∗ WP c (k0_part18 (F := F) xM h0 wM h1 oM h2 comm0 h3 comm1 h4 cc0_scratch2 cc0_scratch3 cc0_scratch4 cc0_scratch5 cc0_scratch6 cc0_scratch7 c v2 v25) Q) := by
  rw [k0_part18_eq_skeleton]
  unfold k0_part18_skel four
  have o0 : k0_off8 c = ![256 * (chunk 0 c 0).val, 512 * (0 : Fin 4).val] := off8_at c
  have o2 : k0_off9 c = ![256 * (chunk 2 c 0).val, 512 * (2 : Fin 4).val] := off9_at c
  have o1 : k0_off10 c = ![256 * (chunk 1 c 0).val, 512 * (1 : Fin 4).val] := off10_at c
  have o3 : k0_off11 c = ![256 * (chunk 3 c 0).val, 512 * (3 : Fin 4).val] := off11_at c
  have hv (ch : Fin 4) : k0_pay15 (oM.view.readAt (Elt F) (blkR (chunk ch c 0) ch).toLoadRect f) = sv m ρ ch c 0 := by rw [sv_zero, ← hf.own ch]
  simp only [semSignalWord, Prog.lift, Prog.bind_op, Prog.bind_ret, Prog.pure_eq_ret]
  iintro ⟨#HP, Ht, ⟨H0, H2, H1, H3⟩, Hf0, Hf1, Hf, Ho⟩ HK
  iapply (ld c oM o0 (blk_inb _ _)) $$ Hf
  iintro Hf
  iapply (slot_loadAny c 0 (sl 0) rfl rfl) $$ H0
  iintro %y0 H0
  iapply (slot_store c 0 (sl 0) rfl rfl) $$ H0
  iintro H0
  ihave H0 := (Entails.of_eq (congrArg (fun y => (slotPts c 0 (sl 0) fullShare y : sProp 𝕄)) (hv 0))) $$ H0
  iapply (ld c oM o2 (blk_inb _ _)) $$ Hf
  iintro Hf
  iapply (slot_loadAny c 2 (sl 0) rfl rfl) $$ H2
  iintro %y2 H2
  iapply (slot_store c 2 (sl 0) rfl rfl) $$ H2
  iintro H2
  ihave H2 := (Entails.of_eq (congrArg (fun y => (slotPts c 2 (sl 0) fullShare y : sProp 𝕄)) (show k0_pay16 (oM.view.readAt (Elt F) (blkR (chunk 2 c 0) 2).toLoadRect f) = sv m ρ 2 c 0 from hv 2))) $$ H2
  iapply (ld c oM o1 (blk_inb _ _)) $$ Hf
  iintro Hf
  iapply (slot_loadAny c 1 (sl 0) rfl rfl) $$ H1
  iintro %y1 H1
  iapply (slot_store c 1 (sl 0) rfl rfl) $$ H1
  iintro H1
  ihave H1 := (Entails.of_eq (congrArg (fun y => (slotPts c 1 (sl 0) fullShare y : sProp 𝕄)) (show k0_pay17 (oM.view.readAt (Elt F) (blkR (chunk 1 c 0) 1).toLoadRect f) = sv m ρ 1 c 0 from hv 1))) $$ H1
  iapply (ld c oM o3 (blk_inb _ _)) $$ Hf
  iintro Hf
  iapply (slot_loadAny c 3 (sl 0) rfl rfl) $$ H3
  iintro %y3 H3
  iapply (slot_store c 3 (sl 0) rfl rfl) $$ H3
  iintro H3
  ihave H3 := (Entails.of_eq (congrArg (fun y => (slotPts c 3 (sl 0) fullShare y : sProp 𝕄)) (show k0_pay18 (oM.view.readAt (Elt F) (blkR (chunk 3 c 0) 3).toLoadRect f) = sv m ρ 3 c 0 from hv 3))) $$ H3
  iapply (bar_signal m ρ K κs c 0 (O := O₀ c) (O' := OW c (fun _ => 0) (fun _ => 0) + owB1 c) rfl (Fin.ext (dev1_val c)) rfl (pay_at0 c)) $$ [Ht Hf0 Hf1 Ho]
  · isplitr; · iexact HP
    isplitl [Ht]; · iexact Ht
    isplitl [Hf0]; · iexact Hf0
    isplitl [Hf1]; · iexact Hf1
    iexact Ho
  iintro Ho
  iapply wp_done
  iapply HK
  isplitl [H0 H1 H2 H3]
  · isplitl [H0]; · iexact H0
    isplitl [H2]; · iexact H2
    isplitl [H1] <;> iassumption
  isplitl [Hf] <;> iassumption

theorem part19_ok (v13 : BitVec 32) {Q} :
    iprop(PERS m ρ K κs ∗ dutyTok ER (barCell (succD c)) 0 1 ∗ free3 (F := F) c 2 ∗ free3 (F := F) c 3 ∗ cred (tallyAt (barCell c) 0 2) ∗ atPos ER (barCell c) 0 ∅ 0
        ∗ owesE (F := F) c (OW c (fun _ => 0) (fun _ => 0) + owB1 c))
      ⊢ iprop((iprop(atPos ER (barCell c) 1 ∅ 0 ∗ four (fun ch => dst (F := F) c ch 0) ∗ owesE (F := F) c (OW c (fun _ => 0) (fun _ => 0))) -∗ Q ⟨⟩)
      -∗ WP c (k0_part19 (F := F) xM h0 wM h1 oM h2 comm0 h3 comm1 h4 cc0_scratch2 cc0_scratch3 cc0_scratch4 cc0_scratch5 cc0_scratch6 cc0_scratch7 c v13 (SemArray.scalar (sig.barrier 0 rfl))) Q) := by
  rw [k0_part19_eq_skeleton]
  unfold k0_part19_skel
  have hmw : levs (F := F) ⊢ MayWait (c : Thread nD τ) (.reg barS) 0 (OW c (fun _ => 0) (fun _ => 0)) := by
    unfold levs
    exact mayWait_of c _ 0 1 _ _ (by omega) (lv_bar c 0).le (fun _ _ => by omega) (fun _ _ => by omega)
  simp only [semSignalWord, semWaitWord, Prog.lift, Prog.bind_op, Prog.bind_ret, Prog.pure_eq_ret]
  iintro ⟨#HP, Ht, Hf2, Hf3, Hc, Hat, Ho⟩ HK
  iapply (bar_signal m ρ K κs c 1 (O := OW c (fun _ => 0) (fun _ => 0) + owB1 c) (O' := OW c (fun _ => 0) (fun _ => 0)) rfl (Fin.ext (dev2_val c)) rfl (pay_at1 c)) $$ [Ht Hf2 Hf3 Ho]
  · isplitr; · iexact HP
    isplitl [Ht]; · iexact Ht
    isplitl [Hf2]; · iexact Hf2
    isplitl [Hf3]; · iexact Hf3
    iexact Ho
  iintro Ho
  iapply (bar_wait m ρ K κs c hmw rfl) $$ [Hc Hat Ho]
  · isplitr; · iexact HP
    isplitl [Hc]; · iexact Hc
    isplitl [Hat]; · iexact Hat
    iexact Ho
  iintro H
  iapply (wp_done c PUnit.unit)
  iapply HK
  iexact H

/-! ## The first transfers -/

abbrev preS (ch : Fin 4) (a : Fin 4 → ℕ) : sProp 𝕄 :=
  iprop(PERS m ρ K κs ∗ startC (F := F) c ch ∗ dst (F := F) c ch 0 ∗ slot0 m ρ c ch ∗ owesE (F := F) c (OW c a (fun _ => 0)))

theorem part21_ok (v25 z z' : BitVec 32) {a : Fin 4 → ℕ} (ha : a 2 = 0) {Q} :
    preS m ρ K κs c 2 a ⊢ iprop((∀ r, iprop(chanA m ρ c 2 0 ∗ owesE (F := F) c (OW c (Function.update a 2 1) (fun _ => 0))) -∗ Q r)
      -∗ WP c (k0_part21 (F := F) xM h0 wM h1 oM h2 comm0 h3 comm1 h4 cc0_scratch2 cc0_scratch3 cc0_scratch4 cc0_scratch5 cc0_scratch6 cc0_scratch7 c v25 z z') Q) := by
  rw [k0_part21_eq_skeleton]
  unfold k0_part21_skel
  simp only [Prog.lift, Prog.bind_op, Prog.bind_ret, Prog.pure_eq_ret]
  iintro H HK
  iapply (send0_ok m ρ K κs c 2 ha (Fin.ext (dev5_val c)) (sem_at _ off12_first _ _) (sem_at _ off12_first _ _) rfl off13_src off13_dst) $$ [H]
  · iexact H
  iintro H
  iapply wp_done
  iapply HK
  iexact H

theorem part20_ok (v13 : BitVec 32) {a : Fin 4 → ℕ} (ha : a 0 = 0) (ha1 : a 1 = 0) {Q} :
    iprop(preS m ρ K κs c 0 a ∗ startC (F := F) c 1 ∗ dst (F := F) c 1 0 ∗ slot0 m ρ c 1)
      ⊢ iprop((∀ r, iprop(chanA m ρ c 0 0 ∗ chanA m ρ c 1 0 ∗ owesE (F := F) c (OW c (Function.update (Function.update a 0 1) 1 1) (fun _ => 0))) -∗ Q r)
      -∗ WP c (k0_part20 (F := F) xM h0 wM h1 oM h2 comm0 h3 comm1 h4 cc0_scratch2 cc0_scratch3 cc0_scratch4 cc0_scratch5 cc0_scratch6 cc0_scratch7 c v13) Q) := by
  rw [k0_part20_eq_skeleton]
  unfold k0_part20_skel preS
  simp only [Prog.lift, Prog.bind_op, Prog.bind_ret, Prog.pure_eq_ret]
  iintro ⟨⟨#HP, Hs, Hd, H0, Ho⟩, Hs1, Hd1, H1⟩ HK
  iapply (send0_ok m ρ K κs c 0 ha (Fin.ext (dev3_val c)) (sem_at _ off12_first _ _) (sem_at _ off12_first _ _) rfl off13_src off13_dst) $$ [Hs Hd H0 Ho]
  · isplitr; · iexact HP
    isplitl [Hs]; · iexact Hs
    isplitl [Hd]; · iexact Hd
    isplitl [H0] <;> iassumption
  iintro ⟨HA0, Ho⟩
  iapply (send0_ok m ρ K κs c 1 (a := Function.update a 0 1) ha1 (Fin.ext (dev4_val c)) (sem_at _ off14_first _ _) (sem_at _ off14_first _ _) rfl off15_src off15_dst) $$ [Hs1 Hd1 H1 Ho]
  · isplitr; · iexact HP
    isplitl [Hs1]; · iexact Hs1
    isplitl [Hd1]; · iexact Hd1
    isplitl [H1] <;> iassumption
  iintro ⟨HA1, Ho⟩
  iapply wp_done
  iapply HK
  isplitl [HA0]; · iexact HA0
  isplitl [HA1] <;> iassumption

/-- The last first transfer, and the loop. -/
theorem part22_ok (v2 v13 v25 z z' : BitVec 32) {a : Fin 4 → ℕ} (ha : a 3 = 0) (hu : Function.update a 3 1 = fun _ => 1)
    (f : (cc0_stg2_0 : Ref sig .tc).ty.Contents (Elt F)) (hf : OutInv m ρ c 0 f) {Q} :
    iprop(preS m ρ K κs c 3 a ∗ chanA m ρ c 0 0 ∗ chanA m ρ c 2 0 ∗ chanA m ρ c 1 0 ∗ xPts m ρ c ∗ wPts m ρ c ∗ oPts c f)
      ⊢ iprop((∀ v b y y' y'', invT m ρ K κs c 30 v -∗ Q ⟨v, y, y', b, y''⟩)
      -∗ WP c (k0_part22 (F := F) xM h0 wM h1 oM h2 comm0 h3 comm1 h4 cc0_scratch2 cc0_scratch3 cc0_scratch4 cc0_scratch5 cc0_scratch6 cc0_scratch7 c v2 v13 v25 z z') Q) := by
  rw [k0_part22_eq_skeleton]
  unfold k0_part22_skel preS
  simp only [Prog.lift, Prog.bind_op, Prog.bind_ret, Prog.pure_eq_ret]
  iintro ⟨⟨#HP, Hs, Hd, H3, Ho⟩, HA0, HA2, HA1, Hx, Hw, Hf⟩ HK
  iapply (send0_ok m ρ K κs c 3 ha (Fin.ext (dev6_val c)) (sem_at _ off14_first _ _) (sem_at _ off14_first _ _) rfl off15_src off15_dst) $$ [Hs Hd H3 Ho]
  · isplitr; · iexact HP
    isplitl [Hs]; · iexact Hs
    isplitl [Hd]; · iexact Hd
    isplitl [H3] <;> iassumption
  iintro ⟨HA3, Ho⟩
  ihave Ho := (Entails.of_eq (congrArg (fun a => (owesE (F := F) c (OW c a (fun _ => 0)) : sProp 𝕄)) hu)) $$ Ho
  iapply (Scf.wp_for_bind (E := TpuEff nD τ sig (Elt F) Λ₀ .tc) frame (wpE (defs₀ (F := F)) 𝒱₀ (c : Thread nD τ) none) Set.univ _ _ _ _ _ _ (fun t a => invT m ρ K κs c t a)
    (fun t a => body_ok m ρ K κs c t h0 h1 h2 h3 h4 v2 v13 v25 z z' a)) $$ [HA0 HA1 HA2 HA3 Hx Hw Hf Ho]
  · unfold invT four
    isplitr; · iexact HP
    isplitl [HA0 HA1 HA2 HA3]
    · isplitl [HA0]; · iexact HA0
      isplitl [HA2]; · iexact HA2
      isplitl [HA1] <;> iassumption
    isplitl [Ho]; · iexact Ho
    isplitl [Hx]; · iexact Hx
    isplitl [Hw]; · iexact Hw
    isplitl [Hf]
    · iexists f
      isplitl [Hf]; · iexact Hf
      ipureintro; exact hf
    ipureintro; rfl
  iintro %v H
  ihave H := (Entails.of_eq (congrArg (fun t => (invT m ρ K κs c t v : sProp 𝕄)) (show Scf.trips k0_t1_loop.lb k0_t1_loop.ub k0_t1_loop.st = 30 from trips_eq))) $$ H
  iapply wp_done
  iapply HK
  iexact H

end Start

end Cert.KernelIdeal.Ring

end
-- ==== Proof.KernelIdeal.Epilogue.lean ====
/-
The end of the kernel's body: the waits for the last transfers, and the quantisation of the sixteen row blocks.
-/
module

public import proofs.«01_k».proof.Proof.KernelIdeal.Start

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

/-! ## The rows -/

/-- One entry quantised at scale `s` and brought back. -/
def qel (s y : F .f32) : F .f32 :=
  FloatOps.mulf (FloatOps.extf .f32 bitsLt_fp8e4m3_f32 (FloatOps.truncf .fp8e4m3 bitsLt_fp8e4m3_f32 (FloatOps.divf y s))) s

/-- The first `n` row blocks of the array are quantised at scale `s`. -/
def Rows (s : F .f32) (n : ℕ) (f : (cc0_stg2_0 : Ref sig .tc).ty.Contents (Elt F)) : Prop :=
  ∀ i : S4096x2048.Idx, oM.view.read (Elt F) f i = if (i 0).val < 256 * n then qel s (Yfin m ρ i) else Yfin m ρ i

/-- The result. -/
def Zfin (c : Dev nD) : (cc0_stg2_0 : Ref sig .tc).ty.Contents (Elt F) := fun i => qel (k0_pay21 (am m ρ c 30)) (Yfin m ρ i)

theorem rows_fin {c : Dev nD} {f : (cc0_stg2_0 : Ref sig .tc).ty.Contents (Elt F)} (h : Rows m ρ (k0_pay21 (am m ρ c 30)) 16 f) : f = Zfin m ρ c := by
  funext i
  have hi : (i 0).val < 4096 := (i 0).isLt
  have h' := h i
  rw [if_pos (by omega)] at h'
  exact h'

theorem pay_at (s : F .f32) (v : Vec F S256x2048 .f32) (j : S256x2048.Idx) : k0_pay25 s v j = qel s (v j) := by
  have h : shapeCast S256x2048 v shapeCasts_S256x2048_S256x2048 = v := funext fun i => congrArg v (Shape.reshapeEquiv_self _ i)
  unfold k0_pay25
  rw [h]
  rfl

omit [FloatOps F] in
theorem row_write (f : (cc0_stg2_0 : Ref sig .tc).ty.Contents (Elt F)) (q : Fin 16) (w : Vec F S256x2048 .f32) (j : S256x2048.Idx) :
    oM.view.read (Elt F) ((oM.access (rowR q)).write (Elt F) f w Finset.univ) ((rowR q).emb j) = w j := by
  show oM.view.read (Elt F) ((oM.view.slice (rowR q)).write (Elt F) f w Finset.univ) ((rowR q).emb j) = _
  rw [View.read_slice_write_emb _ _ _ (Finset.mem_univ _)]

omit [FloatOps F] in
theorem row_read (f : (cc0_stg2_0 : Ref sig .tc).ty.Contents (Elt F)) (q : Fin 16) (j : S256x2048.Idx) :
    oM.view.readAt (Elt F) (rowR q).toLoadRect f j = oM.view.read (Elt F) f ((rowR q).emb j) := rfl

omit [FloatOps F] in
theorem row_other (f : (cc0_stg2_0 : Ref sig .tc).ty.Contents (Elt F)) (q : Fin 16) (w : Vec F S256x2048 .f32) (i : S4096x2048.Idx) (h : ¬ (256 * q.val ≤ (i 0).val ∧ (i 0).val < 256 * q.val + 256)) :
    oM.view.read (Elt F) ((oM.access (rowR q)).write (Elt F) f w Finset.univ) i = oM.view.read (Elt F) f i := by
  show oM.view.read (Elt F) ((oM.view.slice (rowR q)).write (Elt F) f w Finset.univ) i = _
  refine View.read_slice_write_of_not_mem _ _ _ _ fun hm => h ?_
  obtain ⟨j, -, e⟩ := Finset.mem_map.mp hm
  have hj : (j 0).val < 256 := (j 0).isLt
  have e0 : 256 * q.val + 1 * (j 0).val = (i 0).val := congrArg (fun i : S4096x2048.Idx => (i 0).val) e
  omega

theorem rows_next {s : F .f32} (q : Fin 16) {f : (cc0_stg2_0 : Ref sig .tc).ty.Contents (Elt F)} (hf : Rows m ρ s q.val f) :
    Rows m ρ s (q.val + 1) ((oM.access (rowR q)).write (Elt F) f (k0_pay25 s (oM.view.readAt (Elt F) (rowR q).toLoadRect f)) Finset.univ) := by
  intro i
  have hi : (i 0).val < 4096 := (i 0).isLt
  have hi1 : (i 1).val < 2048 := (i 1).isLt
  by_cases hq : 256 * q.val ≤ (i 0).val ∧ (i 0).val < 256 * q.val + 256
  · have he : i = (rowR q).emb (ix2 (⟨(i 0).val - 256 * q.val, by omega⟩ : Fin 256) (⟨(i 1).val, by omega⟩ : Fin 2048)) := by
      funext a
      refine Fin.ext ?_
      fin_cases a
      · show (i 0).val = 256 * q.val + 1 * ((i 0).val - 256 * q.val); omega
      · show (i 1).val = 0 + 1 * (i 1).val; omega
    have h' := row_write (F := F) f q (k0_pay25 s (oM.view.readAt (Elt F) (rowR q).toLoadRect f)) (ix2 (⟨(i 0).val - 256 * q.val, by omega⟩ : Fin 256) (⟨(i 1).val, by omega⟩ : Fin 2048))
    rw [pay_at, row_read] at h'
    rw [← he] at h'
    rw [h', hf i, if_neg (by omega), if_pos (by omega)]
  · rw [row_other f q _ i hq, hf i]
    by_cases h' : (i 0).val < 256 * q.val
    · rw [if_pos h', if_pos (by omega)]
    · rw [if_neg h', if_neg (by omega)]

section Ep
variable (c : Dev nD)
variable (h0 : xM.IsWhole) (h1 : wM.IsWhole) (h2 : oM.IsWhole) (h3 : comm0.IsWhole) (h4 : comm1.IsWhole)

/-- The output with `n` row blocks quantised. -/
def rowsP (n : ℕ) (s : F .f32) : sProp 𝕄 := iprop(∃ f, oPts c f ∗ ⌜Rows m ρ s n f⌝)

theorem row_ok (q : Fin 16) (s : F .f32) {n n1 : ℕ} (hn : n = q.val) (hn1 : n1 = q.val + 1) {off : Fin 2 → ℕ} (ho : off = ![256 * q.val, 0]) (i1 : ∀ a, off a + S256x2048.size a ≤ S4096x2048.size a)
    {hl : oM.view.LoadsAt (Rect.unit (s := S4096x2048) off S256x2048.size i1).toLoadRect}
    {hx : (oM.access (Rect.unit (s := S4096x2048) off S256x2048.size i1)).Stores Finset.univ}
    {hm : (Finset.univ : Finset (Rect.unit (s := S4096x2048) off S256x2048.size i1).shape.Idx) = Finset.univ ∨ ∀ a, (Rect.unit (s := S4096x2048) off S256x2048.size i1).stride a = 1}
    {w : Vec F S256x2048 .f32 → FVec F S256x2048 .f32} (hw : ∀ v, w v = k0_pay25 s v)
    {α : Type} {Q : α → sProp 𝕄} {k : PUnit → Prog (TpuEff nD τ sig (Elt F) Λ₀ .tc) α} :
    rowsP m ρ c n s ⊢ iprop((rowsP m ρ c n1 s -∗ WP c (k ⟨⟩) Q)
      -∗ WP c (.op (.load oM (Rect.unit (s := S4096x2048) off S256x2048.size i1).toLoadRect hl) fun v =>
          .op (.load oM (Rect.unit (s := S4096x2048) off S256x2048.size i1).toLoadRect hl) fun _ =>
          .op (.store oM (Rect.unit (s := S4096x2048) off S256x2048.size i1) (w v) Finset.univ hx hm) k) Q) := by
  subst hn hn1
  unfold rowsP
  iintro ⟨%f, Hf, %hf⟩ HK
  iapply (ld c oM ho (row_inb q)) $$ Hf
  iintro Hf
  iapply (ld c oM ho (row_inb q)) $$ Hf
  iintro Hf
  iapply (st c oM ho (row_inb q)) $$ Hf
  iintro Hf
  iapply HK
  iexists ((oM.access (rowR q)).write (Elt F) f (k0_pay25 s (oM.view.readAt (Elt F) (rowR q).toLoadRect f)) Finset.univ)
  isplitl [Hf]
  · rw [← hw]; iexact Hf
  ipureintro; exact rows_next m ρ q hf

/-! ## The last waits -/

/-- A channel at the end. -/
def chanE (ch : Fin 4) : sProp 𝕄 :=
  iprop(cw (F := F) c ch 27 ∗ posS (F := F) c ch 30 ∗ posR (F := F) c ch 30 ∗ bigSep Finset.univ fun k : Fin 4 => anySlot (F := F) c ch k)

theorem wsE_ok (ch : Fin 4) {α : Type} {Q : α → sProp 𝕄} {k : PUnit → Prog (TpuEff nD τ sig (Elt F) Λ₀ .tc) α}
    {sm : DmaSem sig} (hsm : sm = sendS ch (sl 29))
    {s' : Shape} {e' : EltTy} {src : Memref sig .tc .vmem s' e'} {D : Memref sig .tc .vmem S256x512 .f32} (hD : D.view.dmaCredit = N) {hs : src.view.WordExact} {hd : D.view.WordExact} :
    iprop(PERS m ρ K κs ∗ chanA m ρ c ch 30 ∗ owesE (F := F) c 0)
      ⊢ iprop(((chanE (F := F) c ch ∗ owesE (F := F) c 0) -∗ WP c (k ⟨⟩) Q) -∗ WP c (.op (.waitDma2 sm src D hs hd) k) Q) := by
  have hmw : levs (F := F) ⊢ MayWait (c : Thread nD τ) (.dma (sendS ch (sl 29))) (29 / 4) (0 : CellTallies nD τ sig ℕ) := by
    rw [← OW_end c (fun _ => 30) (fun _ => 27) (fun _ => le_rfl) (fun _ => le_rfl)]
    unfold levs
    exact mayWait_of c _ (29 / 4) (4 * 29 + 3) _ _ (by omega) (lv_send c ch 29).le (fun ch' h => by omega) (fun ch' h => by omega)
  have hA : chanA m ρ c ch 30 = iprop((toks (F := F) c ch 31 ∗ cw (F := F) c ch 27 ∗ dst (F := F) c ch 31 ∗ rcr (F := F) c ch 30)
    ∗ fl m ρ c ch 29 30 ∗ posS (F := F) c ch 29 ∗ posR (F := F) c ch 30 ∗ rel (F := F) c ch 27 ∗ told (F := F) c ch 27 ∗ kept (F := F) c ch 29 ∗ last m ρ c ch 30) := rfl
  have hk : kept (F := F) c ch 29 = iprop(anySlot (F := F) c ch (sl 27) ∗ anySlot (F := F) c ch (sl 28) ∗ emp) := by
    unfold kept; rw [big_Ico_bot _ (by omega), big_Ico_bot _ (by omega), big_Ico_nil _ (by omega)]
  have hl : last m ρ c ch 30 = slotPts c ch (sl 30) fullShare (sv m ρ ch c 30) := if_pos rfl
  have h4 : (bigSep Finset.univ fun k : Fin 4 => anySlot (F := F) c ch k) = iprop(anySlot (F := F) c ch (sl 28) ∗ anySlot (F := F) c ch (sl 29) ∗ anySlot (F := F) c ch (sl 30) ∗ anySlot (F := F) c ch (sl 27)) := by
    rw [bigSep_univ_eq_bigSepL [0, 1, 2, 3] (by decide) (by decide)]; rfl
  unfold chanE
  rw [hA, hk, hl, h4]
  iintro ⟨#HP, ⟨⟨-, Hcw, -, -⟩, Hfl, HpS, HpR, -, -, ⟨H27, H28, -⟩, H30⟩, Ho⟩ HK
  iapply (step_waitSend m ρ K κs c ch (g := 29) (b := 30) (by omega) (by omega) hmw hsm hD) $$ [Hfl HpS Ho]
  · isplitl []
    · iexact HP
    isplitl [Hfl]
    · iexact Hfl
    isplitl [HpS] <;> iassumption
  iintro ⟨-, HpS, Ho, Hs⟩
  ihave Hs := (slotPts_any (F := F) c ch (sl 29) _) $$ Hs
  ihave H30 := (slotPts_any (F := F) c ch (sl 30) _) $$ H30
  iapply HK
  isplitr [Ho]
  · isplitl [Hcw]; · iexact Hcw
    isplitl [HpS]; · iexact HpS
    isplitl [HpR]; · iexact HpR
    isplitl [H28]; · iexact H28
    isplitl [Hs]; · iexact Hs
    isplitl [H30] <;> iassumption
  · iexact Ho

theorem part23_ok (z z' : BitVec 32) (b : BitVec 1) (z'' : BitVec 32) {Q} :
    iprop(PERS m ρ K κs ∗ chanA m ρ c 0 30 ∗ owesE (F := F) c 0)
      ⊢ iprop((∀ r, iprop(chanE (F := F) c 0 ∗ owesE (F := F) c 0) -∗ Q r)
      -∗ WP c (k0_part23 (F := F) xM h0 wM h1 oM h2 comm0 h3 comm1 h4 cc0_scratch2 cc0_scratch3 cc0_scratch4 cc0_scratch5 cc0_scratch6 cc0_scratch7 z z' b z'') Q) := by
  rw [k0_part23_eq_skeleton]
  unfold k0_part23_skel
  simp only [Prog.lift, Prog.bind_op, Prog.bind_ret, Prog.pure_eq_ret]
  iintro H HK
  iapply (wsE_ok m ρ K κs c 0 (sem_at _ off12_last _ _) (credit_eq 0 _)) $$ H
  iintro H
  iapply wp_done
  iapply HK
  iexact H

theorem part24_ok (z z' : BitVec 32) (b : BitVec 1) {Q} :
    iprop(PERS m ρ K κs ∗ chanA m ρ c 1 30 ∗ owesE (F := F) c 0)
      ⊢ iprop((∀ r, iprop(chanE (F := F) c 1 ∗ owesE (F := F) c 0) -∗ Q r)
      -∗ WP c (k0_part24 (F := F) xM h0 wM h1 oM h2 comm0 h3 comm1 h4 cc0_scratch2 cc0_scratch3 cc0_scratch4 cc0_scratch5 cc0_scratch6 cc0_scratch7 z z' b) Q) := by
  rw [k0_part24_eq_skeleton]
  unfold k0_part24_skel
  simp only [Prog.lift, Prog.bind_op, Prog.bind_ret, Prog.pure_eq_ret]
  iintro H HK
  iapply (wsE_ok m ρ K κs c 1 (sem_at _ off14_last _ _) (credit_eq 0 _)) $$ H
  iintro H
  iapply wp_done
  iapply HK
  iexact H

theorem part25_ok (z z' z'' : BitVec 32) {Q} :
    iprop(PERS m ρ K κs ∗ chanA m ρ c 2 30 ∗ owesE (F := F) c 0)
      ⊢ iprop((∀ r, iprop(chanE (F := F) c 2 ∗ owesE (F := F) c 0) -∗ Q r)
      -∗ WP c (k0_part25 (F := F) xM h0 wM h1 oM h2 comm0 h3 comm1 h4 cc0_scratch2 cc0_scratch3 cc0_scratch4 cc0_scratch5 cc0_scratch6 cc0_scratch7 z z' z'') Q) := by
  rw [k0_part25_eq_skeleton]
  unfold k0_part25_skel
  simp only [Prog.lift, Prog.bind_op, Prog.bind_ret, Prog.pure_eq_ret]
  iintro H HK
  iapply (wsE_ok m ρ K κs c 2 (sem_at _ off12_last _ _) (credit_eq 1 _)) $$ H
  iintro H
  iapply (wp_done c PUnit.unit)
  iapply HK
  iexact H

/-- The last channel's wait, and all sixteen row blocks. -/
theorem rows_ok (v : F .f32) {Q : PUnit → sProp 𝕄} :
    iprop(PERS m ρ K κs ∗ chanA m ρ c 3 30 ∗ owesE (F := F) c 0 ∗ rowsP m ρ c 0 (k0_pay21 v))
      ⊢ iprop((iprop(chanE (F := F) c 3 ∗ owesE (F := F) c 0 ∗ rowsP m ρ c 16 (k0_pay21 v)) -∗ Q ⟨⟩)
      -∗ WP c (do
        let v325 : F .f32 ← k0_part26 (F := F) xM h0 wM h1 oM h2 comm0 h3 comm1 h4 cc0_scratch2 cc0_scratch3 cc0_scratch4 cc0_scratch5 cc0_scratch6 cc0_scratch7 v
        let ⟨v390, v391⟩ : Σ' (v390 : FVec F S256x2048 .f32), FVec F S256x2048 .f32 ← k0_part27 xM h0 wM h1 oM h2 comm0 h3 comm1 h4 cc0_scratch2 cc0_scratch3 cc0_scratch4 cc0_scratch5 cc0_scratch6 cc0_scratch7 v325
        let ⟨v430, v431⟩ : Σ' (v430 : FVec F S256x2048 .f32), FVec F S256x2048 .f32 ← k0_part28 xM h0 wM h1 oM h2 comm0 h3 comm1 h4 cc0_scratch2 cc0_scratch3 cc0_scratch4 cc0_scratch5 cc0_scratch6 cc0_scratch7 v325 v390 v391
        let v468 : FVec F S256x2048 .f32 ← k0_part29 xM h0 wM h1 oM h2 comm0 h3 comm1 h4 cc0_scratch2 cc0_scratch3 cc0_scratch4 cc0_scratch5 cc0_scratch6 cc0_scratch7 v325 v430 v431
        Prog.lift (.store oM (Rect.unit (s := S4096x2048) ![3840, 0] S256x2048.size inb_S4096x2048_S256x2048_3840_0) v468 Finset.univ (View.stores_vmem_bits_univ h_S256x2048 rfl) (.inl rfl))
        pure ⟨⟩) Q) := by
  rw [k0_part26_eq_skeleton, k0_part27_eq_skeleton, k0_part28_eq_skeleton, k0_part29_eq_skeleton]
  unfold k0_part26_skel k0_part27_skel k0_part28_skel k0_part29_skel
  simp only [Prog.lift, Prog.bind_op, Prog.bind_ret, Prog.pure_eq_ret]
  iintro ⟨#HP, Hc, Ho, Hr⟩ HK
  iapply (wsE_ok m ρ K κs c 3 (sem_at _ off14_last _ _) (credit_eq 1 _)) $$ [Hc Ho]
  · isplitr; · iexact HP
    isplitl [Hc] <;> iassumption
  iintro ⟨Hc, Ho⟩
  iapply (row_ok m ρ c 0 (k0_pay21 v) (n := 0) (n1 := 1) rfl rfl (off := ![0, 0]) rfl _ (fun _ => rfl)) $$ Hr
  iintro Hr
  iapply (row_ok m ρ c 1 (k0_pay21 v) (n := 1) (n1 := 2) rfl rfl (off := ![256, 0]) rfl _ (fun _ => rfl)) $$ Hr
  iintro Hr
  iapply (row_ok m ρ c 2 (k0_pay21 v) (n := 2) (n1 := 3) rfl rfl (off := ![512, 0]) rfl _ (fun _ => rfl)) $$ Hr
  iintro Hr
  iapply (row_ok m ρ c 3 (k0_pay21 v) (n := 3) (n1 := 4) rfl rfl (off := ![768, 0]) rfl _ (fun _ => rfl)) $$ Hr
  iintro Hr
  iapply (row_ok m ρ c 4 (k0_pay21 v) (n := 4) (n1 := 5) rfl rfl (off := ![1024, 0]) rfl _ (fun _ => rfl)) $$ Hr
  iintro Hr
  iapply (row_ok m ρ c 5 (k0_pay21 v) (n := 5) (n1 := 6) rfl rfl (off := ![1280, 0]) rfl _ (fun _ => rfl)) $$ Hr
  iintro Hr
  iapply (row_ok m ρ c 6 (k0_pay21 v) (n := 6) (n1 := 7) rfl rfl (off := ![1536, 0]) rfl _ (fun _ => rfl)) $$ Hr
  iintro Hr
  iapply (row_ok m ρ c 7 (k0_pay21 v) (n := 7) (n1 := 8) rfl rfl (off := ![1792, 0]) rfl _ (fun _ => rfl)) $$ Hr
  iintro Hr
  iapply (row_ok m ρ c 8 (k0_pay21 v) (n := 8) (n1 := 9) rfl rfl (off := ![2048, 0]) rfl _ (fun _ => rfl)) $$ Hr
  iintro Hr
  iapply (row_ok m ρ c 9 (k0_pay21 v) (n := 9) (n1 := 10) rfl rfl (off := ![2304, 0]) rfl _ (fun _ => rfl)) $$ Hr
  iintro Hr
  iapply (row_ok m ρ c 10 (k0_pay21 v) (n := 10) (n1 := 11) rfl rfl (off := ![2560, 0]) rfl _ (fun _ => rfl)) $$ Hr
  iintro Hr
  iapply (row_ok m ρ c 11 (k0_pay21 v) (n := 11) (n1 := 12) rfl rfl (off := ![2816, 0]) rfl _ (fun _ => rfl)) $$ Hr
  iintro Hr
  iapply (row_ok m ρ c 12 (k0_pay21 v) (n := 12) (n1 := 13) rfl rfl (off := ![3072, 0]) rfl _ (fun _ => rfl)) $$ Hr
  iintro Hr
  iapply (row_ok m ρ c 13 (k0_pay21 v) (n := 13) (n1 := 14) rfl rfl (off := ![3328, 0]) rfl _ (fun _ => rfl)) $$ Hr
  iintro Hr
  iapply (row_ok m ρ c 14 (k0_pay21 v) (n := 14) (n1 := 15) rfl rfl (off := ![3584, 0]) rfl _ (fun _ => rfl)) $$ Hr
  iintro Hr
  iapply (row_ok m ρ c 15 (k0_pay21 v) (n := 15) (n1 := 16) rfl rfl (off := ![3840, 0]) rfl _ (fun _ => rfl)) $$ Hr
  iintro Hr
  iapply (wp_done c PUnit.unit)
  iapply HK
  isplitl [Hc]; · iexact Hc
  isplitl [Ho]; · iexact Ho
  iexact Hr

end Ep

end Cert.KernelIdeal.Ring

end
-- ==== Proof.KernelIdeal.Body.lean ====
/-
The whole body of one device, and the counters at its end.
-/
module

public import proofs.«01_k».proof.Proof.KernelIdeal.Epilogue

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CellK → ℕ) (κs : RKey → ℕ)

section Body
variable (c : Dev nD)
variable (h0 : xM.IsWhole) (h1 : wM.IsWhole) (h2 : oM.IsWhole) (h3 : comm0.IsWhole) (h4 : comm1.IsWhole)

/-- After the loop: every row written, none scaled yet. -/
theorem inv_end (v : F .f32) :
    invT m ρ K κs c 30 v ⊢ iprop(PERS m ρ K κs ∗ chanA m ρ c 0 30 ∗ chanA m ρ c 1 30 ∗ chanA m ρ c 2 30 ∗ chanA m ρ c 3 30 ∗ owesE (F := F) c 0
      ∗ xPts m ρ c ∗ wPts m ρ c ∗ rowsP m ρ c 0 (k0_pay21 v) ∗ ⌜v = am m ρ c 30⌝) := by
  unfold invT four rowsP
  rw [OW_end c (fun _ => min (30 + 1) 30) (fun _ => min (30 - 1) 27) (fun _ => le_rfl) (fun _ => le_rfl)]
  have hr : Rows m ρ (k0_pay21 v) 0 (Yfin m ρ) := fun i => (if_neg (by omega)).symm
  iintro ⟨#HP, ⟨H0, H2, H1, H3⟩, Ho, Hx, Hw, ⟨%f, Hf, %hf⟩, %hv⟩
  have e := outInv_fin m ρ c f hf
  subst e
  isplitr; · iexact HP
  isplitl [H0]; · iexact H0
  isplitl [H1]; · iexact H1
  isplitl [H2]; · iexact H2
  isplitl [H3]; · iexact H3
  isplitl [Ho]; · iexact Ho
  isplitl [Hx]; · iexact Hx
  isplitl [Hw]; · iexact Hw
  isplitl [Hf]
  · iexists (Yfin m ρ)
    isplitl [Hf]; · iexact Hf
    ipureintro; exact hr
  ipureintro; exact hv

/-- The whole body. -/
theorem run_ok (f : (cc0_stg2_0 : Ref sig .tc).ty.Contents (Elt F)) {Q : PUnit → sProp 𝕄} :
    iprop(PERS m ρ K κs ∗ xPts m ρ c ∗ wPts m ρ c ∗ oPts c f ∗ owesE (F := F) c (O₀ c)
        ∗ four (startC (F := F) c) ∗ four (fun ch => anySlot (F := F) c ch (sl 0)) ∗ four (free3 (F := F) c)
        ∗ dutyTok ER (barCell (predD c)) 0 0 ∗ dutyTok ER (barCell (succD c)) 0 1 ∗ cred (tallyAt (barCell c) 0 2) ∗ atPos ER (barCell c) 0 ∅ 0)
      ⊢ iprop((iprop(xPts m ρ c ∗ wPts m ρ c ∗ rowsP m ρ c 16 (k0_pay21 (am m ρ c 30)) ∗ owesE (F := F) c 0 ∗ four (chanE (F := F) c) ∗ atPos ER (barCell c) 1 ∅ 0) -∗ Q ⟨⟩)
      -∗ WP c (cc0_body (F := F) xM h0 wM h1 oM h2 comm0 h3 comm1 h4 cc0_scratch2 cc0_scratch3 cc0_scratch4 cc0_scratch5 cc0_scratch6 cc0_scratch7) Q) := by
  have hi := inv0 m ρ c f
  have e4 : Function.update (Function.update (Function.update (Function.update (fun _ : Fin 4 => 0) 0 1) 1 1) 2 1) 3 1 = fun _ => 1 := by
    funext x; fin_cases x <;> rfl
  rw [cc0_body_eq_skeleton]
  unfold cc0_body_skel
  iintro ⟨#HP, Hx, Hw, Hf, Ho, HS, HZ, HF, Ht0, Ht1, Hc, Hat⟩ HK
  ihave HS := (Entails.of_eq (show four (startC (F := F) c) = iprop(startC (F := F) c 0 ∗ startC (F := F) c 2 ∗ startC (F := F) c 1 ∗ startC (F := F) c 3) from rfl)) $$ HS
  icases HS with ⟨HS0, HS2, HS1, HS3⟩
  ihave HF := (Entails.of_eq (show four (free3 (F := F) c) = iprop(free3 (F := F) c 0 ∗ free3 (F := F) c 2 ∗ free3 (F := F) c 1 ∗ free3 (F := F) c 3) from rfl)) $$ HF
  icases HF with ⟨HF0, HF2, HF1, HF3⟩
  iapply wp_seq
  iapply (part16_ok m ρ c h0 h1 h2 h3 h4) $$ [Hx Hw]
  · isplitl [Hx] <;> iassumption
  iintro %v2 %v13 %v25 %v ⟨Hx, Hw, %hv⟩
  subst hv
  iapply wp_seq
  iapply (part17_ok m ρ c h0 h1 h2 h3 h4 f v2 v13 v25) $$ [Hx Hw Hf]
  · isplitl [Hx]; · iexact Hx
    isplitl [Hw] <;> iassumption
  iintro ⟨Hx, Hw, Hf⟩
  iapply wp_seq
  iapply (part18_ok m ρ K κs c h0 h1 h2 h3 h4 _ hi v2 v25) $$ [Ht0 HZ HF0 HF1 Hf Ho]
  · isplitr; · iexact HP
    isplitl [Ht0]; · iexact Ht0
    isplitl [HZ]; · iexact HZ
    isplitl [HF0]; · iexact HF0
    isplitl [HF1]; · iexact HF1
    isplitl [Hf] <;> iassumption
  iintro ⟨HZ, Hf, Ho⟩
  ihave HZ := (Entails.of_eq (show four (slot0 m ρ c) = iprop(slot0 m ρ c 0 ∗ slot0 m ρ c 2 ∗ slot0 m ρ c 1 ∗ slot0 m ρ c 3) from rfl)) $$ HZ
  icases HZ with ⟨HZ0, HZ2, HZ1, HZ3⟩
  iapply wp_seq
  iapply (part19_ok m ρ K κs c h0 h1 h2 h3 h4 v13) $$ [Ht1 HF2 HF3 Hc Hat Ho]
  · isplitr; · iexact HP
    isplitl [Ht1]; · iexact Ht1
    isplitl [HF2]; · iexact HF2
    isplitl [HF3]; · iexact HF3
    isplitl [Hc]; · iexact Hc
    isplitl [Hat] <;> iassumption
  iintro ⟨Hat, HD, Ho⟩
  ihave HD := (Entails.of_eq (show four (fun ch => dst (F := F) c ch 0) = iprop(dst (F := F) c 0 0 ∗ dst (F := F) c 2 0 ∗ dst (F := F) c 1 0 ∗ dst (F := F) c 3 0) from rfl)) $$ HD
  icases HD with ⟨HD0, HD2, HD1, HD3⟩
  iapply wp_seq
  iapply (part20_ok m ρ K κs c h0 h1 h2 h3 h4 v13 (a := fun _ => 0) rfl rfl) $$ [HS0 HD0 HZ0 Ho HS1 HD1 HZ1]
  · isplitl [HS0 HD0 HZ0 Ho]
    · unfold preS
      isplitr; · iexact HP
      isplitl [HS0]; · iexact HS0
      isplitl [HD0]; · iexact HD0
      isplitl [HZ0] <;> iassumption
    isplitl [HS1]; · iexact HS1
    isplitl [HD1] <;> iassumption
  iintro %r1 ⟨HA0, HA1, Ho⟩
  iapply wp_seq
  iapply (part21_ok m ρ K κs c h0 h1 h2 h3 h4 v25 _ _ (a := Function.update (Function.update (fun _ : Fin 4 => 0) 0 1) 1 1) rfl) $$ [HS2 HD2 HZ2 Ho]
  · unfold preS
    isplitr; · iexact HP
    isplitl [HS2]; · iexact HS2
    isplitl [HD2]; · iexact HD2
    isplitl [HZ2] <;> iassumption
  iintro %r2 ⟨HA2, Ho⟩
  iapply wp_seq
  iapply (part22_ok m ρ K κs c h0 h1 h2 h3 h4 v2 v13 v25 _ _ (a := Function.update (Function.update (Function.update (fun _ : Fin 4 => 0) 0 1) 1 1) 2 1) rfl e4 _ hi.out) $$ [HS3 HD3 HZ3 Ho HA0 HA1 HA2 Hx Hw Hf]
  · isplitl [HS3 HD3 HZ3 Ho]
    · unfold preS
      isplitr; · iexact HP
      isplitl [HS3]; · iexact HS3
      isplitl [HD3]; · iexact HD3
      isplitl [HZ3] <;> iassumption
    isplitl [HA0]; · iexact HA0
    isplitl [HA2]; · iexact HA2
    isplitl [HA1]; · iexact HA1
    isplitl [Hx]; · iexact Hx
    isplitl [Hw] <;> iassumption
  iintro %v %b %y %y' %y'' HI
  ihave HI := (inv_end m ρ K κs c v) $$ HI
  icases HI with ⟨-, HA0, HA1, HA2, HA3, Ho, Hx, Hw, Hr, %hv⟩
  subst hv
  iapply wp_seq
  iapply (part23_ok m ρ K κs c h0 h1 h2 h3 h4 _ _ _ _) $$ [HA0 Ho]
  · isplitr; · iexact HP
    isplitl [HA0] <;> iassumption
  iintro %r3 ⟨HE0, Ho⟩
  iapply wp_seq
  iapply (part24_ok m ρ K κs c h0 h1 h2 h3 h4 _ _ _) $$ [HA1 Ho]
  · isplitr; · iexact HP
    isplitl [HA1] <;> iassumption
  iintro %r4 ⟨HE1, Ho⟩
  iapply wp_seq
  iapply (part25_ok m ρ K κs c h0 h1 h2 h3 h4 _ _ _) $$ [HA2 Ho]
  · isplitr; · iexact HP
    isplitl [HA2] <;> iassumption
  iintro %r5 ⟨HE2, Ho⟩
  iapply (rows_ok m ρ K κs c h0 h1 h2 h3 h4 (am m ρ c 30)) $$ [HA3 Ho Hr]
  · isplitr; · iexact HP
    isplitl [HA3]; · iexact HA3
    isplitl [Ho] <;> iassumption
  iintro ⟨HE3, Ho, Hr⟩
  iapply HK
  isplitl [Hx]; · iexact Hx
  isplitl [Hw]; · iexact Hw
  isplitl [Hr]; · iexact Hr
  isplitl [Ho]; · iexact Ho
  isplitl [HE0 HE1 HE2 HE3]
  · ihave HE := (four_in (chanE (F := F) c)) $$ [HE0 HE1 HE2 HE3]
    · isplitl [HE0]; · iexact HE0
      isplitl [HE2]; · iexact HE2
      isplitl [HE1] <;> iassumption
    iexact HE
  iexact Hat

/-! ## Closing the cells -/

theorem close_one (ck : Dev nD × CellK) (R : ℕ) (hR : ∀ r, R ≤ r → (ringRd (F := F) m ρ).duties (kcell ck) r = ∅) :
    iprop(PERS m ρ K κs ∗ atPos ER (kcell ck) R ∅ 0) ⊢ (iprop(|={Set.univ}=> semVal (kcell ck) 0) : sProp 𝕄) := by
  iintro ⟨HP, Hat⟩
  iapply (Rounds.cell_close ER (ringRd m ρ) (Set.mem_univ (K ck)) (fun h => h) (R := R) hR)
  isplitl [HP]; · iapply (pers_inv m ρ K κs ck); iexact HP
  iexact Hat

/-- What a channel leaves: its counters at zero and its slots. -/
def doneC (ch : Fin 4) : sProp 𝕄 :=
  iprop((bigSep Finset.univ fun k : Fin 4 => semVal (sendCell c ch k) 0) ∗ (bigSep Finset.univ fun k : Fin 4 => semVal (recvCell c ch k) 0) ∗ semVal (credCell c ch) 0
    ∗ bigSep Finset.univ fun k : Fin 4 => anySlot (F := F) c ch k)

theorem close_four {P : Fin 4 → sProp 𝕄} {R : Fin 4 → sProp 𝕄} (h : ∀ k, iprop(PERS m ρ K κs ∗ P k) ⊢ (iprop(|={Set.univ}=> R k) : sProp 𝕄)) :
    iprop(PERS m ρ K κs ∗ bigSep Finset.univ P) ⊢ (iprop(|={Set.univ}=> bigSep Finset.univ R) : sProp 𝕄) := by
  refine BIBase.Entails.trans (sep_mono_left (BI.bigSep_of_persistent (Finset.univ : Finset (Fin 4)) (PERS m ρ K κs))) ?_
  rw [← bigSep_sep']
  exact (bigSep_mono fun k _ => h k).trans (bigSep_fupd _ _)

theorem close_chan (ch : Fin 4) : iprop(PERS m ρ K κs ∗ chanE (F := F) c ch) ⊢ (iprop(|={Set.univ}=> doneC c ch) : sProp 𝕄) := by
  have hS (k : Fin 4) : iprop(PERS m ρ K κs ∗ atS (F := F) c ch k ((30 + 3 - k.val) / 4)) ⊢ (iprop(|={Set.univ}=> semVal (sendCell c ch k) 0) : sProp 𝕄) := by
    have h := close_one m ρ K κs (c, .inl (ch, k)) ((30 + 3 - k.val) / 4) (duties_send_end m ρ c ch k (by omega))
    unfold atS
    iintro ⟨HP, Hat, -⟩
    iapply h
    isplitl [HP]; · iexact HP
    iexact Hat
  have hR (k : Fin 4) : iprop(PERS m ρ K κs ∗ atR (F := F) c ch k ((30 + 3 - k.val) / 4)) ⊢ (iprop(|={Set.univ}=> semVal (recvCell c ch k) 0) : sProp 𝕄) := by
    have h := close_one m ρ K κs (c, .inr (.inl (ch, k))) ((30 + 3 - k.val) / 4) (duties_recv_end m ρ c ch k (by omega))
    unfold atR
    iintro ⟨HP, Hat, -⟩
    iapply h
    isplitl [HP]; · iexact HP
    iexact Hat
  have hC := close_one m ρ K κs (c, .inr (.inr (.inl ch))) 1 (duties_cred_end m ρ c ch)
  have hp : posC (F := F) c ch 27 = atPos ER (credCell c ch) 1 ∅ 0 := if_neg (by omega)
  unfold chanE cw doneC posS posR
  rw [hp]
  iintro ⟨#HP, ⟨-, Hc⟩, HS, HR, Hk⟩
  imod (close_four m ρ K κs hS) $$ [HS] with HS
  · isplitr; · iexact HP
    iexact HS
  imod (close_four m ρ K κs hR) $$ [HR] with HR
  · isplitr; · iexact HP
    iexact HR
  imod hC $$ [Hc] with Hc
  · isplitr; · iexact HP
    iexact Hc
  imodintro
  isplitl [HS]; · iexact HS
  isplitl [HR]; · iexact HR
  isplitl [Hc]; · iexact Hc
  iexact Hk

theorem close_bar : iprop(PERS m ρ K κs ∗ atPos ER (barCell c) 1 ∅ 0) ⊢ (iprop(|={Set.univ}=> semVal (barCell c) 0) : sProp 𝕄) :=
  close_one m ρ K κs (c, .inr (.inr (.inr ()))) 1 (duties_bar_end m ρ c)

end Body

end Cert.KernelIdeal.Ring

end
-- ==== Proof.KernelIdeal.Deal.lean ====
/-
How the launch deals the tokens, the positions and the keys to the devices.
-/
module

public import proofs.«01_k».proof.Proof.KernelIdeal.Body

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Conjunctions over products, sums and intervals -/

section Big
variable {M : Type} [URA M]

theorem big_product {I J : Type} [DecidableEq I] [DecidableEq J] (s : Finset I) (t : Finset J) (Φ : I × J → sProp M) :
    bigSep (s ×ˢ t) Φ = bigSep s fun i => bigSep t fun j => Φ (i, j) := by
  have e : s ×ˢ t = s.biUnion fun a => t.map ⟨Prod.mk a, Prod.mk_right_injective a⟩ := by
    ext ⟨a, b⟩; simp
  rw [e, bigSep_biUnion_eq s _ Φ (fun a _ a' _ h => Finset.disjoint_left.mpr fun x hx hx' => by
    obtain ⟨b, -, rfl⟩ := Finset.mem_map.mp hx
    obtain ⟨b', -, h'⟩ := Finset.mem_map.mp hx'
    exact h (congrArg Prod.fst h').symm)]
  exact bigSep_congr fun a _ => bigSep_map _

theorem big_fin (n : ℕ) (Φ : ℕ → sProp M) : (bigSep Finset.univ fun g : Fin n => Φ g.val) = bigSep (Finset.Ico 0 n) Φ := by
  have e : Finset.Ico 0 n = Finset.univ.map (Fin.valEmbedding (n := n)) := by
    ext x
    simp only [Finset.mem_Ico, Finset.mem_map, Finset.mem_univ, true_and, Fin.valEmbedding_apply]
    exact ⟨fun h => ⟨⟨x, h.2⟩, rfl⟩, fun ⟨a, h⟩ => h ▸ ⟨Nat.zero_le _, a.isLt⟩⟩
  rw [e, bigSep_map]; rfl

theorem big4 (Φ : Fin 4 → sProp M) : bigSep Finset.univ Φ = iprop(Φ 0 ∗ Φ 1 ∗ Φ 2 ∗ Φ 3) :=
  bigSep_univ_eq_bigSepL [0, 1, 2, 3] (by decide) (by decide) Φ
theorem big2 (Φ : Fin 2 → sProp M) : bigSep Finset.univ Φ = iprop(Φ 0 ∗ Φ 1) :=
  bigSep_univ_eq_bigSepL [0, 1] (by decide) (by decide) Φ

/-- Over a device's cells. -/
theorem big_cells (Φ : CellK → sProp M) :
    bigSep Finset.univ Φ = iprop((bigSep Finset.univ fun ch : Fin 4 => bigSep Finset.univ fun k : Fin 4 => Φ (.inl (ch, k)))
      ∗ (bigSep Finset.univ fun ch : Fin 4 => bigSep Finset.univ fun k : Fin 4 => Φ (.inr (.inl (ch, k))))
      ∗ (bigSep Finset.univ fun ch : Fin 4 => Φ (.inr (.inr (.inl ch)))) ∗ Φ (.inr (.inr (.inr ())))) := by
  rw [bigSep_univ_sum, bigSep_univ_prod, bigSep_univ_sum, bigSep_univ_prod, bigSep_univ_sum,
    show (Finset.univ : Finset Unit) = {()} from rfl, bigSep_singleton]
  rfl

end Big

theorem four_of (P : Fin 4 → sProp 𝕄) : bigSep Finset.univ P ⊢ four P := by
  rw [big4]; unfold four
  iintro ⟨H0, H1, H2, H3⟩
  isplitl [H0]; · iexact H0
  isplitl [H2]; · iexact H2
  isplitl [H1] <;> iassumption
theorem of_four (P : Fin 4 → sProp 𝕄) : four P ⊢ bigSep Finset.univ P := by
  rw [big4]; unfold four
  iintro ⟨H0, H2, H1, H3⟩
  isplitl [H0]; · iexact H0
  isplitl [H1]; · iexact H1
  isplitl [H2] <;> iassumption

/-! ## The tokens, listed by who pays them -/

abbrev TokK : Type := (Fin 4 × Fin 30) ⊕ (Fin 4 × Fin 30) ⊕ (Fin 4 × Fin 27) ⊕ Fin 2

def tokOf (c : Dev nD) : TokK → (Dev nD × CellK) × ℕ × ℕ
  | .inl (ch, g) => ((c, .inl (ch, sl g.val)), g.val / 4, 0)
  | .inr (.inl (ch, g)) => ((nxt ch c, .inr (.inl (ch, sl g.val))), g.val / 4, 0)
  | .inr (.inr (.inl (ch, i))) => ((prv ch c, .inr (.inr (.inl ch))), 0, i.val)
  | .inr (.inr (.inr r)) => ((prvR r c, .inr (.inr (.inr ()))), 0, r.val)

theorem kcell_injective : Function.Injective (kcell : Dev nD × CellK → GSem nD τ sig) := by
  rintro ⟨c, k⟩ ⟨c', k'⟩ h
  have h1 : c = c' := congrArg (fun g : GSem nD τ sig => g.1.1) h
  have h2 : k = k' := kloc_injective (congrArg Prod.snd h)
  rw [h1, h2]

theorem sl_inj {g g' : ℕ} (h : sl g = sl g') (h' : g / 4 = g' / 4) : g = g' := by
  have : g % 4 = g' % 4 := congrArg Fin.val h
  omega

theorem prvR_injective (r : Fin 2) : Function.Injective (prvR r) := fun a b h => by
  rw [← nxt_prv r a, h, nxt_prv r b]

theorem nxt_inj (ch : Fin 4) {a b : Dev nD} (h : nxt ch a = nxt ch b) : a = b := by
  rw [← show prv ch (nxt ch a) = a from prv_nxt _ _, h, show prv ch (nxt ch b) = b from prv_nxt _ _]
theorem prv_inj (ch : Fin 4) {a b : Dev nD} (h : prv ch a = prv ch b) : a = b := by
  rw [← show nxt ch (prv ch a) = a from nxt_prv _ _, h, show nxt ch (prv ch b) = b from nxt_prv _ _]

theorem tokOf_injective : Function.Injective (fun x : Dev nD × TokK => tokOf x.1 x.2) := by
  rintro ⟨c, x⟩ ⟨c', y⟩ h
  have hk := congrArg (fun t => t.1.2) h
  have hd := congrArg (fun t => t.1.1) h
  have hr := congrArg (fun t => t.2.1) h
  have hu := congrArg (fun t => t.2.2) h
  rcases x with ⟨ch, g⟩ | ⟨ch, g⟩ | ⟨ch, i⟩ | r <;> rcases y with ⟨ch', g'⟩ | ⟨ch', g'⟩ | ⟨ch', i'⟩ | r' <;>
    dsimp only [tokOf] at hk hd hr hu <;> simp only [Sum.inl.injEq, Sum.inr.injEq, Prod.mk.injEq, reduceCtorEq] at hk
  · obtain ⟨rfl, hs⟩ := hk
    rw [hd, Fin.ext (sl_inj hs hr)]
  · obtain ⟨rfl, hs⟩ := hk
    have e : c = c' := nxt_inj ch hd
    rw [e, Fin.ext (sl_inj hs hr)]
  · subst hk
    have e : c = c' := prv_inj ch hd
    rw [e, Fin.ext hu]
  · have e : r = r' := Fin.ext hu
    subst e
    rw [prvR_injective r hd]

def ringCells : Finset (GSem nD τ sig) := Finset.univ.map ⟨kcell, kcell_injective⟩
def ringToks : Finset (GSem nD τ sig × ℕ × ℕ) :=
  Finset.univ.map ⟨fun x : Dev nD × TokK => (kcell (tokOf x.1 x.2).1, (tokOf x.1 x.2).2), fun a b h => tokOf_injective (by
    have h1 := kcell_injective (congrArg Prod.fst h)
    have h2 := congrArg Prod.snd h
    exact Prod.ext h1 h2)⟩

def payToks (c : Dev nD) : sProp 𝕄 :=
  bigSep Finset.univ fun t : TokK => dutyTok ER (kcell (tokOf c t).1) (tokOf c t).2.1 (tokOf c t).2.2

def credToks (c : Dev nD) (ch : Fin 4) : sProp 𝕄 := bigSep (Finset.Ico 0 27) fun i => dutyTok ER (credCell (prv ch c) ch) 0 i

theorem payToks_deal (c : Dev nD) :
    payToks (F := F) c ⊢ iprop((bigSep Finset.univ fun ch : Fin 4 => toks (F := F) c ch 0) ∗ (bigSep Finset.univ fun ch : Fin 4 => credToks (F := F) c ch)
      ∗ dutyTok ER (barCell (predD c)) 0 0 ∗ dutyTok ER (barCell (succD c)) 0 1) := by
  have e1 (ch : Fin 4) : toks (F := F) c ch 0 = iprop((bigSep Finset.univ fun g : Fin 30 => dutyTok ER (sendCell c ch (sl g.val)) (g.val / 4) 0)
      ∗ bigSep Finset.univ fun g : Fin 30 => dutyTok ER (recvCell (nxt ch c) ch (sl g.val)) (g.val / 4) 0) := by
    unfold toks
    rw [bigSep_sep', big_fin 30 fun g => dutyTok ER (sendCell c ch (sl g)) (g / 4) 0, big_fin 30 fun g => dutyTok ER (recvCell (nxt ch c) ch (sl g)) (g / 4) 0]
  have e2 (ch : Fin 4) : credToks (F := F) c ch = bigSep Finset.univ fun i : Fin 27 => dutyTok ER (credCell (prv ch c) ch) 0 i.val :=
    (big_fin 27 fun i => dutyTok ER (credCell (prv ch c) ch) 0 i).symm
  have e3 : (bigSep Finset.univ fun ch : Fin 4 => toks (F := F) c ch 0) = iprop((bigSep Finset.univ fun ch : Fin 4 => bigSep Finset.univ fun g : Fin 30 => dutyTok ER (sendCell c ch (sl g.val)) (g.val / 4) 0)
      ∗ bigSep Finset.univ fun ch : Fin 4 => bigSep Finset.univ fun g : Fin 30 => dutyTok ER (recvCell (nxt ch c) ch (sl g.val)) (g.val / 4) 0) := by
    rw [bigSep_congr (s := Finset.univ) (fun (ch : Fin 4) _ => e1 ch), bigSep_sep']
  have e : payToks (F := F) c = iprop((bigSep Finset.univ fun ch : Fin 4 => bigSep Finset.univ fun g : Fin 30 => dutyTok ER (sendCell c ch (sl g.val)) (g.val / 4) 0)
      ∗ (bigSep Finset.univ fun ch : Fin 4 => bigSep Finset.univ fun g : Fin 30 => dutyTok ER (recvCell (nxt ch c) ch (sl g.val)) (g.val / 4) 0)
      ∗ (bigSep Finset.univ fun ch : Fin 4 => bigSep Finset.univ fun i : Fin 27 => dutyTok ER (credCell (prv ch c) ch) 0 i.val)
      ∗ dutyTok ER (barCell (predD c)) 0 0 ∗ dutyTok ER (barCell (succD c)) 0 1) := by
    unfold payToks
    rw [bigSep_univ_sum, bigSep_univ_prod, bigSep_univ_sum, bigSep_univ_prod, bigSep_univ_sum, bigSep_univ_prod, big2]
    rfl
  rw [e, e3, bigSep_congr (s := Finset.univ) (fun (ch : Fin 4) _ => e2 ch)]
  iintro ⟨H1, H2, H3, H4, H5⟩
  isplitl [H1 H2]
  · isplitl [H1]; · iexact H1
    iexact H2
  isplitl [H3]; · iexact H3
  isplitl [H4]; · iexact H4
  iexact H5

/-! ## The keys of the credits -/

def writeToks (c : Dev nD) (ch : Fin 4) : sProp 𝕄 := bigSep (Finset.Ico 0 27) fun i => writeTok ES (nxt ch c, ch, i) 1
def readToks (c : Dev nD) (ch : Fin 4) : sProp 𝕄 := bigSep (Finset.Ico 0 27) fun i => readerAt ES (c, ch, i) 0

def keyNext : RKey ↪ RKey := ⟨fun k => (nxt k.2.1 k.1, k.2.1, k.2.2), fun ⟨a, b, i⟩ ⟨a', b', i'⟩ h => by
  simp only [Prod.mk.injEq] at h
  obtain ⟨h1, rfl, rfl⟩ := h
  have e : a = a' := nxt_inj b h1
  rw [e]⟩
theorem rkeys_next : rkeys.map keyNext = rkeys := by
  unfold rkeys
  ext ⟨a, b, i⟩
  simp only [Finset.mem_map, Finset.mem_product, Finset.mem_univ, true_and, Finset.mem_range]
  refine ⟨fun ⟨⟨a', b', i'⟩, h, e⟩ => ?_, fun h => ⟨(prv b a, b, i), h, ?_⟩⟩
  · have := congrArg (fun k : RKey => k.2.2) e
    have e2 : i' = i := this
    exact e2 ▸ h
  · show (nxt b (prv b a), b, i) = (a, b, i)
    rw [show nxt b (prv b a) = a from nxt_prv _ _]

theorem big_rkeys (Φ : RKey → sProp 𝕄) : bigSep rkeys Φ = bigSep Finset.univ fun c : Dev nD => bigSep Finset.univ fun ch : Fin 4 => bigSep (Finset.Ico 0 27) fun i => Φ (c, ch, i) := by
  unfold rkeys
  rw [big_product, ← Finset.range_eq_Ico]
  exact bigSep_congr fun c _ => big_product _ _ _

theorem read_deal : bigSep rkeys (fun k => readerAt ES k 0) = bigSep Finset.univ fun c : Dev nD => bigSep Finset.univ fun ch : Fin 4 => readToks (F := F) c ch := big_rkeys _
theorem write_deal : bigSep (rkeys ×ˢ Finset.range 1) (fun x => writeTok ES x.1 (x.2 + 1))
    = bigSep Finset.univ fun c : Dev nD => bigSep Finset.univ fun ch : Fin 4 => writeToks (F := F) c ch := by
  rw [big_product]
  have e (k : RKey) : (bigSep (Finset.range 1) fun j => (writeTok ES k (j + 1) : sProp 𝕄)) = writeTok ES k 1 := by
    rw [Finset.range_one, bigSep_singleton]
  rw [bigSep_congr (s := rkeys) (fun k _ => e k)]
  conv_lhs => rw [← rkeys_next]
  rw [bigSep_map, big_rkeys]
  rfl

/-! ## What the launch gives each device -/

def slotInvs (κs : RKey → ℕ) : sProp 𝕄 := bigSep rkeys fun k => slotInv ES (κs k) k (keySlot (F := F) k)
instance slotInvs_persistent (κs : RKey → ℕ) : BI.Persistent (slotInvs (F := F) κs) := by unfold slotInvs; infer_instance

def G (c : Dev nD) : sProp 𝕄 :=
  iprop((bigSep Finset.univ fun k : CellK => roundState ER (ringRd m ρ) (kcell (c, k)) 0)
    ∗ (bigSep Finset.univ fun k : CellK => iprop(atPos ER (kcell (c, k)) 0 ∅ 0 ∗ reached ER (kcell (c, k)) 0)) ∗ payToks c
    ∗ (∃ κs : RKey → ℕ, slotInvs κs) ∗ (bigSep Finset.univ fun ch : Fin 4 => writeToks c ch) ∗ bigSep Finset.univ fun ch : Fin 4 => readToks c ch)

theorem fund_ring : iprop(BI.own (ER (initOf ringCells ringToks)) ∗ BI.own (ES (initSlots rkeys 1))) ⊢ (|={Set.univ}=> bigSep Finset.univ (G m ρ) : sProp 𝕄) := by
  have hX (Φ : GSem nD τ sig → sProp 𝕄) : bigSep ringCells Φ = bigSep Finset.univ fun c : Dev nD => bigSep Finset.univ fun k : CellK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]; rfl
  have hS1 (κs : RKey → ℕ) : slotInvs (F := F) κs ⊢ (iprop(∃ κs : RKey → ℕ, slotInvs κs) : sProp 𝕄) := by
    iintro H; iexists κs; iexact H
  have hS (κs : RKey → ℕ) : slotInvs (F := F) κs ⊢ bigSep Finset.univ fun _ : Dev nD => (iprop(∃ κs : RKey → ℕ, slotInvs κs) : sProp 𝕄) :=
    (BI.bigSep_of_persistent (Finset.univ : Finset (Dev nD)) (slotInvs (F := F) κs)).trans (bigSep_mono fun _ _ => hS1 κs)
  iintro ⟨HX, HS⟩
  imod (slots_init ES rkeys 1 (fun k => keySlot (F := F) k)) $$ HS with ⟨%κs, -, Hinv, Hrd, Hwr⟩
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave Hrd' := (Entails.of_eq (read_deal (F := F))) $$ Hrd
  ihave Hwr' := (Entails.of_eq (write_deal (F := F))) $$ Hwr
  ihave Hinv := (Entails.of_eq (show (bigSep rkeys fun k => slotInv ES (κs k) k (keySlot (F := F) k)) = slotInvs κs from rfl)) $$ Hinv
  ihave Hinv' := (hS κs) $$ Hinv
  unfold G; simp only [bigSep_sep']
  isplitl [Hst']; · iexact Hst'
  isplitl [Hat' Hr']
  · isplitl [Hat'] <;> iassumption
  isplitl [Htok']; · iexact Htok'
  isplitl [Hinv']; · iexact Hinv'
  isplitl [Hwr']; · iexact Hwr'
  iexact Hrd'

end Cert.KernelIdeal.Ring

end
-- ==== Proof.KernelIdeal.Launch.lean ====
/-
One device's run from the launch to its end: what it starts from, the body, and the pipeline's data.
-/
module

public import proofs.«01_k».proof.Proof.KernelIdeal.Deal

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open Idealize.ShloMosaic.Pipeline (Dat Cfg Window BodyObligation cellOf)

local notation "𝕄" => MT nD τ sig ℕ (Elt F) ℕ UU ℕ

variable (m : (ℓ : Loc nD τ sig) → Buf (Elt F) ℓ) (ρ : Dev nD → PrngReg)

/-! ## What a device starts from -/

def records (K : Dev nD × CellK → ℕ) (κs : RKey → ℕ) : sProp 𝕄 :=
  iprop(bigSep Finset.univ (fun ck : Dev nD × CellK => cellInv ER (ringRd m ρ) (K ck) (kcell ck))
    ∗ bigSep Finset.univ (fun ck : Dev nD × CellK => reached ER (kcell ck) 0)
    ∗ slotInvs κs)
instance records_persistent (K : Dev nD × CellK → ℕ) (κs : RKey → ℕ) : BI.Persistent (records (F := F) m ρ K κs) := by unfold records; infer_instance

theorem pers_intro (K : Dev nD × CellK → ℕ) (κs : RKey → ℕ) : iprop(records m ρ K κs ∗ levAts L lv) ⊢ PERS m ρ K κs := by
  unfold records PERS levs slotInvs
  iintro ⟨⟨H1, H2, H3⟩, H4⟩
  isplitl [H1]; · iexact H1
  isplitl [H2]; · iexact H2
  isplitl [H3]; · iexact H3
  iexact H4

/-- Where every wait of a device stands at first. -/
def pos0 (c : Dev nD) : sProp 𝕄 := bigSep Finset.univ fun k : CellK => atPos ER (kcell (c, k)) 0 ∅ 0

def lin (c : Dev nD) : sProp 𝕄 :=
  iprop(pos0 c ∗ payToks c ∗ (bigSep Finset.univ fun ch : Fin 4 => writeToks c ch) ∗ bigSep Finset.univ fun ch : Fin 4 => readToks c ch)

def G' (c : Dev nD) : sProp 𝕄 := iprop(∃ K : Dev nD × CellK → ℕ, ∃ κs : RKey → ℕ, records m ρ K κs ∗ lin c)

def credR (c : Dev nD) (ch : Fin 4) : sProp 𝕄 := bigSep (Finset.Ico 0 27) fun i => cred (tallyAt (credCell c ch) i 1)

def creds (c : Dev nD) : sProp 𝕄 :=
  iprop((bigSep Finset.univ fun ch : Fin 4 => iprop(rcr c ch 0 ∗ credR c ch)) ∗ cred (tallyAt (barCell c) 0 2))

def start (c : Dev nD) : sProp 𝕄 := iprop(G' m ρ c ∗ creds c ∗ levAts L lv)

/-- The pieces of one channel, from the launch's. -/
theorem startC_intro (K : Dev nD × CellK → ℕ) (κs : RKey → ℕ) (c : Dev nD) (ch : Fin 4) :
    iprop(PERS m ρ K κs ∗ toks c ch 0 ∗ credToks c ch ∗ writeToks c ch ∗ readToks c ch
      ∗ (bigSep Finset.univ fun k : Fin 4 => atPos ER (sendCell c ch k) 0 ∅ 0) ∗ (bigSep Finset.univ fun k : Fin 4 => atPos ER (recvCell c ch k) 0 ∅ 0) ∗ atPos ER (credCell c ch) 0 ∅ 0
      ∗ rcr c ch 0 ∗ credR c ch) ⊢ startC (F := F) c ch := by
  have z (k : Fin 4) : (0 + 3 - k.val) / 4 = 0 := by have := k.isLt; omega
  have hS : iprop(PERS m ρ K κs ∗ bigSep Finset.univ fun k : Fin 4 => atPos ER (sendCell c ch k) 0 ∅ 0) ⊢ posS (F := F) c ch 0 := by
    unfold posS
    refine BIBase.Entails.trans (sep_mono_left (BI.bigSep_of_persistent (Finset.univ : Finset (Fin 4)) (PERS m ρ K κs))) ?_
    rw [← bigSep_sep']
    refine bigSep_mono fun k _ => ?_
    rw [z k]
    show iprop(PERS m ρ K κs ∗ atPos ER (sendCell c ch k) 0 ∅ 0) ⊢ (iprop(atPos ER (sendCell c ch k) 0 ∅ 0 ∗ reached ER (sendCell c ch k) 0) : sProp 𝕄)
    iintro ⟨HP, Ha⟩
    isplitl [Ha]; · iexact Ha
    iapply (pers_reached m ρ K κs (c, .inl (ch, k))); iexact HP
  have hR : iprop(PERS m ρ K κs ∗ bigSep Finset.univ fun k : Fin 4 => atPos ER (recvCell c ch k) 0 ∅ 0) ⊢ posR (F := F) c ch 0 := by
    unfold posR
    refine BIBase.Entails.trans (sep_mono_left (BI.bigSep_of_persistent (Finset.univ : Finset (Fin 4)) (PERS m ρ K κs))) ?_
    rw [← bigSep_sep']
    refine bigSep_mono fun k _ => ?_
    rw [z k]
    show iprop(PERS m ρ K κs ∗ atPos ER (recvCell c ch k) 0 ∅ 0) ⊢ (iprop(atPos ER (recvCell c ch k) 0 ∅ 0 ∗ reached ER (recvCell c ch k) 0) : sProp 𝕄)
    iintro ⟨HP, Ha⟩
    isplitl [Ha]; · iexact Ha
    iapply (pers_reached m ρ K κs (c, .inr (.inl (ch, k)))); iexact HP
  have hC : atPos ER (credCell c ch) 0 ∅ 0 ⊢ posC (F := F) c ch 0 := by
    unfold posC; rw [if_pos (by decide)]
    iintro H
    iexists ∅
    isplitl [H]; · iexact H
    iapply (Entails.of_eq (bigSep_empty (Φ := fun d => credPay (F := F) c ch d)).symm)
    iempintro
  unfold startC cw rel credToks writeToks readToks credR
  rw [bigSep_sep', bigSep_sep']
  iintro ⟨#HP, Ht, Hct, Hw, Hr, HS, HR, HC, Hrc, Hcr⟩
  isplitl [Ht]; · iexact Ht
  isplitl [Hcr Hw HC]
  · isplitl [Hcr Hw]
    · isplitl [Hcr]; · iexact Hcr
      iexact Hw
    iapply hC; iexact HC
  isplitl [Hrc]; · iexact Hrc
  isplitl [HS]
  · iapply hS; isplitr; · iexact HP
    iexact HS
  isplitl [HR]
  · iapply hR; isplitr; · iexact HP
    iexact HR
  isplitl [Hct]; · iexact Hct
  iexact Hr

/-- All that a device starts from. -/
theorem start_pieces (K : Dev nD × CellK → ℕ) (κs : RKey → ℕ) (c : Dev nD) :
    iprop(PERS m ρ K κs ∗ lin c ∗ creds c) ⊢ iprop(four (startC (F := F) c)
      ∗ dutyTok ER (barCell (predD c)) 0 0 ∗ dutyTok ER (barCell (succD c)) 0 1 ∗ cred (tallyAt (barCell c) 0 2) ∗ atPos ER (barCell c) 0 ∅ 0) := by
  have hp : pos0 (F := F) c = iprop((bigSep Finset.univ fun ch : Fin 4 => bigSep Finset.univ fun k : Fin 4 => atPos ER (sendCell c ch k) 0 ∅ 0)
      ∗ (bigSep Finset.univ fun ch : Fin 4 => bigSep Finset.univ fun k : Fin 4 => atPos ER (recvCell c ch k) 0 ∅ 0)
      ∗ (bigSep Finset.univ fun ch : Fin 4 => atPos ER (credCell c ch) 0 ∅ 0) ∗ atPos ER (barCell c) 0 ∅ 0) := big_cells _
  have hall : iprop(PERS m ρ K κs ∗ (bigSep Finset.univ fun ch : Fin 4 => iprop(toks c ch 0 ∗ credToks c ch ∗ writeToks c ch ∗ readToks c ch
      ∗ (bigSep Finset.univ fun k : Fin 4 => atPos ER (sendCell c ch k) 0 ∅ 0) ∗ (bigSep Finset.univ fun k : Fin 4 => atPos ER (recvCell c ch k) 0 ∅ 0) ∗ atPos ER (credCell c ch) 0 ∅ 0
      ∗ rcr c ch 0 ∗ credR c ch))) ⊢ four (startC (F := F) c) := by
    refine BIBase.Entails.trans (sep_mono_left (BI.bigSep_of_persistent (Finset.univ : Finset (Fin 4)) (PERS m ρ K κs))) ?_
    rw [← bigSep_sep']
    exact (bigSep_mono fun ch _ => startC_intro m ρ K κs c ch).trans (four_of _)
  unfold lin creds
  rw [hp]
  simp only [bigSep_sep'] at hall ⊢
  iintro ⟨#HP, ⟨⟨HS, HR, HC, HB⟩, Ht, Hw, Hr⟩, ⟨Hrc, Hcr⟩, Hb⟩
  ihave Ht := (payToks_deal (F := F) c) $$ Ht
  icases Ht with ⟨Ht, Hct, Ht0, Ht1⟩
  isplitl [HS HR HC Ht Hct Hw Hr Hrc Hcr]
  · iapply hall
    isplitr; · iexact HP
    isplitl [Ht]; · iexact Ht
    isplitl [Hct]; · iexact Hct
    isplitl [Hw]; · iexact Hw
    isplitl [Hr]; · iexact Hr
    isplitl [HS]; · iexact HS
    isplitl [HR]; · iexact HR
    isplitl [HC]; · iexact HC
    isplitl [Hrc]; · iexact Hrc
    iexact Hcr
  isplitl [Ht0]; · iexact Ht0
  isplitl [Ht1]; · iexact Ht1
  isplitl [Hb]; · iexact Hb
  iexact HB

/-! ## The scratch buffers as slots -/

theorem slots_ring (c : Dev nD) (r : Fin 2) :
    (bigSep (Finset.univ : Finset (Fin 4 × Fin 2)) fun ks => anySlot (F := F) c (chan r ks.2) ks.1)
      = bigSep Finset.univ fun s : Fin 2 => bigSep Finset.univ fun k : Fin 4 => anySlot (F := F) c (chan r s) k := by
  rw [bigSep_univ_equiv (Equiv.prodComm (Fin 2) (Fin 4)), bigSep_univ_prod]
  rfl

theorem slots_all (c : Dev nD) :
    iprop((bigSep (Finset.univ : Finset (Fin 4 × Fin 2)) fun ks => anySlot (F := F) c (chan 0 ks.2) ks.1)
      ∗ bigSep (Finset.univ : Finset (Fin 4 × Fin 2)) fun ks => anySlot (F := F) c (chan 1 ks.2) ks.1)
      = (iprop(((bigSep Finset.univ fun k : Fin 4 => anySlot (F := F) c 0 k) ∗ bigSep Finset.univ fun k : Fin 4 => anySlot (F := F) c 1 k)
        ∗ (bigSep Finset.univ fun k : Fin 4 => anySlot (F := F) c 2 k) ∗ bigSep Finset.univ fun k : Fin 4 => anySlot (F := F) c 3 k) : sProp 𝕄) := by
  rw [slots_ring, slots_ring, big2, big2]
  rfl

theorem slot_first (c : Dev nD) (ch : Fin 4) :
    (bigSep Finset.univ fun k : Fin 4 => anySlot (F := F) c ch k) ⊢ iprop(anySlot (F := F) c ch (sl 0) ∗ free3 (F := F) c ch) := by
  have h3 : free3 (F := F) c ch = iprop(anySlot (F := F) c ch 3 ∗ anySlot (F := F) c ch 2 ∗ anySlot (F := F) c ch 1 ∗ emp) := by
    unfold free3; rw [big_range_succ, big_range_succ, big_range_succ, Finset.range_zero, bigSep_empty]; rfl
  rw [h3, big4]
  iintro ⟨H0, H1, H2, H3⟩
  isplitl [H0]; · iexact H0
  isplitl [H3]; · iexact H3
  isplitl [H2]; · iexact H2
  isplitl [H1]; · iexact H1
  iempintro

abbrev scr (c : Dev nD) (r : Fin 2) : sProp 𝕄 := iprop(∃ f, ((comm r).view.loc (c : Thread nD τ) ↦[(comm r).view.set]{fullShare} f))

theorem scr_in (c : Dev nD) : iprop(scr (F := F) c 0 ∗ scr (F := F) c 1)
    ⊢ iprop(four (fun ch => anySlot (F := F) c ch (sl 0)) ∗ four (free3 (F := F) c)) := by
  iintro ⟨H0, H1⟩
  ihave H0 := (comm_split (F := F) c 0) $$ H0
  ihave H1 := (comm_split (F := F) c 1) $$ H1
  ihave H := (Entails.of_eq (slots_all (F := F) c)) $$ [H0 H1]
  · isplitl [H0] <;> iassumption
  icases H with ⟨⟨H0, H1⟩, H2, H3⟩
  ihave H0 := (slot_first (F := F) c 0) $$ H0
  ihave H1 := (slot_first (F := F) c 1) $$ H1
  ihave H2 := (slot_first (F := F) c 2) $$ H2
  ihave H3 := (slot_first (F := F) c 3) $$ H3
  icases H0 with ⟨A0, B0⟩
  icases H1 with ⟨A1, B1⟩
  icases H2 with ⟨A2, B2⟩
  icases H3 with ⟨A3, B3⟩
  isplitl [A0 A1 A2 A3]
  · iapply (four_in (fun ch => anySlot (F := F) c ch (sl 0)))
    isplitl [A0]; · iexact A0
    isplitl [A2]; · iexact A2
    isplitl [A1]; · iexact A1
    iexact A3
  · iapply (four_in (free3 (F := F) c))
    isplitl [B0]; · iexact B0
    isplitl [B2]; · iexact B2
    isplitl [B1]; · iexact B1
    iexact B3

theorem scr_out (c : Dev nD) : (bigSep Finset.univ fun ch : Fin 4 => bigSep Finset.univ fun k : Fin 4 => anySlot (F := F) c ch k)
    ⊢ iprop(scr (F := F) c 0 ∗ scr (F := F) c 1) := by
  rw [big4]
  iintro ⟨H0, H1, H2, H3⟩
  ihave H := (Entails.of_eq (slots_all (F := F) c).symm) $$ [H0 H1 H2 H3]
  · isplitl [H0 H1]
    · isplitl [H0]; · iexact H0
      iexact H1
    isplitl [H2]; · iexact H2
    iexact H3
  icases H with ⟨H0, H1⟩
  isplitl [H0]
  · iapply (comm_whole (F := F) c 0); iexact H0
  · iapply (comm_whole (F := F) c 1); iexact H1

/-! ## The pipeline's data -/

def Φ₀ (c : Dev nD) : sProp 𝕄 := iprop(start m ρ c ∗ scr c 0 ∗ scr c 1)
def Φ₁ (c : Dev nD) : sProp 𝕄 := iprop((scr c 0 ∗ scr c 1) ∗ bigSep Finset.univ fun k : CellK => semVal (kcell (c, k)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => Zfin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ (F := F) c ∗ (dats m ρ 0 c).owesAt 0 t₀.succ ∗ stg c cc0_stg0_0 (xstg m ρ c) ∗ stg c cc0_stg1_0 (wstg m ρ c) ∗ stg c cc0_stg2_0 (Zfin m ρ c))

/-- After the body every counter is back at zero and the scratch buffers are whole. -/
theorem finish (K : Dev nD × CellK → ℕ) (κs : RKey → ℕ) (c : Dev nD) :
    iprop(PERS m ρ K κs ∗ four (chanE (F := F) c) ∗ atPos ER (barCell c) 1 ∅ 0) ⊢ (iprop(|={Set.univ}=> Φ₁ c) : sProp 𝕄) := by
  have hS : (bigSep Finset.univ fun k : CellK => (semVal (kcell (c, k)) 0 : sProp 𝕄)) = iprop((bigSep Finset.univ fun ch : Fin 4 => bigSep Finset.univ fun k : Fin 4 => semVal (sendCell c ch k) 0)
      ∗ (bigSep Finset.univ fun ch : Fin 4 => bigSep Finset.univ fun k : Fin 4 => semVal (recvCell c ch k) 0)
      ∗ (bigSep Finset.univ fun ch : Fin 4 => semVal (credCell c ch) 0) ∗ semVal (barCell c) 0) := big_cells _
  have hD : (bigSep Finset.univ fun ch : Fin 4 => doneC (F := F) c ch) = iprop((bigSep Finset.univ fun ch : Fin 4 => bigSep Finset.univ fun k : Fin 4 => semVal (sendCell c ch k) 0)
      ∗ (bigSep Finset.univ fun ch : Fin 4 => bigSep Finset.univ fun k : Fin 4 => semVal (recvCell c ch k) 0)
      ∗ (bigSep Finset.univ fun ch : Fin 4 => semVal (credCell c ch) 0) ∗ bigSep Finset.univ fun ch : Fin 4 => bigSep Finset.univ fun k : Fin 4 => anySlot (F := F) c ch k) := by
    unfold doneC; rw [bigSep_sep', bigSep_sep', bigSep_sep']
  have hd := close_four m ρ K κs (P := chanE (F := F) c) (R := doneC (F := F) c) (fun ch => close_chan m ρ K κs c ch)
  unfold Φ₁
  rw [hS]
  iintro ⟨#HP, HE, HB⟩
  ihave HE := (of_four (F := F) _) $$ HE
  imod hd $$ [HE] with HD
  · isplitr; · iexact HP
    iexact HE
  imod (close_bar m ρ K κs c) $$ [HB] with HB
  · isplitr; · iexact HP
    iexact HB
  imodintro
  ihave HD := (Entails.of_eq hD) $$ HD
  icases HD with ⟨H1, H2, H3, H4⟩
  isplitl [H4]
  · iapply (scr_out (F := F) c); iexact H4
  isplitl [H1]; · iexact H1
  isplitl [H2]; · iexact H2
  isplitl [H3]; · iexact H3
  iexact HB

theorem post_mono (c : Dev nD) {p : Prog (TpuEff nD τ sig (Elt F) Λ₀ .tc) PUnit} {Q : PUnit → sProp 𝕄} :
    WP c p (fun r => iprop(|={Set.univ}=> Q r)) ⊢ WP c p Q := by
  exact wp_fupd frame (wpE (defs₀ (F := F)) 𝒱₀ (c : Thread nD τ) none) Set.univ p Q

theorem body_sound (c : Dev nD) :
    bodyPre m ρ c ⊢ WP c (cc0_body (F := F) xM (Memref.isWhole_whole _) wM (Memref.isWhole_whole _) oM (Memref.isWhole_whole _) comm0 (Memref.isWhole_whole _) comm1 (Memref.isWhole_whole _)
      cc0_scratch2 cc0_scratch3 cc0_scratch4 cc0_scratch5 cc0_scratch6 cc0_scratch7) (fun _ => bodyPost m ρ c) := by
  unfold bodyPre Φ₀ start G' Dat.owesAt Pipeline.owesWithin
  rw [show (dats m ρ 0 c).owed t₀.castSucc = O₀ c from rfl]
  iintro ⟨⟨⟨⟨%K, %κs, HR, Hl⟩, Hc, Hlev⟩, Hs⟩, ⟨%W, %hW, HO⟩, ⟨%d0, %g0, %hg0, Hx⟩, ⟨%d1, %g1, %hg1, Hw⟩, ⟨%d2, %g2, %hg2, Hf⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx
  subst hw
  ihave HP := (pers_intro m ρ K κs) $$ [HR Hlev]
  · isplitl [HR] <;> iassumption
  icases HP with #HP
  ihave H := (start_pieces m ρ K κs c) $$ [Hl Hc]
  · isplitr; · iexact HP
    isplitl [Hl] <;> iassumption
  icases H with ⟨HS, Ht0, Ht1, Hb, Hat⟩
  ihave Hs := (scr_in (F := F) c) $$ Hs
  icases Hs with ⟨HZ, HF⟩
  iapply (post_mono c)
  iapply (run_ok m ρ K κs c (Memref.isWhole_whole _) (Memref.isWhole_whole _) (Memref.isWhole_whole _) (Memref.isWhole_whole _) (Memref.isWhole_whole _) g2) $$ [Hx Hw Hf HO HS HZ HF Ht0 Ht1 Hb Hat]
  · isplitr; · iexact HP
    isplitl [Hx]; · iexact Hx
    isplitl [Hw]; · iexact Hw
    isplitl [Hf]; · iexact Hf
    isplitl [HO]; · (unfold owesE; iexists W; iexact HO)
    isplitl [HS]; · iexact HS
    isplitl [HZ]; · iexact HZ
    isplitl [HF]; · iexact HF
    isplitl [Ht0]; · iexact Ht0
    isplitl [Ht1]; · iexact Ht1
    isplitl [Hb]; · iexact Hb
    iexact Hat
  iintro ⟨Hx, Hw, Hr, HO, HE, Hat⟩
  imod (finish m ρ K κs c) $$ [HE Hat] with HΦ
  · isplitr; · iexact HP
    isplitl [HE] <;> iassumption
  imodintro
  unfold bodyPost Dat.owesAt Pipeline.owesWithin owesE rowsP
  rw [show (dats m ρ 0 c).owed t₀.succ = 0 from rfl]
  icases Hr with ⟨%f, Hf, %hf⟩
  have e := rows_fin m ρ hf
  subst e
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hf

theorem body_obligation (c : Dev nD) : BodyObligation (dats (F := F) m ρ 0 c) (defs₀ (F := F)) 𝒱₀ 0 Set.univ := fun t => by
  rw [fin_N t]
  rw [bigSep_W, bigSep_W]
  simp only [owns_whole_eq]
  exact body_sound m ρ c

end Cert.KernelIdeal.Ring

end
-- ==== Proof.KernelIdeal.Run.lean ====
/-
The launch of the sixteen kernels: the ghost resources, the credits, and the run.
-/
module

public import proofs.«01_k».proof.Proof.KernelIdeal.Launch
public import Idealize.ShloMosaic.Lib.Pipeline.CollectiveSegs

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open Idealize.ShloMosaic.Pipeline (Dat Cfg Window BodyObligation cellOf)

local notation "𝕄" => MT nD τ sig ℕ (Elt F) ℕ UU ℕ

variable (m : (ℓ : Loc nD τ sig) → Buf (Elt F) ℓ) (ρ : Dev nD → PrngReg)

/-! ## The semaphores -/

abbrev OwnK : Type := (Fin 4 × Fin 4) ⊕ (Fin 4 × Fin 4) ⊕ Fin 4
/-- The kernel's own semaphores, all but the barrier's. -/
abbrev osem : OwnK → SemLoc sig
  | .inl (ch, k) => .dma (sendS ch k)
  | .inr (.inl (ch, k)) => .dma (recvS ch k)
  | .inr (.inr ch) => .reg (credS ch)

theorem ownSemFacts : Pipeline.OwnSemFacts cfg0.spec osem := by decide +kernel

theorem share_eq (c : Dev nD) (w : Fin cfg0.W) : (dats m ρ 0 c).share w = fullShare := by unfold Dat.share; split <;> rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := ℕ) (Name := ℕ) (U := UU) (Lvl := ℕ) (Val := Elt F) (τ := τ) osem c : sProp 𝕄)
    = iprop((bigSep Finset.univ fun ch : Fin 4 => bigSep Finset.univ fun k : Fin 4 => semVal (sendCell c ch k) 0)
      ∗ (bigSep Finset.univ fun ch : Fin 4 => bigSep Finset.univ fun k : Fin 4 => semVal (recvCell c ch k) 0)
      ∗ bigSep Finset.univ fun ch : Fin 4 => semVal (credCell c ch) 0) := by
  unfold Pipeline.ownSems0
  rw [bigSep_univ_sum, bigSep_univ_prod, bigSep_univ_sum, bigSep_univ_prod]
  rfl

theorem sems0_eq (c : Dev nD) : (bigSep Finset.univ fun k : CellK => (semVal (kcell (c, k)) 0 : sProp 𝕄))
    = iprop((bigSep Finset.univ fun ch : Fin 4 => bigSep Finset.univ fun k : Fin 4 => semVal (sendCell c ch k) 0)
      ∗ (bigSep Finset.univ fun ch : Fin 4 => bigSep Finset.univ fun k : Fin 4 => semVal (recvCell c ch k) 0)
      ∗ (bigSep Finset.univ fun ch : Fin 4 => semVal (credCell c ch) 0) ∗ semVal (barCell c) 0) := big_cells _

/-! ## The ghost resources of the launch -/

def u₀ : UU := (initOf (Pipeline.cells cfgs cellOf_inj) (Pipeline.launchToks cfgs cellOf_inj), (initOf ringCells ringToks, initSlots rkeys 1))

def G₁ (c : Dev nD) : sProp 𝕄 :=
  iprop((bigSep Finset.univ fun k : CellK => iprop(∃ κ : ℕ, cellInv ER (ringRd m ρ) κ (kcell (c, k))))
    ∗ (bigSep Finset.univ fun k : CellK => atPos ER (kcell (c, k)) 0 ∅ 0) ∗ (bigSep Finset.univ fun k : CellK => reached ER (kcell (c, k)) 0) ∗ payToks c
    ∗ (∃ κs : RKey → ℕ, slotInvs κs) ∗ (bigSep Finset.univ fun ch : Fin 4 => writeToks c ch) ∗ bigSep Finset.univ fun ch : Fin 4 => readToks c ch)

theorem core_alloc (c : Dev nD) :
    iprop(Pipeline.ownSems0 (Ix := ℕ) (Name := ℕ) (U := UU) (Lvl := ℕ) (Val := Elt F) (τ := τ) osem c ∗ unscopedSems0 c ∗ G m ρ c) ⊢ (|={Set.univ}=> G₁ m ρ c : sProp 𝕄) := by
  unfold G G₁
  have hal : iprop((bigSep Finset.univ fun k : CellK => semVal (kcell (c, k)) 0) ∗ bigSep Finset.univ fun k : CellK => roundState ER (ringRd m ρ) (kcell (c, k)) 0)
      ⊢ (|={Set.univ}=> bigSep Finset.univ fun k : CellK => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  rw [ownSems0_eq, unscopedSems0_eq, bigSep_sep']
  iintro ⟨⟨H1, H2, H3⟩, H4, Hst, ⟨Hat, Hre⟩, Hrest⟩
  imod hal $$ [H1 H2 H3 H4 Hst] with Hinv
  · isplitr [Hst]
    · iapply (Entails.of_eq (sems0_eq (F := F) c).symm)
      isplitl [H1]; · iexact H1
      isplitl [H2]; · iexact H2
      isplitl [H3]; · iexact H3
      iexact H4
    iexact Hst
  imodintro
  isplitl [Hinv]; · iexact Hinv
  isplitl [Hat]; · iexact Hat
  isplitl [Hre]; · iexact Hre
  iexact Hrest

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CellK → ℕ) (κs : RKey → ℕ) (c : Dev nD) : iprop(records m ρ K κs ∗ lin c) ⊢ G' m ρ c := by
  unfold G'
  iintro H
  iexists K; iexists κs; iexact H

theorem regroup : bigSep Finset.univ (G₁ m ρ) ⊢ bigSep Finset.univ (G' (F := F) m ρ) := by
  have e : bigSep Finset.univ (G₁ m ρ) = (iprop((bigSep Finset.univ fun ck : Dev nD × CellK => iprop(∃ κ : ℕ, cellInv ER (ringRd m ρ) κ (kcell ck)))
      ∗ (bigSep Finset.univ fun c : Dev nD => pos0 c) ∗ (bigSep Finset.univ fun ck : Dev nD × CellK => reached ER (kcell ck) 0)
      ∗ (bigSep Finset.univ fun c : Dev nD => payToks c) ∗ (bigSep Finset.univ fun _ : Dev nD => iprop(∃ κs : RKey → ℕ, slotInvs κs))
      ∗ (bigSep Finset.univ fun c : Dev nD => bigSep Finset.univ fun ch : Fin 4 => writeToks c ch)
      ∗ bigSep Finset.univ fun c : Dev nD => bigSep Finset.univ fun ch : Fin 4 => readToks c ch) : sProp 𝕄) := by
    unfold G₁ pos0
    rw [bigSep_sep', bigSep_sep', bigSep_sep', bigSep_sep', bigSep_sep', bigSep_sep',
      bigSep_univ_prod (fun ck : Dev nD × CellK => iprop(∃ κ : ℕ, cellInv ER (ringRd m ρ) κ (kcell ck))),
      bigSep_univ_prod (fun ck : Dev nD × CellK => (reached ER (kcell ck) 0 : sProp 𝕄))]
  have e' : (bigSep Finset.univ fun c : Dev nD => lin (F := F) c) = iprop((bigSep Finset.univ fun c : Dev nD => pos0 c) ∗ (bigSep Finset.univ fun c : Dev nD => payToks c)
      ∗ (bigSep Finset.univ fun c : Dev nD => bigSep Finset.univ fun ch : Fin 4 => writeToks c ch)
      ∗ bigSep Finset.univ fun c : Dev nD => bigSep Finset.univ fun ch : Fin 4 => readToks c ch) := by
    unfold lin; rw [bigSep_sep', bigSep_sep', bigSep_sep']
  have h0 : (bigSep Finset.univ fun _ : Dev nD => (iprop(∃ κs : RKey → ℕ, slotInvs κs) : sProp 𝕄)) ⊢ (iprop(∃ κs : RKey → ℕ, slotInvs κs) : sProp 𝕄) :=
    bigSep_elim (Finset.mem_univ (0 : Dev nD))
  rw [e]
  iintro ⟨HI, Hat, HR, Ht, Hs, Hw, Hr⟩
  ihave HK := (BI.bigSep_exists_pi Finset.univ (fun (ck : Dev nD × CellK) (κ : ℕ) => (cellInv ER (ringRd m ρ) κ (kcell ck) : sProp 𝕄))) $$ HI
  icases HK with ⟨%K, HI⟩
  ihave Hs := h0 $$ Hs
  icases Hs with ⟨%κs, Hs⟩
  iapply (with_all (R := records m ρ K κs) fun c _ => G'_intro m ρ K κs c)
  isplitl [HI HR Hs]
  · unfold records
    isplitl [HI]; · iexact HI
    isplitl [HR] <;> iassumption
  iapply (Entails.of_eq e'.symm)
  isplitl [Hat]; · iexact Hat
  isplitl [Ht]; · iexact Ht
  isplitl [Hw]; · iexact Hw
  iexact Hr

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the launch -/

theorem O₀_sum : O₀ = fun d => ((∑ ch : Fin 4, ((∑ g ∈ Finset.Ico 0 30, tallyAt (recvCell (nxt ch d) ch (sl g)) (g / 4) N) + ∑ i ∈ Finset.Ico 0 27, tallyAt (credCell (prv ch d) ch) i 1))
    + tallyAt (barCell (succD d)) 0 1) + tallyAt (barCell (predD d)) 0 1 := rfl

theorem cred_ch (c : Dev nD) (ch : Fin 4) :
    (Pipeline.launchCred (fun d => (∑ g ∈ Finset.Ico 0 30, tallyAt (recvCell (nxt ch d) ch (sl g)) (g / 4) N) + ∑ i ∈ Finset.Ico 0 27, tallyAt (credCell (prv ch d) ch) i 1) c : sProp 𝕄)
      ⊢ iprop(rcr c ch 0 ∗ credR c ch) := by
  rw [Pipeline.launchCred_add, Pipeline.launchCred_sum, Pipeline.launchCred_sum]
  unfold rcr credR
  exact BI.sep_mono
    (bigSep_mono fun g _ => Pipeline.launchCred_tallyAt (.dma (recvS ch (sl g))) (nxt ch) (prv ch) (fun c => nxt_prv _ c) (fun c => prv_nxt _ c) (g / 4) N c)
    (bigSep_mono fun i _ => Pipeline.launchCred_tallyAt (.reg (credS ch)) (prv ch) (nxt ch) (fun c => prv_nxt _ c) (fun c => nxt_prv _ c) i 1 c)

theorem assoc3 (A B C : sProp 𝕄) : (iprop((A ∗ B) ∗ C) : sProp 𝕄) = iprop(A ∗ B ∗ C) := by
  have h1 : iprop((A ∗ B) ∗ C) ⊢ (iprop(A ∗ B ∗ C) : sProp 𝕄) := by
    iintro ⟨⟨H1, H2⟩, H3⟩
    isplitl [H1]; · iexact H1
    isplitl [H2] <;> iassumption
  have h2 : iprop(A ∗ B ∗ C) ⊢ (iprop((A ∗ B) ∗ C) : sProp 𝕄) := by
    iintro ⟨H1, H2, H3⟩
    isplitr [H3]
    · isplitl [H1] <;> iassumption
    iexact H3
  exact BI.Entails.antisymm h1 h2

theorem creds_intro (c : Dev nD) : (Pipeline.launchCred O₀ c : sProp 𝕄) ⊢ creds c := by
  have h : (Pipeline.launchCred O₀ c : sProp 𝕄) = iprop((bigSep Finset.univ fun ch : Fin 4 => Pipeline.launchCred (fun d => (∑ g ∈ Finset.Ico 0 30, tallyAt (recvCell (nxt ch d) ch (sl g)) (g / 4) N) + ∑ i ∈ Finset.Ico 0 27, tallyAt (credCell (prv ch d) ch) i 1) c)
      ∗ Pipeline.launchCred (fun d => tallyAt (barCell (succD d)) 0 1) c ∗ Pipeline.launchCred (fun d => tallyAt (barCell (predD d)) 0 1) c) := by
    rw [O₀_sum, Pipeline.launchCred_add, Pipeline.launchCred_add, Pipeline.launchCred_sum]
    exact assoc3 _ _ _
  have h1 : (Pipeline.launchCred (fun d => tallyAt (barCell (succD d)) 0 1) c : sProp 𝕄) ⊢ cred (tallyAt (barCell c) 0 1) :=
    Pipeline.launchCred_tallyAt (.reg barS) succD predD (fun c => succ_pred c) (fun c => pred_succ c) 0 1 c
  have h2 : (Pipeline.launchCred (fun d => tallyAt (barCell (predD d)) 0 1) c : sProp 𝕄) ⊢ cred (tallyAt (barCell c) 0 1) :=
    Pipeline.launchCred_tallyAt (.reg barS) predD succD (fun c => pred_succ c) (fun c => succ_pred c) 0 1 c
  have h3 : iprop(cred (tallyAt (barCell c) 0 1) ∗ cred (tallyAt (barCell c) 0 1)) ⊢ (cred (tallyAt (barCell c) 0 2) : sProp 𝕄) := by
    rw [show (tallyAt (barCell c) 0 2 : CellTallies nD τ sig ℕ) = tallyAt (barCell c) 0 1 + tallyAt (barCell c) 0 1 from (tallyAt_add (barCell c) 0 1 1).symm]
    exact (cred_add _ _).2
  rw [h]
  unfold creds
  exact BI.sep_mono (bigSep_mono fun ch _ => cred_ch c ch) ((BI.sep_mono h1 h2).trans h3)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scr0_eq (c : Dev nD) : scr (F := F) c 0 = iprop(∃ f : Buf (Elt F) ((c : Thread nD τ).loc cc0_scratch0), ((c : Thread nD τ).loc cc0_scratch0) ↦{fullShare} f) := by
  unfold scr; rw [comm_set]; rfl
theorem scr1_eq (c : Dev nD) : scr (F := F) c 1 = iprop(∃ f : Buf (Elt F) ((c : Thread nD τ).loc cc0_scratch1), ((c : Thread nD τ).loc cc0_scratch1) ↦{fullShare} f) := by
  unfold scr; rw [comm_set]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [scr0_eq, scr1_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [scr0_eq, scr1_eq, sems0_eq]
  iintro ⟨Hr, H1, H2, H3, H4⟩
  isplitl [H4]; · iexact H4
  isplitl [H1 H2 H3]
  · isplitl [H1]; · iexact H1
    isplitl [H2] <;> iassumption
  iexact Hr

theorem role_stage (w : Fin cfg0.W) (s : Fin (cfg0.win w).nbuf) : roleOf (.dma ((cfg0.win w).sem s)) = none := by
  have h : ∀ (w : Fin cfg0.W) (s : Fin (cfg0.win w).nbuf) (k : CellK), kloc k ≠ .dma ((cfg0.win w).sem s) := by decide +kernel
  unfold roleOf
  exact dif_neg fun ⟨k, hk⟩ => h w s k hk

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (role_stage w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero the sixteen kernels end, in every execution with the computed contents and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb EB _ _) $$ HX
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.KernelIdeal.Sums.lean ====
/-
At the ideal values: the finished product is, entry by entry, the sum of the devices' shares.
-/
module

public import proofs.«01_k».proof.Proof.KernelIdeal.Contents
public import Idealize.ShloMosaic.Lib.MatmulPlain
public import Idealize.ShloMosaic.Lib.Pipeline.Value

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open scoped BigOperators

variable (m : (ℓ : Loc nD τ sig) → Buf (Elt Ideal) ℓ) (ρ : Dev nD → PrngReg)

/-- A device's operand blocks. -/
def xB (c : Dev nD) : S4096x256.Idx → EReal := m ((c : Thread nD τ).loc main_arg0)
def wB (c : Dev nD) : S256x2048.Idx → EReal := m ((c : Thread nD τ).loc main_arg1)

theorem xstg_at (c : Dev nD) (i : S4096x256.Idx) : (xstg m ρ c i : EReal) = xB m c i := by
  have e : (win0_0.blk (0 : Fin 1)).view.emb i = i := by
    funext a
    refine Fin.ext ?_
    match a with
    | ⟨0, _⟩ => show 0 * 4096 + 1 * (i 0).val = (i 0).val; omega
    | ⟨1, _⟩ => show 0 * 256 + 1 * (i 1).val = (i 1).val; omega
  exact congrArg (xB m c) e

theorem wstg_at (c : Dev nD) (i : S256x2048.Idx) : (wstg m ρ c i : EReal) = wB m c i := by
  have e : (win0_1.blk (0 : Fin 1)).view.emb i = i := by
    funext a
    refine Fin.ext ?_
    match a with
    | ⟨0, _⟩ => show 0 * 256 + 1 * (i 0).val = (i 0).val; omega
    | ⟨1, _⟩ => show 0 * 2048 + 1 * (i 1).val = (i 1).val; omega
  exact congrArg (wB m c) e

/-- One device's share of an entry of the product. -/
def term (c : Dev nD) (a : Fin 4096) (b : Fin 2048) : EReal := ∑ k : Fin 256, xB m c (ix2 a k) * wB m c (ix2 k b)

theorem xRows_at (c : Dev nD) (q : Fin 16) (a k : Fin 256) :
    (xRows m ρ c q (ix2 a k) : EReal) = xB m c (ix2 (⟨256 * q.val + a.val, by omega⟩ : Fin 4096) k) := by
  have e : (Rect.unit (s := S4096x256) ![256 * q.val, 0] S256x256.size (rowsX_inb q)).emb (ix2 a k) = ix2 (⟨256 * q.val + a.val, by omega⟩ : Fin 4096) k := by
    funext x
    refine Fin.ext ?_
    fin_cases x
    · show 256 * q.val + 1 * a.val = _; simp
    · show 0 + 1 * k.val = k.val; omega
  refine Eq.trans ?_ (xstg_at m ρ c _)
  exact congrArg (xstg m ρ c) e

theorem wCols_at (c : Dev nD) (r : Fin 2) (k : Fin 256) (b : Fin 1024) :
    (wCols m ρ c r (ix2 k b) : EReal) = wB m c (ix2 k (⟨1024 * r.val + b.val, by omega⟩ : Fin 2048)) := by
  have e : (Rect.unit (s := S256x2048) ![0, 1024 * r.val] S256x1024.size (colsW_inb r)).emb (ix2 k b) = ix2 k (⟨1024 * r.val + b.val, by omega⟩ : Fin 2048) := by
    funext x
    refine Fin.ext ?_
    fin_cases x
    · show 0 + 1 * k.val = k.val; omega
    · show 1024 * r.val + 1 * b.val = _; simp
  refine Eq.trans ?_ (wstg_at m ρ c _)
  exact congrArg (wstg m ρ c) e

theorem part_at (c : Dev nD) (r : Fin 2) (q : Fin 16) (a : Fin 256) (b : Fin 1024) :
    (part m ρ c r q (ix2 a b) : EReal) = term m c (⟨256 * q.val + a.val, by omega⟩ : Fin 4096) (⟨1024 * r.val + b.val, by omega⟩ : Fin 2048) := by
  have h := Ideal.matmul_plain_apply (M := 256) (K := 256) (N := 1024) (some .fp32) (φ₁ := .f32) (φ₂ := .f32) (xRows m ρ c q) (wCols m ρ c r) (constant S256x1024 .f32 0x00000000#32) a b
  have e : part m ρ c r q = FloatOps.matmul (φ₁ := .f32) (φ₂ := .f32) (DotDims.plain 256 256 1024) (some .fp32) (xRows m ρ c q) (wCols m ρ c r) (constant S256x1024 .f32 0x00000000#32) := by
    unfold part k0_pay11
    rw [show shapeCast S256x256 (xRows m ρ c q) shapeCasts_S256x256_S256x256 = xRows m ρ c q from funext fun x => shapeCast_apply _ _ x x rfl,
      show shapeCast S256x1024 (wCols m ρ c r) shapeCasts_S256x1024_S256x1024 = wCols m ρ c r from funext fun x => shapeCast_apply _ _ x x rfl]
    rfl
  rw [e]
  refine Eq.trans h ?_
  have z : (constant (F := Ideal) S256x1024 .f32 0x00000000#32 (ValueIdx.ix2 a b) : EReal) = 0 := Ideal.ofBits_zero_f32
  rw [z, zero_add]
  exact Finset.sum_congr rfl fun k _ => congrArg₂ (fun x y : EReal => x * y) (xRows_at m ρ c q a k) (wCols_at m ρ c r k b)

theorem part512_at (c : Dev nD) (ch : Fin 4) (q : Fin 16) (a : Fin 256) (b : Fin 512) :
    (part512 m ρ c ch q (ix2 a b) : EReal) = term m c (⟨256 * q.val + a.val, by omega⟩ : Fin 4096) (⟨512 * ch.val + b.val, by omega⟩ : Fin 2048) := by
  refine (part_at m ρ c (ringOf ch) q a (⟨512 * (halfOf ch).val + b.val, by have := (halfOf ch).isLt; omega⟩ : Fin 1024)).trans ?_
  congr 1
  refine Fin.ext ?_
  show 1024 * (ch.val / 2) + (512 * (ch.val % 2) + b.val) = 512 * ch.val + b.val
  omega

theorem pos_eq (a : Fin 256) (b : Fin 512) : (S256x512.rowMajor (ix2 a b)).val = (S1x1x256x512.rowMajor (ix4 0 0 a b)).val := by
  rw [Shape.rowMajor_val_two, Shape.rowMajor_val_four]
  show a.val * 512 + b.val = ((0 * 1 + 0) * 256 + a.val) * 512 + b.val
  omega

theorem pay15_at (v : Vec Ideal S256x512 .f32) (a : Fin 256) (b : Fin 512) : k0_pay15 v (ix4 0 0 a b) = v (ix2 a b) := by
  unfold k0_pay15
  exact (shapeCast_apply _ _ (ix4 0 0 a b) (ix2 a b) (pos_eq a b)).trans (shapeCast_apply _ _ (ix2 a b) (ix2 a b) rfl)

theorem pay2_at (u : Vec Ideal S1x1x256x512 .f32) (v : Vec Ideal S256x512 .f32) (a : Fin 256) (b : Fin 512) :
    (k0_pay2 u v (ix4 0 0 a b) : EReal) = u (ix4 0 0 a b) + v (ix2 a b) := by
  unfold k0_pay2
  refine (shapeCast_apply _ _ (ix4 0 0 a b) (ix2 a b) (pos_eq a b)).trans ?_
  refine congrArg₂ (fun x y : EReal => x + y) (shapeCast_apply _ _ (ix2 a b) (ix4 0 0 a b) (pos_eq a b).symm) (shapeCast_apply _ _ (ix2 a b) (ix2 a b) rfl)

theorem acc_at (ch : Fin 4) (q : Fin 16) (a : Fin 256) (b : Fin 512) (n : ℕ) :
    (acc m ρ ch q n (ix4 0 0 a b) : EReal) = ∑ k ∈ Finset.range (n + 1), term m (stepDev ch q k) (⟨256 * q.val + a.val, by omega⟩ : Fin 4096) (⟨512 * ch.val + b.val, by omega⟩ : Fin 2048) := by
  induction n with
  | zero =>
    rw [Finset.sum_range_one, ← part512_at m ρ]
    exact pay15_at _ a b
  | succ n ih =>
    rw [Finset.sum_range_succ, ← ih, ← part512_at m ρ]
    exact pay2_at _ _ a b

theorem stepDev_bij (ch : Fin 4) (q : Fin 16) : Function.Bijective (fun k : Fin 16 => (stepDev ch q k.val : Fin 16)) := by
  refine Finite.injective_iff_bijective.mp fun k k' h => ?_
  have h := congrArg Fin.val h
  unfold stepDev at h
  by_cases hr : ringOf ch = 0
  · simp only [hr, if_true] at h
    exact Fin.ext (by omega)
  · simp only [hr, if_false] at h
    exact Fin.ext (by omega)

/-- An entry of the finished product: the devices' shares added up. -/
theorem acc_fin (ch : Fin 4) (q : Fin 16) (a : Fin 256) (b : Fin 512) :
    (acc m ρ ch q 15 (ix4 0 0 a b) : EReal) = ∑ c : Fin 16, term m c (⟨256 * q.val + a.val, by omega⟩ : Fin 4096) (⟨512 * ch.val + b.val, by omega⟩ : Fin 2048) := by
  rw [acc_at, Finset.sum_range]
  exact (stepDev_bij ch q).sum_comp (fun c : Fin 16 => term m c (⟨256 * q.val + a.val, by omega⟩ : Fin 4096) (⟨512 * ch.val + b.val, by omega⟩ : Fin 2048))

def prodAt (i : S4096x2048.Idx) : EReal := ∑ c : Fin 16, term m c (i 0) (i 1)

theorem Yfin_at (i : S4096x2048.Idx) : (Yfin m ρ i : EReal) = prodAt m i := by
  have hi0 : (i 0).val < 4096 := (i 0).isLt
  have hi1 : (i 1).val < 2048 := (i 1).isLt
  have h := acc_fin m ρ (⟨(i 1).val / 512, by omega⟩ : Fin 4) (⟨(i 0).val / 256, by omega⟩ : Fin 16) (⟨(i 0).val % 256, Nat.mod_lt _ (by decide)⟩ : Fin 256) (⟨(i 1).val % 512, Nat.mod_lt _ (by decide)⟩ : Fin 512)
  have e0 : (⟨256 * ((i 0).val / 256) + (i 0).val % 256, by omega⟩ : Fin 4096) = i 0 := Fin.ext (by show 256 * ((i 0).val / 256) + (i 0).val % 256 = (i 0).val; omega)
  have e1 : (⟨512 * ((i 1).val / 512) + (i 1).val % 512, by omega⟩ : Fin 2048) = i 1 := Fin.ext (by show 512 * ((i 1).val / 512) + (i 1).val % 512 = (i 1).val; omega)
  refine Eq.trans ?_ (h.trans ?_)
  · unfold Yfin fin512 k0_pay6
    exact shapeCast_apply _ _ _ (ix4 0 0 _ _) (pos_eq _ _).symm
  · unfold prodAt
    refine Finset.sum_congr rfl fun c _ => ?_
    exact congrArg₂ (term m c) e0 e1

end Cert.KernelIdeal.Ring

end
-- ==== Proof.Quant.lean ====
/-
Three facts about the ideal values that the two programs' results are compared by: a reduction by
maximum is the least upper bound of what it reads, a sum over the sixteen blocks of 256 is the sum
over the 4096 positions, and clipping a quotient by the scale changes nothing when the scale comes
from the largest magnitude.
-/
module

public import Idealize.ShloMosaic.PureOps.Ideal.Laws
public import Idealize.ShloMosaic.Lib.ValueIdx

@[expose] public section

namespace Cert.Quant

open Idealize.ShloMosaic
open scoped BigOperators

/-! ## Constants -/

theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]

/-! ## Maximum -/

theorem foldl_max_le {ι : Type} (f : ι → EReal) (l : List ι) (z b : EReal) :
    l.foldl (fun r n => max r (f n)) z ≤ b ↔ z ≤ b ∧ ∀ n ∈ l, f n ≤ b := by
  induction l generalizing z with
  | nil => simp
  | cons a l ih =>
    rw [List.foldl_cons, ih, max_le_iff]
    simp only [List.mem_cons, forall_eq_or_imp, and_assoc]

/-- A kernel's reduction by maximum into unit axes is at most `b` exactly when every element is. -/
theorem multi_le {s t : Shape} {axes : List (Fin s.rank)} (src : FVec Ideal s .f32) (h : s.Reduces axes t) (ht : ∀ b, t.size b = 1)
    (hφ : FKind.Formats .f32) (hacc : (0xFF800000#32 : BitVec FTy.f32.bits) = FKind.maximumf.neutral .f32 hφ) (j : t.Idx) (b : EReal) :
    (multiReduction .maximumf axes t src 0xFF800000#32 h hφ hacc j : EReal) ≤ b ↔ ∀ i, (src i : EReal) ≤ b := by
  have e : (multiReduction .maximumf axes t src 0xFF800000#32 h hφ hacc j : EReal)
      = ((List.finRange s.numel).filter fun n => h.drop (s.rowMajor.symm n) = j).foldl
        (fun r n => max r (src (s.rowMajor.symm n))) (Ideal.ofBits .f32 0xFF800000#32) := rfl
  rw [e, foldl_max_le, ofBits_bot]
  constructor
  · intro hb i
    have := hb.2 (s.rowMajor i) (by
      rw [List.mem_filter]
      refine ⟨List.mem_finRange _, decide_eq_true ?_⟩
      funext x
      refine Fin.ext ?_
      have h1 := (h.drop (s.rowMajor.symm (s.rowMajor i)) x).isLt
      have h2 := (j x).isLt
      have h3 := ht x
      omega)
    rwa [Equiv.symm_apply_apply] at this
  · intro hb
    exact ⟨bot_le, fun n _ => hb _⟩

/-- The host's reduction by maximum, from minus infinity, likewise. -/
theorem host_le {s t u : Shape} {axes : List (Fin s.rank)} (x : FVec Ideal s .f32) (init : u.Idx → Ideal .f32) (h : s.ReducesTo axes t) (ht : ∀ b, t.size b = 1)
    (hu : 0 < u.numel) (hi : ∀ k, (init k : EReal) = ⊥) (j : t.Idx) (b : EReal) :
    ((Host.reduce (FloatOps.maximumf (F := Ideal) (φ := .f32)) x init h hu j : Ideal .f32) : EReal) ≤ b ↔ ∀ i, (x i : EReal) ≤ b := by
  have e : ((Host.reduce (FloatOps.maximumf (F := Ideal) (φ := .f32)) x init h hu j : Ideal .f32) : EReal)
      = ((List.finRange s.numel).filter fun n => h.drop (s.rowMajor.symm n) = j).foldl
        (fun r n => max r (x (s.rowMajor.symm n))) (init (Shape.Idx.first hu)) := rfl
  rw [e, foldl_max_le, hi]
  constructor
  · intro hb i
    have := hb.2 (s.rowMajor i) (by
      rw [List.mem_filter]
      refine ⟨List.mem_finRange _, decide_eq_true ?_⟩
      funext x
      refine Fin.ext ?_
      have h1 := (h.drop (s.rowMajor.symm (s.rowMajor i)) x).isLt
      have h2 := (j x).isLt
      have h3 := ht x
      omega)
    rwa [Equiv.symm_apply_apply] at this
  · intro hb
    exact ⟨bot_le, fun n _ => hb _⟩

theorem abs_nonneg (y : EReal) : 0 ≤ max y (-y) := by
  rcases le_total 0 y with h | h
  · exact le_max_of_le_left h
  · exact le_max_of_le_right (by simpa using EReal.neg_le_neg_iff.mpr h)

/-! ## The sum over the devices' blocks -/

theorem sum_blocks (f : ℕ → EReal) : ∑ c : Fin 16, ∑ k : Fin 256, f (256 * c.val + k.val) = ∑ K : Fin 4096, f K.val := by
  rw [← Fintype.sum_prod_type' (f := fun (c : Fin 16) (k : Fin 256) => f (256 * c.val + k.val))]
  exact Fintype.sum_equiv (finProdFinEquiv (m := 16) (n := 256)) _ (fun K : Fin (16 * 256) => f K.val)
    (fun p => congrArg f (Nat.add_comm _ _))

/-! ## Clipping -/

/-- With the scale taken from a bound of the magnitude, the quotient lies between the limits already, or is multiplied by zero. -/
theorem clip_mul (y A : EReal) (h : max y (-y) ≤ A) :
    min ((448 : ℝ) : EReal) (max ((-448 : ℝ) : EReal) (Ideal.div y (Ideal.div A ((448 : ℝ) : EReal)))) * Ideal.div A ((448 : ℝ) : EReal)
      = Ideal.div y (Ideal.div A ((448 : ℝ) : EReal)) * Ideal.div A ((448 : ℝ) : EReal) := by
  have h0 : (0 : EReal) ≤ A := (abs_nonneg y).trans h
  have h448 : ((448 : ℝ) : EReal) ≠ 0 := by norm_num
  have hs : Ideal.div A ((448 : ℝ) : EReal) = A * (((448 : ℝ)⁻¹ : ℝ) : EReal) := by
    unfold Ideal.div; rw [if_neg h448, EReal.coe_inv]
  rw [hs]
  induction A using EReal.rec with
  | bot => exact absurd h0 (by simp)
  | top =>
    rw [EReal.top_mul_coe_of_pos (by norm_num)]
    have : Ideal.div y ⊤ = 0 := by unfold Ideal.div; rw [if_neg (by simp)]; simp
    rw [this]
    have e : min ((448 : ℝ) : EReal) (max ((-448 : ℝ) : EReal) 0) = 0 := by
      rw [max_eq_right (by rw [← EReal.coe_zero]; exact EReal.coe_le_coe_iff.mpr (by norm_num)),
        min_eq_right (by rw [← EReal.coe_zero]; exact EReal.coe_le_coe_iff.mpr (by norm_num))]
    rw [e]
  | coe a =>
    have ha : 0 ≤ a := by exact_mod_cast h0
    rcases ha.eq_or_lt with ha | ha
    · rw [← ha]; simp
    · rw [max_le_iff] at h
      obtain ⟨h1, h2⟩ := h
      induction y using EReal.rec with
      | bot => simp at h2
      | top => simp at h1
      | coe b =>
        have h1 : b ≤ a := by exact_mod_cast h1
        have h2 : -b ≤ a := by exact_mod_cast h2
        rw [← EReal.coe_mul]
        have hne : ((a * (448 : ℝ)⁻¹ : ℝ) : EReal) ≠ 0 := by
          rw [← EReal.coe_zero]; exact fun e => (by positivity : a * (448 : ℝ)⁻¹ ≠ 0) (EReal.coe_eq_coe_iff.mp e)
        have e : Ideal.div (b : EReal) ((a * (448 : ℝ)⁻¹ : ℝ) : EReal) = ((b * (a * (448 : ℝ)⁻¹)⁻¹ : ℝ) : EReal) := by
          unfold Ideal.div; rw [if_neg hne, ← EReal.coe_inv, ← EReal.coe_mul]
        rw [e]
        have e2 : b * (a * (448 : ℝ)⁻¹)⁻¹ = b / a * 448 := by field_simp
        have u : b / a ≤ 1 := (div_le_one ha).mpr h1
        have l : -1 ≤ b / a := by rw [le_div_iff₀ ha]; linarith
        rw [max_eq_right (EReal.coe_le_coe_iff.mpr (by rw [e2]; linarith)), min_eq_right (EReal.coe_le_coe_iff.mpr (by rw [e2]; linarith))]

end Cert.Quant
-- ==== Proof.KernelIdeal.Maxi.lean ====
/-
At the ideal values: the running maximum ends as the largest magnitude of the product.
-/
module

public import proofs.«01_k».proof.Proof.KernelIdeal.Sums
public import proofs.«01_k».proof.Proof.Quant

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open scoped BigOperators

variable (m : (ℓ : Loc nD τ sig) → Buf (Elt Ideal) ℓ) (ρ : Dev nD → PrngReg)

abbrev mag (y : EReal) : EReal := max y (-y)

/-- A slot's magnitudes, the largest of them, and the one element of a vector of one. -/
def slotAbs {F : FTy → Type} [FloatOps F] (v : Vec F S1x2x256x512 .f32) : FVec F S1x2x256x512 .f32 :=
  shapeCast S1x2x256x512 (absf (F := F) (φ := .f32) (shapeCast S2x256x512 v shapeCasts_S1x2x256x512_S2x256x512)) shapeCasts_S2x256x512_S1x2x256x512

def slotMax {F : FTy → Type} [FloatOps F] (v : FVec F S1x2x256x512 .f32) : FVec F S1 .f32 :=
  multiReduction .maximumf [1, 2, 3] S1 v 0xFF800000#32 reduces_S1x2x256x512_S1 (.inl rfl) rfl

def only {F : FTy → Type} [FloatOps F] (u : FVec F S1 .f32) : F .f32 := extractAt ![0, 0, 0, 0] (shapeCast S1x1x1x1 u shapeCasts_S1_S1x1x1x1) inpos_S1x1x1x1_p0_0_0_0

theorem pay10_eq {F : FTy → Type} [FloatOps F] (v : F .f32) (y z : Vec F S1x2x256x512 .f32) :
    k0_pay10 v y z = Scalar.maximumf v (Scalar.maximumf (only (slotMax (slotAbs y))) (only (slotMax (slotAbs z)))) := by
  unfold k0_pay10 only slotMax slotAbs
  rfl

theorem only_eq (u : FVec Ideal S1 .f32) : ∃ j, only u = u j := ⟨_, rfl⟩

theorem slotAbs_at (v : Vec Ideal S1x2x256x512 .f32) (i : S1x2x256x512.Idx) : (slotAbs v i : EReal) = mag (v i) := by
  have h0 : (i 0).val < 1 := (i 0).isLt
  have p : (S2x256x512.rowMajor (ix3 (i 1) (i 2) (i 3))).val = (S1x2x256x512.rowMajor i).val := by
    rw [Shape.rowMajor_val_three, Shape.rowMajor_val_four]
    show ((i 1).val * 256 + (i 2).val) * 512 + (i 3).val = (((i 0).val * 2 + (i 1).val) * 256 + (i 2).val) * 512 + (i 3).val
    omega
  unfold slotAbs
  refine (shapeCast_apply _ _ i (ix3 (i 1) (i 2) (i 3)) p).trans ?_
  exact congrArg mag (shapeCast_apply v _ (ix3 (i 1) (i 2) (i 3)) i p.symm)

theorem unit_S1 : ∀ b, S1.size b = 1 := by decide

theorem slotMax_le (v : FVec Ideal S1x2x256x512 .f32) (j : S1.Idx) (b : EReal) : (slotMax v j : EReal) ≤ b ↔ ∀ i, (v i : EReal) ≤ b :=
  Cert.Quant.multi_le v reduces_S1x2x256x512_S1 unit_S1 (.inl rfl) rfl j b

theorem max_eq (x y : Ideal .f32) : (Scalar.maximumf x y : EReal) = max (x : EReal) (y : EReal) := rfl

theorem pay10_le (v : EReal) (y z : Vec Ideal S1x2x256x512 .f32) (b : EReal) :
    (k0_pay10 (F := Ideal) v y z : EReal) ≤ b ↔ v ≤ b ∧ (∀ i, mag (y i) ≤ b) ∧ ∀ i, mag (z i) ≤ b := by
  have hy : (only (slotMax (slotAbs y)) : EReal) ≤ b ↔ ∀ i, mag (y i) ≤ b := by
    obtain ⟨j, hj⟩ := only_eq (slotMax (slotAbs y))
    rw [hj]
    exact (slotMax_le (slotAbs y) j b).trans (forall_congr' fun i => by rw [slotAbs_at])
  have hz : (only (slotMax (slotAbs z)) : EReal) ≤ b ↔ ∀ i, mag (z i) ≤ b := by
    obtain ⟨j, hj⟩ := only_eq (slotMax (slotAbs z))
    rw [hj]
    exact (slotMax_le (slotAbs z) j b).trans (forall_congr' fun i => by rw [slotAbs_at])
  have e := pay10_eq (F := Ideal) v y z
  rw [max_eq, max_eq] at e
  have e' : (k0_pay10 (F := Ideal) v y z : EReal) ≤ b ↔ max v (max (only (slotMax (slotAbs y)) : EReal) (only (slotMax (slotAbs z)))) ≤ b := by rw [e]
  exact e'.trans (max_le_iff.trans (and_congr Iff.rfl (max_le_iff.trans (and_congr hy hz))))

/-- Entries of a chunk of a channel. -/
def ent (ch : Fin 4) (q : Fin 16) (a : Fin 256) (b : Fin 512) : S4096x2048.Idx :=
  ix2 (⟨256 * q.val + a.val, by omega⟩ : Fin 4096) (⟨512 * ch.val + b.val, by omega⟩ : Fin 2048)

theorem sv_at (ch : Fin 4) (c : Dev nD) (g : ℕ) (hg : 15 ≤ g) (a : Fin 256) (b : Fin 512) :
    (sv m ρ ch c g (ix4 0 0 a b) : EReal) = prodAt m (ent ch (chunk ch c g) a b) := by
  unfold sv
  rw [Nat.min_eq_right hg]
  exact acc_fin m ρ ch (chunk ch c g) a b

theorem glue_le (y z : Vec Ideal S1x1x256x512 .f32) (b : EReal) :
    (∀ i, mag (glue2 y z i) ≤ b) ↔ (∀ a c, mag (y (ix4 0 0 a c)) ≤ b) ∧ ∀ a c, mag (z (ix4 0 0 a c)) ≤ b := by
  constructor
  · intro h
    exact ⟨fun a c => h (ix4 0 0 a c), fun a c => h (ix4 0 1 a c)⟩
  · intro h i
    unfold glue2
    by_cases e : (i 1).val = 0
    · rw [if_pos e]; exact h.1 _ _
    · rw [if_neg e]; exact h.2 _ _

theorem am_le (c : Dev nD) (n : ℕ) (b : EReal) :
    (am m ρ c n : EReal) ≤ b ↔ 0 ≤ b ∧ ∀ g, 14 ≤ g → g < n → ∀ ch x y, mag (prodAt m (ent ch (chunk ch c (g + 1)) x y)) ≤ b := by
  induction n with
  | zero =>
    have e : (am m ρ c 0 : EReal) = 0 := Ideal.ofBits_zero_f32
    rw [e]
    exact ⟨fun h => ⟨h, fun g _ hg => absurd hg (Nat.not_lt_zero g)⟩, fun h => h.1⟩
  | succ n ih =>
    unfold am
    by_cases hn : 14 ≤ n
    · rw [if_pos hn, pay10_le, glue_le, glue_le, ih]
      constructor
      · rintro ⟨⟨h0, h⟩, ⟨a0, a1⟩, a2, a3⟩
        refine ⟨h0, fun g hg hgn ch x y => ?_⟩
        rcases Nat.lt_succ_iff_lt_or_eq.mp hgn with hl | rfl
        · exact h g hg hl ch x y
        · rw [← sv_at m ρ ch c (g + 1) (by omega) x y]
          match ch with
          | 0 => exact a0 x y
          | 1 => exact a1 x y
          | 2 => exact a2 x y
          | 3 => exact a3 x y
      · rintro ⟨h0, h⟩
        have k : ∀ ch x y, mag (sv m ρ ch c (n + 1) (ix4 0 0 x y)) ≤ b := fun ch x y => by
          rw [sv_at m ρ ch c (n + 1) (by omega) x y]; exact h n hn (Nat.lt_succ_self n) ch x y
        exact ⟨⟨h0, fun g hg hl => h g hg (by omega)⟩, ⟨k 0, k 1⟩, k 2, k 3⟩
    · rw [if_neg hn, ih]
      refine and_congr Iff.rfl ⟨fun h g hg hl => ?_, fun h g hg hl => h g hg (by omega)⟩
      omega

/-- Every device ends with the same maximum: the least bound of the magnitudes of the product's entries. -/
theorem am_fin (c : Dev nD) (b : EReal) : (am m ρ c 30 : EReal) ≤ b ↔ ∀ i, mag (prodAt m i) ≤ b := by
  rw [am_le]
  constructor
  · rintro ⟨h0, h⟩ i
    have hi0 : (i 0).val < 4096 := (i 0).isLt
    have hi1 : (i 1).val < 2048 := (i 1).isLt
    obtain ⟨g, hg, hg', hq⟩ := chunk_surj (⟨(i 1).val / 512, by omega⟩ : Fin 4) c (⟨(i 0).val / 256, by omega⟩ : Fin 16)
    have k := h g hg hg' (⟨(i 1).val / 512, by omega⟩ : Fin 4) (⟨(i 0).val % 256, Nat.mod_lt _ (by decide)⟩ : Fin 256) (⟨(i 1).val % 512, Nat.mod_lt _ (by decide)⟩ : Fin 512)
    rw [hq] at k
    have e : ent (⟨(i 1).val / 512, by omega⟩ : Fin 4) (⟨(i 0).val / 256, by omega⟩ : Fin 16) (⟨(i 0).val % 256, Nat.mod_lt _ (by decide)⟩ : Fin 256) (⟨(i 1).val % 512, Nat.mod_lt _ (by decide)⟩ : Fin 512) = i := by
      funext a
      refine Fin.ext ?_
      match a with
      | ⟨0, _⟩ => show 256 * ((i 0).val / 256) + (i 0).val % 256 = (i 0).val; omega
      | ⟨1, _⟩ => show 512 * ((i 1).val / 512) + (i 1).val % 512 = (i 1).val; omega
    rwa [e] at k
  · intro h
    exact ⟨(Cert.Quant.abs_nonneg _).trans (h (ent 0 0 0 0)), fun g _ _ ch x y => h _⟩

end Cert.KernelIdeal.Ring

end
-- ==== Proof.KernelIdeal.Value.lean ====
/-
What the kernel's result array holds, at the ideal values.
-/
module

public import proofs.«01_k».proof.Proof.KernelIdeal.Run
public import proofs.«01_k».proof.Proof.KernelIdeal.Maxi
public import Idealize.ShloMosaic.Lib.Pipeline.Value

@[expose] public section

set_option maxRecDepth 8000

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

open scoped BigOperators

section Generic

variable {F : FTy → Type} [FloatOps F]
variable (m : (ℓ : Loc nD τ sig) → Buf (Elt F) ℓ) (ρ : Dev nD → PrngReg)

/-- The result array ends as the body left its staging buffer: the window's one block is the whole array. -/
theorem finalA_at (c : Dev nD) (i : S4096x2048.Idx) : finalA m ρ c (2 : Fin 3) i = Zfin m ρ c i := by
  have h := congrFun ((dats m ρ 0 c).read_blk_arrAt_eq_flushed (2 : Fin 3) (fun t t' _ _ hne => absurd ((fin_N t).trans (fin_N t').symm) hne) cfg0.N t₀ t₀.isLt rfl) i
  have e : (win0_2.blk (0 : Fin 1)).view.emb i = i := by
    funext a
    refine Fin.ext ?_
    match a with
    | ⟨0, _⟩ => show 0 * 4096 + 1 * (i 0).val = (i 0).val; omega
    | ⟨1, _⟩ => show 0 * 2048 + 1 * (i 1).val = (i 1).val; omega
  have l : finalA m ρ c (2 : Fin 3) ((win0_2.blk (0 : Fin 1)).view.emb i) = Zfin m ρ c i := h
  rwa [e] at l

end Generic

variable (m : (ℓ : Loc nD τ sig) → Buf (Elt Ideal) ℓ) (ρ : Dev nD → PrngReg)

/-- An entry of it: the product's, over the scale, times the scale. -/
theorem Zfin_at (c : Dev nD) (i : S4096x2048.Idx) :
    (Zfin m ρ c i : EReal) = Ideal.div (prodAt m i) (Ideal.div (am m ρ c 30) ((448 : ℝ) : EReal)) * Ideal.div (am m ρ c 30) ((448 : ℝ) : EReal) := by
  have h : (Zfin m ρ c i : EReal) = Ideal.div (Yfin m ρ i) (Ideal.div (am m ρ c 30) (Ideal.ofBits .f32 0x43E00000#32 : EReal)) * Ideal.div (am m ρ c 30) (Ideal.ofBits .f32 0x43E00000#32 : EReal) := rfl
  rw [h, Yfin_at, Cert.Quant.ofBits_448]

end Cert.KernelIdeal.Ring

end
-- ==== Proof.RefValue.lean ====
/-
What the reference leaves in its result array, at the ideal values: the plain product, its largest
magnitude over 448 as the scale, and each entry divided by the scale, clipped, and multiplied back.
-/
module

public import proofs.«01_k».proof.Proof.Gen.ReferenceIdeal.Value
public import proofs.«01_k».proof.Proof.Quant
public import Idealize.ShloMosaic.Lib.MatmulPlain

@[expose] public section

set_option maxRecDepth 8000

noncomputable section

namespace Cert.ReferenceIdeal.Result

open Cert.ReferenceIdeal Cert.ReferenceIdeal.Gen Idealize.ShloMosaic Idealize.ShloMosaic.TcCoe Idealize.SL.Sem
open Idealize.ShloMosaic.ValueIdx (ix2)
open scoped BigOperators

section Generic

variable {F : FTy → Type} [FloatOps F]
variable (m : (ℓ : Loc nD τ sig) → Buf (Elt F) ℓ)

/-- The product, its largest magnitude, and the scale. -/
def prodV (c : Dev nD) : FVec F S4096x2048 .f32 :=
  Host.dotGeneral (φ₁ := .f32) (φ₂ := .f32) dot_S4096x4096_S4096x2048_S4096x2048_1_0_0_1_n_n none (m ((c : Thread nD τ).loc main_arg0)) (m ((c : Thread nD τ).loc main_arg1))
def maxV (y : FVec F S4096x2048 .f32) : FVec F S_ .f32 :=
  Host.reduce FloatOps.maximumf (Host.absf y) (constant S_ .f32 0xFF800000#32) reducesTo_S4096x2048_S_d0_1 h_S_
def scaleV (y : FVec F S4096x2048 .f32) : FVec F S1x1 .f32 :=
  shapeCast S1x1 (Host.divf (maxV y) (constant S_ .f32 0x43E00000#32)) shapeCasts_S_S1x1

theorem V_prod (c : Dev nD) : V m c main_v0 = prodV m c := by
  show StableHlo.after hostOps0 _ (Proc.devRef .tc main_v0) = _
  after_results
  rfl

theorem V_scale (c : Dev nD) : V m c main_v4 = scaleV (prodV m c) := by
  show StableHlo.after hostOps0 _ (Proc.devRef .tc main_v4) = _
  after_results
  rfl

/-- Each window's one block is its whole array. -/
theorem blk_prod (c : Dev nD) (t : Fin cfg0.N) (i : S4096x2048.Idx) : iblk m c 0 t i = prodV m c i := by
  have e : (win0_0.blk t).view.emb i = i := by
    funext a
    refine Fin.ext ?_
    match a with
    | ⟨0, _⟩ => show 0 * 4096 + 1 * (i 0).val = (i 0).val; omega
    | ⟨1, _⟩ => show 0 * 2048 + 1 * (i 1).val = (i 1).val; omega
  refine Eq.trans ?_ (congrFun (V_prod m c) i)
  exact congrArg (V m c main_v0) e

theorem blk_scale (c : Dev nD) (t : Fin cfg0.N) (i : S1x1.Idx) : iblk m c 1 t i = scaleV (prodV m c) i := by
  have e : (win0_1.blk t).view.emb i = i := by
    funext a
    refine Fin.ext ?_
    match a with
    | ⟨0, _⟩ => show 0 * 1 + 1 * (i 0).val = (i 0).val; omega
    | ⟨1, _⟩ => show 0 * 1 + 1 * (i 1).val = (i 1).val; omega
  refine Eq.trans ?_ (congrFun (V_scale m c) i)
  exact congrArg (V m c main_v4) e

theorem out_at (x0 : Vec F S4096x2048 .f32) (x1 : Vec F S1x1 .f32) (i : S4096x2048.Idx) :
    out0_2 x0 x1 i = Value.E2 x0 x1 i := by
  unfold out0_2
  rw [Value.canon2_eq]
  have e0 : View.ld x0 r0_1 = x0 := by
    funext j
    refine congrArg x0 (funext fun a => Fin.ext ?_)
    match a with
    | ⟨0, _⟩ => show 0 + 1 * (j 0).val = (j 0).val; omega
    | ⟨1, _⟩ => show 0 + 1 * (j 1).val = (j 1).val; omega
  have e1 : View.ld x1 r0_0 = x1 := by
    funext j
    refine congrArg x1 (funext fun a => Fin.ext ?_)
    match a with
    | ⟨0, _⟩ => show 0 + 1 * (j 0).val = (j 0).val; omega
    | ⟨1, _⟩ => show 0 + 1 * (j 1).val = (j 1).val; omega
  rw [e0, e1]

theorem final_at (c : Dev nD) (i : S4096x2048.Idx) :
    (dats m 0 c).arrAt 2 cfg0.N i = Value.E2 (prodV m c) (scaleV (prodV m c)) i := by
  have h := congrFun ((Value.blocks2 m c (0 : Fin 1) (by decide)).trans (Value.flushed2 m c (0 : Fin 1))) i
  have e : (win0_2.blk (0 : Fin 1)).view.emb i = i := by
    funext a
    refine Fin.ext ?_
    match a with
    | ⟨0, _⟩ => show 0 * 4096 + 1 * (i 0).val = (i 0).val; omega
    | ⟨1, _⟩ => show 0 * 2048 + 1 * (i 1).val = (i 1).val; omega
  have l : (dats m 0 c).arrAt 2 cfg0.N ((win0_2.blk (0 : Fin 1)).view.emb i) = out0_2 (iblk m c 0 (0 : Fin 1)) (iblk m c 1 (0 : Fin 1)) i := h
  rw [e] at l
  have p0 : (iblk m c 0 (0 : Fin 1) : Vec F S4096x2048 .f32) = prodV m c := funext fun j => blk_prod m c (0 : Fin 1) j
  have p1 : (iblk m c 1 (0 : Fin 1) : Vec F S1x1 .f32) = scaleV (prodV m c) := funext fun j => blk_scale m c (0 : Fin 1) j
  rw [l, out_at, p0, p1]

end Generic

/-! ## At the ideal values -/

variable (m : (ℓ : Loc nD τ sig) → Buf (Elt Ideal) ℓ)

def X (c : Dev nD) : S4096x4096.Idx → EReal := m ((c : Thread nD τ).loc main_arg0)
def W (c : Dev nD) : S4096x2048.Idx → EReal := m ((c : Thread nD τ).loc main_arg1)

theorem prod_at (c : Dev nD) (a : Fin 4096) (b : Fin 2048) :
    (prodV m c (ix2 a b) : EReal) = ∑ K : Fin 4096, X m c (ix2 a K) * W m c (ix2 K b) := by
  have h := Ideal.matmul_plain_apply (M := 4096) (K := 4096) (N := 2048) (φ₁ := .f32) (φ₂ := .f32) none
    (X m c) (W m c) (fun _ => (0 : EReal)) a b
  rw [Ideal.matmul_apply, zero_add, zero_add] at h
  refine Eq.trans ?_ h
  unfold prodV
  exact Ideal.dotGeneral_apply _ none _ _ _ _

/-- The largest magnitude. -/
def top (y : FVec Ideal S4096x2048 .f32) : EReal := maxV y (fun a => a.elim0)

theorem init_bot (k : S_.Idx) : (constant (F := Ideal) S_ .f32 0xFF800000#32 k : EReal) = ⊥ := Cert.Quant.ofBits_bot

theorem unit_S : ∀ b, S_.size b = 1 := fun b => b.elim0

theorem max_le (y : FVec Ideal S4096x2048 .f32) (j : S_.Idx) (b : EReal) : (maxV y j : EReal) ≤ b ↔ ∀ i, (Host.absf (F := Ideal) (φ := .f32) y i : EReal) ≤ b := by
  unfold maxV
  exact Cert.Quant.host_le (Host.absf (F := Ideal) (φ := .f32) y) (constant (F := Ideal) S_ .f32 0xFF800000#32) reducesTo_S4096x2048_S_d0_1 unit_S h_S_ init_bot j b

theorem top_le (y : FVec Ideal S4096x2048 .f32) (b : EReal) : top y ≤ b ↔ ∀ i, max (y i : EReal) (-(y i : EReal)) ≤ b := by
  unfold top
  exact (max_le y _ b).trans (forall_congr' fun i => Iff.rfl)

theorem scale_at (y : FVec Ideal S4096x2048 .f32) (k : S1x1.Idx) : (scaleV y k : EReal) = Ideal.div (top y) ((448 : ℝ) : EReal) := by
  have e : ∃ j, (scaleV y k : EReal) = Ideal.div (maxV y j) (constant (F := Ideal) S_ .f32 0x43E00000#32 j) := ⟨_, rfl⟩
  obtain ⟨j, hj⟩ := e
  have u : j = fun a => a.elim0 := funext fun a => a.elim0
  rw [hj, u]
  exact congrArg (Ideal.div (top y)) Cert.Quant.ofBits_448

theorem quant_at (y : FVec Ideal S4096x2048 .f32) (i : S4096x2048.Idx) :
    (Value.E2 y (scaleV y) i : EReal) = Ideal.div (y i) (Ideal.div (top y) ((448 : ℝ) : EReal)) * Ideal.div (top y) ((448 : ℝ) : EReal) := by
  have e : Value.ix2_0 i = i := by
    funext a
    match a with
    | ⟨0, _⟩ => rfl
    | ⟨1, _⟩ => rfl
  have h : (Value.E2 y (scaleV y) i : EReal) = min (Ideal.ofBits .f32 0x43E00000#32 : EReal) (max (Ideal.ofBits .f32 0xC3E00000#32 : EReal)
      (Ideal.div (y (Value.ix2_0 i)) (scaleV y (Value.ix2_1 i)))) * (scaleV y (Value.ix2_2 i) : EReal) := rfl
  rw [h, scale_at, e, Cert.Quant.ofBits_448, Cert.Quant.ofBits_neg448]
  exact Cert.Quant.clip_mul _ _ ((top_le y (top y)).mp le_rfl i)

end Cert.ReferenceIdeal.Result

end
-- ==== Proof.Algebra.lean ====
/-
The kernel's result and the reference's are equal at the ideal values, entry by entry.
-/
module

public import proofs.«01_k».proof.Defs
public import proofs.«01_k».proof.Proof.KernelIdeal.Value
public import proofs.«01_k».proof.Proof.RefValue
public import proofs.«01_k».proof.Proof.Gen.ReferenceIdeal

@[expose] public section

set_option maxRecDepth 8000

noncomputable section

namespace Cert.Proof

open Idealize.ShloMosaic Idealize.ShloMosaic.TcCoe Idealize.SL.Sem
open scoped BigOperators

section

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- The devices hold their blocks of the reference's arguments. -/
def Blocks : Prop := ∀ c : Dev KernelIdeal.nD,
  KernelIdeal.Ring.xB m c = Layout.block ⟨2, ![4096, 256]⟩ ⟨2, ![4096, 4096]⟩ 1 16 c (ReferenceIdeal.Result.X m' 0)
  ∧ KernelIdeal.Ring.wB m c = Layout.block ⟨2, ![256, 2048]⟩ ⟨2, ![4096, 2048]⟩ 0 16 c (ReferenceIdeal.Result.W m' 0)

/-- Entry `K` of a row of the first argument times entry `K` of a column of the second. -/
def tm (a : Fin 4096) (b : Fin 2048) (K : ℕ) : EReal :=
  if h : K < 4096 then ReferenceIdeal.Result.X m' 0 (ValueIdx.ix2 a ⟨K, h⟩) * ReferenceIdeal.Result.W m' 0 (ValueIdx.ix2 ⟨K, h⟩ b) else 0

variable {m m'} (hb : Blocks m m')
include hb

theorem term_eq (c : Fin 16) (a : Fin 4096) (b : Fin 2048) :
    KernelIdeal.Ring.term m c a b = ∑ k : Fin 256, tm m' a b (256 * c.val + k.val) := by
  refine Finset.sum_congr rfl fun k _ => ?_
  have hk : 256 * c.val + k.val < 4096 := by omega
  unfold tm
  rw [dif_pos hk, (hb c).1, (hb c).2, Layout.block_apply, Layout.block_apply]
  refine congrArg₂ (fun x y : EReal => x * y) (congrArg (ReferenceIdeal.Result.X m' 0) (funext fun d => Fin.ext ?_)) (congrArg (ReferenceIdeal.Result.W m' 0) (funext fun d => Fin.ext ?_))
  · match d with
    | ⟨0, _⟩ => rfl
    | ⟨1, _⟩ => show c.val * 256 + k.val = 256 * c.val + k.val; omega
  · match d with
    | ⟨0, _⟩ => show c.val * 256 + k.val = 256 * c.val + k.val; omega
    | ⟨1, _⟩ => rfl

theorem prod_eq (i : KernelIdeal.S4096x2048.Idx) : KernelIdeal.Ring.prodAt m i = (ReferenceIdeal.Result.prodV m' 0 i : EReal) := by
  have e : i = ValueIdx.ix2 (i 0) (i 1) := by
    funext a
    match a with
    | ⟨0, _⟩ => rfl
    | ⟨1, _⟩ => rfl
  have h : KernelIdeal.Ring.prodAt m i = ∑ K : Fin 4096, tm m' (i 0) (i 1) K.val := by
    refine Eq.trans ?_ (Cert.Quant.sum_blocks (tm m' (i 0) (i 1)))
    exact Finset.sum_congr rfl fun c _ => term_eq hb c (i 0) (i 1)
  rw [h]
  refine Eq.trans ?_ (congrArg (fun j => (ReferenceIdeal.Result.prodV m' 0 j : EReal)) e).symm
  refine Eq.trans ?_ (ReferenceIdeal.Result.prod_at m' 0 (i 0) (i 1)).symm
  exact Finset.sum_congr rfl fun K _ => by unfold tm; rw [dif_pos K.isLt]

theorem max_eq (c : Dev KernelIdeal.nD) : (KernelIdeal.Ring.am m ρ c 30 : EReal) = ReferenceIdeal.Result.top (ReferenceIdeal.Result.prodV m' 0) := by
  refine eq_of_forall_ge_iff fun b => ?_
  rw [KernelIdeal.Ring.am_fin, ReferenceIdeal.Result.top_le]
  exact forall_congr' fun i => by rw [prod_eq hb i]

theorem out_eq (c : Dev KernelIdeal.nD) (i : KernelIdeal.S4096x2048.Idx) :
    (KernelIdeal.Ring.finalA m ρ c (2 : Fin 3) i : EReal) = (ReferenceIdeal.Gen.dats m' 0 0).arrAt 2 ReferenceIdeal.cfg0.N i := by
  rw [KernelIdeal.Ring.finalA_at, KernelIdeal.Ring.Zfin_at, ReferenceIdeal.Result.final_at, ReferenceIdeal.Result.quant_at, max_eq ρ hb c, prod_eq hb i]

end

theorem algebraic : Cert.algebraic_KernelIdeal_ReferenceIdeal (hKernelIdeal := Cert.KernelIdeal.Gen.facts) (hReferenceIdeal := Cert.ReferenceIdeal.Gen.facts) :=
  fun m g m' g' _ hb => ⟨(ReferenceIdeal.Gen.dats m' 0 0).arrAt 2 ReferenceIdeal.cfg0.N,
    (θ_run _ _ _).mono (fun r h c =>
      ⟨(h.1 c (2 : Fin 3)).trans (funext fun i => out_eq g hb c i), (h.1 c (0 : Fin 3)).trans (Cert.KernelIdeal.Ring.finalA_x m g c), (h.1 c (1 : Fin 3)).trans (Cert.KernelIdeal.Ring.finalA_w m g c)⟩)
      (Cert.KernelIdeal.Ring.run_main (F := Ideal) m g),
    (θ_run _ _ _).mono (fun r h => h 0) (Cert.ReferenceIdeal.Value.run_blocks m' g')⟩

end Cert.Proof

end
-- ==== Proof.lean ====
/- The claims about the kernel and its reference. -/
module

public import proofs.«01_k».proof.Defs
public import proofs.«01_k».proof.Proof.Kernel.Run
public import proofs.«01_k».proof.Proof.KernelIdeal.Run
public import proofs.«01_k».proof.Proof.Algebra
public import proofs.«01_k».proof.Proof.Gen.ReferenceIdeal
public import proofs.«01_k».proof.Proof.Gen.ReferenceIdeal.Value

@[expose] public section

noncomputable section

namespace Cert.Proof

open Idealize.ShloMosaic Idealize.ShloMosaic.TcCoe Idealize.SL.Sem

theorem quiescent_Kernel : Cert.quiescent_Kernel (hKernel := Cert.Kernel.Gen.facts) := fun m g _ =>
  (θ_run _ _ _).mono (fun r h => ⟨fun c =>
      ⟨((h.1 c (0 : Fin 3)).trans (Cert.Kernel.Ring.finalA_x m g c)), ((h.1 c (1 : Fin 3)).trans (Cert.Kernel.Ring.finalA_w m g c))⟩, h.2⟩)
    (Cert.Kernel.Ring.run_main (F := Bits) m g)

theorem quiescent_KernelIdeal : Cert.quiescent_KernelIdeal (hKernelIdeal := Cert.KernelIdeal.Gen.facts) := fun m g _ =>
  (θ_run _ _ _).mono (fun r h => ⟨fun c =>
      ⟨((h.1 c (0 : Fin 3)).trans (Cert.KernelIdeal.Ring.finalA_x m g c)), ((h.1 c (1 : Fin 3)).trans (Cert.KernelIdeal.Ring.finalA_w m g c))⟩, h.2⟩)
    (Cert.KernelIdeal.Ring.run_main (F := Ideal) m g)

theorem quiescent_ReferenceIdeal : Cert.quiescent_ReferenceIdeal (hReferenceIdeal := Cert.ReferenceIdeal.Gen.facts) := fun m g _ =>
  Cert.ReferenceIdeal.Gen.frame (F := Ideal) m g

theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
